-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v151)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3x512x512 : Shape := ⟨4, ![2, 3, 512, 512]⟩
abbrev S64x3x4x4 : Shape := ⟨4, ![64, 3, 4, 4]⟩
abbrev S64 : Shape := ⟨1, ![64]⟩
abbrev S64x64x4x4 : Shape := ⟨4, ![64, 64, 4, 4]⟩
abbrev S512x64 : Shape := ⟨2, ![512, 64]⟩
abbrev S3 : Shape := ⟨1, ![3]⟩
abbrev S_ : Shape := ⟨0, ![]⟩

class Facts : Prop where
  bcast_S_S2x3x512x512 : S_.BroadcastsInDim S2x3x512x512 (![] : Fin 0 → Fin S2x3x512x512.rank)
  reducesTo_S2x3x512x512_S_d0_1_2_3 : S2x3x512x512.ReducesTo [0, 1, 2, 3] S_
  h_S_ : 0 < S_.numel
  bcast_S_S64x3x4x4 : S_.BroadcastsInDim S64x3x4x4 (![] : Fin 0 → Fin S64x3x4x4.rank)
  reducesTo_S64x3x4x4_S_d0_1_2_3 : S64x3x4x4.ReducesTo [0, 1, 2, 3] S_
  bcast_S_S64 : S_.BroadcastsInDim S64 (![] : Fin 0 → Fin S64.rank)
  reducesTo_S64_S_d0 : S64.ReducesTo [0] S_
  bcast_S_S64x64x4x4 : S_.BroadcastsInDim S64x64x4x4 (![] : Fin 0 → Fin S64x64x4x4.rank)
  reducesTo_S64x64x4x4_S_d0_1_2_3 : S64x64x4x4.ReducesTo [0, 1, 2, 3] S_

variable [Facts]

def fn_part1 {F : FTy → Type} [FloatOps F] (main_arg4 : FVec F S64 .f32) (main_v13 : IVec S_ 1) (main_v16 : IVec S64x64x4x4 1) : IVec S_ 1 :=
  let main_c_5 : IVec S_ 1 := constantI S_ 1 1#1
  let main_v17 : IVec S_ 1 := (fun x v => Host.reduce IntOp.andi x v reducesTo_S64x64x4x4_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2x3x512x512 .f32) (main_arg1 : FVec F S64x3x4x4 .f32) (main_arg2 : FVec F S64 .f32) (main_arg3 : FVec F S64x64x4x4 .f32) (main_arg4 : FVec F S64 .f32) (main_arg5 : FVec F S512x64 .f32) (main_arg6 : FVec F S64x64x4x4 .f32) (main_arg7 : FVec F S64 .f32) (main_arg8 : FVec F S64x3x4x4 .f32) (main_arg9 : FVec F S3 .f32) : IVec S_ 1 :=
  let main_v0 : FVec F S2x3x512x512 .f32 := Host.absf main_arg0
  let main_cst : FVec F S_ .f32 := constant S_ .f32 0x7F800000#32
  let main_v1 : FVec F S2x3x512x512 .f32 := broadcastInDim S2x3x512x512 ![] bcast_S_S2x3x512x512 main_cst
  let main_v2 : IVec S2x3x512x512 1 := cmpf .olt main_v0 main_v1
  let main_c : IVec S_ 1 := constantI S_ 1 1#1
  let main_v3 : IVec S_ 1 := (fun x v => Host.reduce IntOp.andi x v reducesTo_S2x3x512x512_S_d0_1_2_3 h_S_) main_v2 main_c
  let main_v4 : FVec F S64x3x4x4 .f32 := Host.absf main_arg1
  let main_cst_0 : FVec F S_ .f32 := constant S_ .f32 0x7F800000#32
  let main_v5 : FVec F S64x3x4x4 .f32 := broadcastInDim S64x3x4x4 ![] bcast_S_S64x3x4x4 main_cst_0
  let main_v6 : IVec S64x3x4x4 1 := cmpf .olt main_v4 main_v5
  let main_c_1 : IVec S_ 1 := constantI S_ 1 1#1
  let main_v7 : IVec S_ 1 := (fun x v => Host.reduce IntOp.andi x v reducesTo_S64x3x4x4_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x4x4 .f32 := Host.absf main_arg3
  let main_cst_4 : FVec F S_ .f32 := constant S_ .f32 0x7F800000#32
  let main_v15 : FVec F S64x64x4x4 .f32 := broadcastInDim S64x64x4x4 ![] bcast_S_S64x64x4x4 main_cst_4
  let main_v16 : IVec S64x64x4x4 1 := cmpf .olt main_v14 main_v15
  fn_part1 (F := F) main_arg4 main_v13 main_v16
-- ==== Kernel.lean ====
abbrev S2x3x512x512 : Shape := ⟨4, ![2, 3, 512, 512]⟩
abbrev S64x3x4x4 : Shape := ⟨4, ![64, 3, 4, 4]⟩
abbrev S64 : Shape := ⟨1, ![64]⟩
abbrev S64x64x4x4 : Shape := ⟨4, ![64, 64, 4, 4]⟩
abbrev S512x64 : Shape := ⟨2, ![512, 64]⟩
abbrev S3 : Shape := ⟨1, ![3]⟩
abbrev S108 : Shape := ⟨1, ![108]⟩
abbrev S_ : Shape := ⟨0, ![]⟩
abbrev S2x3x256x2x256x2 : Shape := ⟨6, ![2, 3, 256, 2, 256, 2]⟩
abbrev S2x256x256x3x2x2 : Shape := ⟨6, ![2, 256, 256, 3, 2, 2]⟩
abbrev S2x256x256x12 : Shape := ⟨4, ![2, 256, 256, 12]⟩
abbrev S2x258x258x12 : Shape := ⟨4, ![2, 258, 258, 12]⟩
abbrev S2x256x256x108 : Shape := ⟨4, ![2, 256, 256, 108]⟩
abbrev S131072x108 : Shape := ⟨2, ![131072, 108]⟩
abbrev S4x4x3x64 : Shape := ⟨4, ![4, 4, 3, 64]⟩
abbrev S48x64 : Shape := ⟨2, ![48, 64]⟩
abbrev S1x64 : Shape := ⟨2, ![1, 64]⟩
abbrev S49x64 : Shape := ⟨2, ![49, 64]⟩
abbrev S108x1 : Shape := ⟨2, ![108, 1]⟩
abbrev S108x64 : Shape := ⟨2, ![108, 64]⟩
abbrev S131072x64 : Shape := ⟨2, ![131072, 64]⟩
abbrev S8192x108 : Shape := ⟨2, ![8192, 108]⟩
abbrev S8192x64 : Shape := ⟨2, ![8192, 64]⟩
abbrev S2x128x2x128x2x64 : Shape := ⟨6, ![2, 128, 2, 128, 2, 64]⟩
abbrev S2x128x128x2x2x64 : Shape := ⟨6, ![2, 128, 128, 2, 2, 64]⟩
abbrev S2x128x128x256 : Shape := ⟨4, ![2, 128, 128, 256]⟩
abbrev S2x132x130x256 : Shape := ⟨4, ![2, 132, 130, 256]⟩
abbrev S2x17160x256 : Shape := ⟨3, ![2, 17160, 256]⟩
abbrev S4x4x64x64 : Shape := ⟨4, ![4, 4, 64, 64]⟩
abbrev S1024x64 : Shape := ⟨2, ![1024, 64]⟩
abbrev S2x16640x64 : Shape := ⟨3, ![2, 16640, 64]⟩
abbrev S1x2080x64 : Shape := ⟨3, ![1, 2080, 64]⟩
abbrev S2344x256 : Shape := ⟨2, ![2344, 256]⟩
abbrev S2080x1024 : Shape := ⟨2, ![2080, 1024]⟩
abbrev S1x2344x256 : Shape := ⟨3, ![1, 2344, 256]⟩
abbrev S2080x64 : Shape := ⟨2, ![2080, 64]⟩
abbrev S33280x64 : Shape := ⟨2, ![33280, 64]⟩
abbrev S512 : Shape := ⟨1, ![512]⟩
abbrev S1x512 : Shape := ⟨2, ![1, 512]⟩
abbrev S16x1x2080 : Shape := ⟨3, ![16, 1, 2080]⟩
abbrev S1x1x2080 : Shape := ⟨3, ![1, 1, 2080]⟩
abbrev S2080x512 : Shape := ⟨2, ![2080, 512]⟩
abbrev S2080 : Shape := ⟨1, ![2080]⟩
abbrev S2080x1 : Shape := ⟨2, ![2080, 1]⟩
abbrev S1 : Shape := ⟨1, ![1]⟩
abbrev S1x1x1 : Shape := ⟨3, ![1, 1, 1]⟩
abbrev S2x128x130 : Shape := ⟨3, ![2, 128, 130]⟩
abbrev S2x128x128 : Shape := ⟨3, ![2, 128, 128]⟩
abbrev S16x1x1 : Shape := ⟨3, ![16, 1, 1]⟩
abbrev S16 : Shape := ⟨1, ![16]⟩
abbrev S2x128x130x64 : Shape := ⟨4, ![2, 128, 130, 64]⟩
abbrev S2x132x130x64 : Shape := ⟨4, ![2, 132, 130, 64]⟩
abbrev S2x17160x64 : Shape := ⟨3, ![2, 17160, 64]⟩
abbrev S64x4x4x64 : Shape := ⟨4, ![64, 4, 4, 64]⟩
abbrev S64x1024 : Shape := ⟨2, ![64, 1024]⟩
abbrev S2x82560x64 : Shape := ⟨3, ![2, 82560, 64]⟩
abbrev S1x17160x64 : Shape := ⟨3, ![1, 17160, 64]⟩
abbrev S1x8256x64 : Shape := ⟨3, ![1, 8256, 64]⟩
abbrev S2472x1024 : Shape := ⟨2, ![2472, 1024]⟩
abbrev S8256x64 : Shape := ⟨2, ![8256, 64]⟩
abbrev S1x2472x64 : Shape := ⟨3, ![1, 2472, 64]⟩
abbrev S2472x64 : Shape := ⟨2, ![2472, 64]⟩
abbrev S2080x256 : Shape := ⟨2, ![2080, 256]⟩
abbrev S16x130x2x2x64 : Shape := ⟨5, ![16, 130, 2, 2, 64]⟩
abbrev S16x128x2x2x64 : Shape := ⟨5, ![16, 128, 2, 2, 64]⟩
abbrev S16x2x128x2x64 : Shape := ⟨5, ![16, 2, 128, 2, 64]⟩
abbrev S32x256x64 : Shape := ⟨3, ![32, 256, 64]⟩
abbrev S32x1x64 : Shape := ⟨3, ![32, 1, 64]⟩
abbrev S32x257x64 : Shape := ⟨3, ![32, 257, 64]⟩
abbrev S32x258x64 : Shape := ⟨3, ![32, 258, 64]⟩
abbrev S64x3x1x1 : Shape := ⟨4, ![64, 3, 1, 1]⟩
abbrev S64x3 : Shape := ⟨2, ![64, 3]⟩
abbrev S64x8 : Shape := ⟨2, ![64, 8]⟩
abbrev S64x32 : Shape := ⟨2, ![64, 32]⟩
abbrev S576x32 : Shape := ⟨2, ![576, 32]⟩
abbrev S8 : Shape := ⟨1, ![8]⟩
abbrev S1x8 : Shape := ⟨2, ![1, 8]⟩
abbrev S4x8 : Shape := ⟨2, ![4, 8]⟩
abbrev S32 : Shape := ⟨1, ![32]⟩
abbrev S1x32 : Shape := ⟨2, ![1, 32]⟩
abbrev S1x3x32x512 : Shape := ⟨4, ![1, 3, 32, 512]⟩
abbrev S4656x64 : Shape := ⟨2, ![4656, 64]⟩
abbrev S4128x576 : Shape := ⟨2, ![4128, 576]⟩
abbrev S1x4656x64 : Shape := ⟨3, ![1, 4656, 64]⟩
abbrev S4128x64 : Shape := ⟨2, ![4128, 64]⟩
abbrev S4128x32 : Shape := ⟨2, ![4128, 32]⟩
abbrev S16x258x2x2x8 : Shape := ⟨5, ![16, 258, 2, 2, 8]⟩
abbrev S16x256x2x2x3 : Shape := ⟨5, ![16, 256, 2, 2, 3]⟩
abbrev S3x16x2x256x2 : Shape := ⟨5, ![3, 16, 2, 256, 2]⟩
abbrev S3x32x512 : Shape := ⟨3, ![3, 32, 512]⟩

abbrev nBuf : Space → Nat
  | .hbm => 236
  | .vmem => 35
  | .smem => 0
  | _ => 0

abbrev hbmTy0_0 (i : Nat) : BufTy := match i % 128 with
  | 0 => ⟨S2x3x512x512, .f32⟩
  | 1 => ⟨S64x3x4x4, .f32⟩
  | 2 => ⟨S64, .f32⟩
  | 3 => ⟨S64x64x4x4, .f32⟩
  | 4 => ⟨S64, .f32⟩
  | 5 => ⟨S512x64, .f32⟩
  | 6 => ⟨S64x64x4x4, .f32⟩
  | 7 => ⟨S64, .f32⟩
  | 8 => ⟨S64x3x4x4, .f32⟩
  | 9 => ⟨S3, .f32⟩
  | 10 => ⟨S108, .i32⟩
  | 11 => ⟨S_, .f32⟩
  | 12 => ⟨S_, .f32⟩
  | 13 => ⟨S_, .f32⟩
  | 14 => ⟨S_, .i1⟩
  | 15 => ⟨S_, .f32⟩
  | 16 => ⟨S2x3x512x512, .f32⟩
  | 17 => ⟨S2x3x512x512, .f32⟩
  | 18 => ⟨S_, .f32⟩
  | 19 => ⟨S2x3x512x512, .f32⟩
  | 20 => ⟨S2x3x512x512, .f32⟩
  | 21 => ⟨S2x3x512x512, .f32⟩
  | 22 => ⟨S2x3x256x2x256x2, .f32⟩
  | 23 => ⟨S2x256x256x3x2x2, .f32⟩
  | 24 => ⟨S2x256x256x12, .f32⟩
  | 25 => ⟨S_, .i32⟩
  | 26 => ⟨S_, .f32⟩
  | 27 => ⟨S2x258x258x12, .f32⟩
  | 28 => ⟨S2x258x258x12, .bf16⟩
  | 29 => ⟨S2x256x256x12, .bf16⟩
  | 30 => ⟨S2x256x256x12, .bf16⟩
  | 31 => ⟨S2x256x256x12, .bf16⟩
  | 32 => ⟨S2x256x256x12, .bf16⟩
  | 33 => ⟨S2x256x256x12, .bf16⟩
  | 34 => ⟨S2x256x256x12, .bf16⟩
  | 35 => ⟨S2x256x256x12, .bf16⟩
  | 36 => ⟨S2x256x256x12, .bf16⟩
  | 37 => ⟨S2x256x256x12, .bf16⟩
  | 38 => ⟨S2x256x256x108, .bf16⟩
  | 39 => ⟨S131072x108, .bf16⟩
  | 40 => ⟨S4x4x3x64, .f32⟩
  | 41 => ⟨S48x64, .f32⟩
  | 42 => ⟨S_, .f32⟩
  | 43 => ⟨S1x64, .f32⟩
  | 44 => ⟨S49x64, .f32⟩
  | 45 => ⟨S_, .i32⟩
  | 46 => ⟨S108, .i32⟩
  | 47 => ⟨S108, .i1⟩
  | 48 => ⟨S_, .i32⟩
  | 49 => ⟨S108, .i32⟩
  | 50 => ⟨S108, .i32⟩
  | 51 => ⟨S108, .i32⟩
  | 52 => ⟨S108x1, .i32⟩
  | 53 => ⟨S108x64, .f32⟩
  | 54 => ⟨S108x64, .bf16⟩
  | 55 => ⟨S1x64, .f32⟩
  | 56 => ⟨S131072x64, .bf16⟩
  | 57 => ⟨S2x128x2x128x2x64, .bf16⟩
  | 58 => ⟨S2x128x128x2x2x64, .bf16⟩
  | 59 => ⟨S2x128x128x256, .bf16⟩
  | 60 => ⟨S_, .i32⟩
  | 61 => ⟨S_, .bf16⟩
  | 62 => ⟨S2x132x130x256, .bf16⟩
  | 63 => ⟨S2x17160x256, .bf16⟩
  | 64 => ⟨S4x4x64x64, .f32⟩
  | 65 => ⟨S1024x64, .f32⟩
  | 66 => ⟨S1024x64, .bf16⟩
  | 67 => ⟨S1x64, .f32⟩
  | 68 => ⟨S2x16640x64, .f32⟩
  | 69 => ⟨S33280x64, .f32⟩
  | 70 => ⟨S512x64, .f32⟩
  | 71 => ⟨S_, .f32⟩
  | 72 => ⟨S512, .f32⟩
  | 73 => ⟨S1x512, .f32⟩
  | 74 => ⟨S33280x64, .bf16⟩
  | 75 => ⟨S16x1x2080, .i32⟩
  | 76 => ⟨S16x1x2080, .f32⟩
  | 77 => ⟨S2x128x130, .i32⟩
  | 78 => ⟨S2x128x128, .i32⟩
  | 79 => ⟨S16x1x1, .f32⟩
  | 80 => ⟨S16, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S2x128x130x64, .bf16⟩
  | 88 => ⟨S_, .i32⟩
  | 89 => ⟨S_, .bf16⟩
  | 90 => ⟨S2x132x130x64, .bf16⟩
  | 91 => ⟨S2x17160x64, .bf16⟩
  | 92 => ⟨S64x4x4x64, .f32⟩
  | 93 => ⟨S64x1024, .f32⟩
  | 94 => ⟨S64x1024, .bf16⟩
  | 95 => ⟨S1x64, .f32⟩
  | 96 => ⟨S2x82560x64, .bf16⟩
  | 97 => ⟨S64x3x1x1, .f32⟩
  | 98 => ⟨S64x3, .f32⟩
  | 99 => ⟨S_, .i32⟩
  | 100 => ⟨S_, .f32⟩
  | 101 => ⟨S64x8, .f32⟩
  | 102 => ⟨S_, .f32⟩
  | 103 => ⟨S64x8, .f32⟩
  | 104 => ⟨S_, .f32⟩
  | 105 => ⟨S64x8, .f32⟩
  | 106 => ⟨S_, .f32⟩
  | 107 => ⟨S64x8, .f32⟩
  | 108 => ⟨S64x3x1x1, .f32⟩
  | 109 => ⟨S64x3, .f32⟩
  | 110 => ⟨S_, .i32⟩
  | 111 => ⟨S_, .f32⟩
  | 112 => ⟨S64x8, .f32⟩
  | 113 => ⟨S64x3x1x1, .f32⟩
  | 114 => ⟨S64x3, .f32⟩
  | 115 => ⟨S_, .i32⟩
  | 116 => ⟨S_, .f32⟩
  | 117 => ⟨S64x8, .f32⟩
  | 118 => ⟨S_, .f32⟩
  | 119 => ⟨S64x8, .f32⟩
  | 120 => ⟨S_, .f32⟩
  | 121 => ⟨S64x8, .f32⟩
  | 122 => ⟨S_, .f32⟩
  | 123 => ⟨S64x8, .f32⟩
  | 124 => ⟨S64x3x1x1, .f32⟩
  | 125 => ⟨S64x3, .f32⟩
  | 126 => ⟨S_, .i32⟩
  | 127 => ⟨S_, .f32⟩
  | _ => ⟨S2x3x512x512, .f32⟩

abbrev hbmTy0_1 (i : Nat) : BufTy := match i % 128 with
  | 0 => ⟨S64x8, .f32⟩
  | 1 => ⟨S_, .f32⟩
  | 2 => ⟨S64x8, .f32⟩
  | 3 => ⟨S_, .f32⟩
  | 4 => ⟨S64x8, .f32⟩
  | 5 => ⟨S64x3x1x1, .f32⟩
  | 6 => ⟨S64x3, .f32⟩
  | 7 => ⟨S_, .i32⟩
  | 8 => ⟨S_, .f32⟩
  | 9 => ⟨S64x8, .f32⟩
  | 10 => ⟨S_, .f32⟩
  | 11 => ⟨S64x8, .f32⟩
  | 12 => ⟨S64x3x1x1, .f32⟩
  | 13 => ⟨S64x3, .f32⟩
  | 14 => ⟨S_, .i32⟩
  | 15 => ⟨S_, .f32⟩
  | 16 => ⟨S64x8, .f32⟩
  | 17 => ⟨S_, .f32⟩
  | 18 => ⟨S64x8, .f32⟩
  | 19 => ⟨S64x3x1x1, .f32⟩
  | 20 => ⟨S64x3, .f32⟩
  | 21 => ⟨S_, .i32⟩
  | 22 => ⟨S_, .f32⟩
  | 23 => ⟨S64x8, .f32⟩
  | 24 => ⟨S64x3x1x1, .f32⟩
  | 25 => ⟨S64x3, .f32⟩
  | 26 => ⟨S_, .i32⟩
  | 27 => ⟨S_, .f32⟩
  | 28 => ⟨S64x8, .f32⟩
  | 29 => ⟨S64x3x1x1, .f32⟩
  | 30 => ⟨S64x3, .f32⟩
  | 31 => ⟨S_, .i32⟩
  | 32 => ⟨S_, .f32⟩
  | 33 => ⟨S64x8, .f32⟩
  | 34 => ⟨S64x3x1x1, .f32⟩
  | 35 => ⟨S64x3, .f32⟩
  | 36 => ⟨S_, .i32⟩
  | 37 => ⟨S_, .f32⟩
  | 38 => ⟨S64x8, .f32⟩
  | 39 => ⟨S_, .f32⟩
  | 40 => ⟨S64x8, .f32⟩
  | 41 => ⟨S64x3x1x1, .f32⟩
  | 42 => ⟨S64x3, .f32⟩
  | 43 => ⟨S_, .i32⟩
  | 44 => ⟨S_, .f32⟩
  | 45 => ⟨S64x8, .f32⟩
  | 46 => ⟨S_, .f32⟩
  | 47 => ⟨S64x8, .f32⟩
  | 48 => ⟨S64x3x1x1, .f32⟩
  | 49 => ⟨S64x3, .f32⟩
  | 50 => ⟨S_, .i32⟩
  | 51 => ⟨S_, .f32⟩
  | 52 => ⟨S64x8, .f32⟩
  | 53 => ⟨S_, .f32⟩
  | 54 => ⟨S64x8, .f32⟩
  | 55 => ⟨S_, .f32⟩
  | 56 => ⟨S64x8, .f32⟩
  | 57 => ⟨S64x3x1x1, .f32⟩
  | 58 => ⟨S64x3, .f32⟩
  | 59 => ⟨S_, .i32⟩
  | 60 => ⟨S_, .f32⟩
  | 61 => ⟨S64x8, .f32⟩
  | 62 => ⟨S_, .f32⟩
  | 63 => ⟨S64x8, .f32⟩
  | 64 => ⟨S_, .f32⟩
  | 65 => ⟨S64x8, .f32⟩
  | 66 => ⟨S_, .f32⟩
  | 67 => ⟨S64x8, .f32⟩
  | 68 => ⟨S64x3x1x1, .f32⟩
  | 69 => ⟨S64x3, .f32⟩
  | 70 => ⟨S_, .i32⟩
  | 71 => ⟨S_, .f32⟩
  | 72 => ⟨S64x8, .f32⟩
  | 73 => ⟨S64x3x1x1, .f32⟩
  | 74 => ⟨S64x3, .f32⟩
  | 75 => ⟨S_, .i32⟩
  | 76 => ⟨S_, .f32⟩
  | 77 => ⟨S64x8, .f32⟩
  | 78 => ⟨S_, .f32⟩
  | 79 => ⟨S64x8, .f32⟩
  | 80 => ⟨S_, .f32⟩
  | 81 => ⟨S64x8, .f32⟩
  | 82 => ⟨S_, .f32⟩
  | 83 => ⟨S64x8, .f32⟩
  | 84 => ⟨S64x3x1x1, .f32⟩
  | 85 => ⟨S64x3, .f32⟩
  | 86 => ⟨S_, .i32⟩
  | 87 => ⟨S_, .f32⟩
  | 88 => ⟨S64x8, .f32⟩
  | 89 => ⟨S64x32, .f32⟩
  | 90 => ⟨S64x32, .f32⟩
  | 91 => ⟨S64x32, .f32⟩
  | 92 => ⟨S64x32, .f32⟩
  | 93 => ⟨S64x32, .f32⟩
  | 94 => ⟨S64x32, .f32⟩
  | 95 => ⟨S64x32, .f32⟩
  | 96 => ⟨S64x32, .f32⟩
  | 97 => ⟨S64x32, .f32⟩
  | 98 => ⟨S576x32, .f32⟩
  | 99 => ⟨S576x32, .bf16⟩
  | 100 => ⟨S_, .i32⟩
  | 101 => ⟨S_, .f32⟩
  | 102 => ⟨S8, .f32⟩
  | 103 => ⟨S1x8, .f32⟩
  | 104 => ⟨S4x8, .f32⟩
  | 105 => ⟨S32, .f32⟩
  | 106 => ⟨S1x32, .f32⟩
  | 107 => ⟨S2x3x512x512, .f32⟩
  | _ => ⟨S2x3x512x512, .f32⟩

abbrev hbmTy (i : Nat) : BufTy := match i / 128 with
  | 0 => hbmTy0_0 i
  | 1 => hbmTy0_1 i
  | _ => ⟨S2x3x512x512, .f32⟩

abbrev bufTy : (tb : Table) → Fin (tcTables nBuf tb) → BufTy
  | .hbm, ⟨i, _⟩ => hbmTy i
  | .local _ .vmem, ⟨0, _⟩ => ⟨S8192x108, .bf16⟩
  | .local _ .vmem, ⟨1, _⟩ => ⟨S8192x108, .bf16⟩
  | .local _ .vmem, ⟨2, _⟩ => ⟨S108x64, .bf16⟩
  | .local _ .vmem, ⟨3, _⟩ => ⟨S1x64, .f32⟩
  | .local _ .vmem, ⟨4, _⟩ => ⟨S8192x64, .bf16⟩
  | .local _ .vmem, ⟨5, _⟩ => ⟨S8192x64, .bf16⟩
  | .local _ .vmem, ⟨6, _⟩ => ⟨S1024x64, .bf16⟩
  | .local _ .vmem, ⟨7, _⟩ => ⟨S1x64, .f32⟩
  | .local _ .vmem, ⟨8, _⟩ => ⟨S1x2080x64, .f32⟩
  | .local _ .vmem, ⟨9, _⟩ => ⟨S1x2080x64, .f32⟩
  | .local _ .vmem, ⟨10, _⟩ => ⟨S2344x256, .bf16⟩
  | .local _ .vmem, ⟨11, _⟩ => ⟨S2080x1024, .bf16⟩
  | .local _ .vmem, ⟨12, _⟩ => ⟨S2080x64, .f32⟩
  | .local _ .vmem, ⟨13, _⟩ => ⟨S2080x64, .f32⟩
  | .local _ .vmem, ⟨14, _⟩ => ⟨S512x64, .f32⟩
  | .local _ .vmem, ⟨15, _⟩ => ⟨S1x512, .f32⟩
  | .local _ .vmem, ⟨16, _⟩ => ⟨S2080x64, .bf16⟩
  | .local _ .vmem, ⟨17, _⟩ => ⟨S2080x64, .bf16⟩
  | .local _ .vmem, ⟨18, _⟩ => ⟨S1x1x2080, .i32⟩
  | .local _ .vmem, ⟨19, _⟩ => ⟨S1x1x2080, .i32⟩
  | .local _ .vmem, ⟨20, _⟩ => ⟨S1x1x2080, .f32⟩
  | .local _ .vmem, ⟨21, _⟩ => ⟨S1x1x2080, .f32⟩
  | .local _ .vmem, ⟨22, _⟩ => ⟨S1x17160x64, .bf16⟩
  | .local _ .vmem, ⟨23, _⟩ => ⟨S1x17160x64, .bf16⟩
  | .local _ .vmem, ⟨24, _⟩ => ⟨S64x1024, .bf16⟩
  | .local _ .vmem, ⟨25, _⟩ => ⟨S1x64, .f32⟩
  | .local _ .vmem, ⟨26, _⟩ => ⟨S1x8256x64, .bf16⟩
  | .local _ .vmem, ⟨27, _⟩ => ⟨S1x8256x64, .bf16⟩
  | .local _ .vmem, ⟨28, _⟩ => ⟨S2472x1024, .f32⟩
  | .local _ .vmem, ⟨29, _⟩ => ⟨S576x32, .bf16⟩
  | .local _ .vmem, ⟨30, _⟩ => ⟨S1x32, .f32⟩
  | .local _ .vmem, ⟨31, _⟩ => ⟨S1x3x32x512, .f32⟩
  | .local _ .vmem, ⟨32, _⟩ => ⟨S1x3x32x512, .f32⟩
  | .local _ .vmem, ⟨33, _⟩ => ⟨S4656x64, .bf16⟩
  | .local _ .vmem, ⟨34, _⟩ => ⟨S4128x576, .bf16⟩
  | _, _ => ⟨S2x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51_0 : Ref sig .tc := ⟨.hbm, 74, rfl⟩
abbrev main_v51_1 : Ref sig .tc := ⟨.hbm, 75, rfl⟩
abbrev main_v51_2 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_call4_v0 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_call5_v0 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_18 : Ref sig .tc := ⟨.hbm, 115, rfl⟩
abbrev main_call6_v0 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_cst_21 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_22 : Ref sig .tc := ⟨.hbm, 126, rfl⟩
abbrev main_call7_v0 : Ref sig .tc := ⟨.hbm, 127, rfl⟩
abbrev main_v84 : Ref sig .tc := ⟨.hbm, 128, rfl⟩
abbrev main_cst_23 : Ref sig .tc := ⟨.hbm, 129, rfl⟩
abbrev main_v85 : Ref sig .tc := ⟨.hbm, 130, rfl⟩
abbrev main_cst_24 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_25 : Ref sig .tc := ⟨.hbm, 135, rfl⟩
abbrev main_call8_v0 : Ref sig .tc := ⟨.hbm, 136, rfl⟩
abbrev main_v89 : Ref sig .tc := ⟨.hbm, 137, rfl⟩
abbrev main_cst_26 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_27 : Ref sig .tc := ⟨.hbm, 142, rfl⟩
abbrev main_call9_v0 : Ref sig .tc := ⟨.hbm, 143, rfl⟩
abbrev main_v93 : Ref sig .tc := ⟨.hbm, 144, rfl⟩
abbrev main_cst_28 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_c_29 : Ref sig .tc := ⟨.hbm, 149, rfl⟩
abbrev main_call10_v0 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_30 : Ref sig .tc := ⟨.hbm, 154, rfl⟩
abbrev main_call11_v0 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_31 : Ref sig .tc := ⟨.hbm, 159, rfl⟩
abbrev main_call12_v0 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_c_32 : Ref sig .tc := ⟨.hbm, 164, rfl⟩
abbrev main_call13_v0 : Ref sig .tc := ⟨.hbm, 165, rfl⟩
abbrev main_v106 : Ref sig .tc := ⟨.hbm, 166, rfl⟩
abbrev main_cst_33 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_c_34 : Ref sig .tc := ⟨.hbm, 171, rfl⟩
abbrev main_call14_v0 : Ref sig .tc := ⟨.hbm, 172, rfl⟩
abbrev main_v110 : Ref sig .tc := ⟨.hbm, 173, rfl⟩
abbrev main_cst_35 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_c_36 : Ref sig .tc := ⟨.hbm, 178, rfl⟩
abbrev main_call15_v0 : Ref sig .tc := ⟨.hbm, 179, rfl⟩
abbrev main_v114 : Ref sig .tc := ⟨.hbm, 180, rfl⟩
abbrev main_cst_37 : Ref sig .tc := ⟨.hbm, 181, rfl⟩
abbrev main_v115 : Ref sig .tc := ⟨.hbm, 182, rfl⟩
abbrev main_cst_38 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_c_39 : Ref sig .tc := ⟨.hbm, 187, rfl⟩
abbrev main_call16_v0 : Ref sig .tc := ⟨.hbm, 188, rfl⟩
abbrev main_v119 : Ref sig .tc := ⟨.hbm, 189, rfl⟩
abbrev main_cst_40 : Ref sig .tc := ⟨.hbm, 190, rfl⟩
abbrev main_v120 : Ref sig .tc := ⟨.hbm, 191, rfl⟩
abbrev main_cst_41 : Ref sig .tc := ⟨.hbm, 192, rfl⟩
abbrev main_v121 : Ref sig .tc := ⟨.hbm, 193, rfl⟩
abbrev main_cst_42 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_c_43 : Ref sig .tc := ⟨.hbm, 198, rfl⟩
abbrev main_call17_v0 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_c_44 : Ref sig .tc := ⟨.hbm, 203, rfl⟩
abbrev main_call18_v0 : Ref sig .tc := ⟨.hbm, 204, rfl⟩
abbrev main_v128 : Ref sig .tc := ⟨.hbm, 205, rfl⟩
abbrev main_cst_45 : Ref sig .tc := ⟨.hbm, 206, rfl⟩
abbrev main_v129 : Ref sig .tc := ⟨.hbm, 207, rfl⟩
abbrev main_cst_46 : Ref sig .tc := ⟨.hbm, 208, rfl⟩
abbrev main_v130 : Ref sig .tc := ⟨.hbm, 209, rfl⟩
abbrev main_cst_47 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_c_48 : Ref sig .tc := ⟨.hbm, 214, rfl⟩
abbrev main_call19_v0 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_c_49 : Ref sig .tc := ⟨.hbm, 228, rfl⟩
abbrev main_call20_v0 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc4_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x108 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S108x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def k1_off1 (i : grid1.Coords) : Fin 3 → Nat :=
  let arg0 : BitVec 32 := BitVec.ofNat 32 (i 0).val
  let arg1 : BitVec 32 := BitVec.ofNat 32 (i 1).val
  let c2080_i32 : BitVec 32 := 2080#32
  let v0 : BitVec 32 := Scalar.muli arg1 c2080_i32
  let c0_i32 : BitVec 32 := 0#32
  ![arg0.toNat, v0.toNat, 0]
def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S1024x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2080x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2080x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2080x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x2080 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x2080 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![2, 10], ![false, false]⟩

def k3_cond2 (i : grid3.Coords) : BitVec 1 :=
  let arg1 : BitVec 32 := BitVec.ofNat 32 (i 1).val
  let c1_i32 : BitVec 32 := 1#32
  let v5 : BitVec 1 := Scalar.cmpi .sge arg1 c1_i32
  let c8_i32 : BitVec 32 := 8#32
  let v6 : BitVec 1 := Scalar.cmpi .sle arg1 c8_i32
  let v7 : BitVec 1 := Scalar.andi v5 v6
  let v8 : BitVec 32 := Scalar.extui v7
  let c0_i32_1 : BitVec 32 := 0#32
  let v9 : BitVec 1 := Scalar.cmpi .ne v8 c0_i32_1
  v9

def k3_off1 (i : grid3.Coords) : Fin 3 → Nat :=
  let c0 : Index := 0#32
  let arg1 : BitVec 32 := BitVec.ofNat 32 (i 1).val
  let c1_i32_2 : BitVec 32 := 1#32
  let v10 : BitVec 32 := Scalar.subi arg1 c1_i32_2
  let c2080_i32 : BitVec 32 := 2080#32
  let v11 : BitVec 32 := Scalar.muli v10 c2080_i32
  let v12 : Index := Scalar.indexCast v11
  let c0_3 : Index := 0#32
  ![0, v12.toNat, 0]
def k3_cond1 (i : grid3.Coords) : BitVec 1 :=
  let arg1 : BitVec 32 := BitVec.ofNat 32 (i 1).val
  let c0_i32 : BitVec 32 := 0#32
  let v0 : BitVec 1 := Scalar.cmpi .eq arg1 c0_i32
  let c9_i32 : BitVec 32 := 9#32
  let v1 : BitVec 1 := Scalar.cmpi .eq arg1 c9_i32
  let v2 : BitVec 1 := Scalar.ori v0 v1
  let v3 : BitVec 32 := Scalar.extui v2
  let c0_i32_0 : BitVec 32 := 0#32
  let v4 : BitVec 1 := Scalar.cmpi .ne v3 c0_i32_0
  v4

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x17160x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S64x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x8256x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 16], ![false, false]⟩

def k4_off1 (i : grid4.Coords) : Fin 3 → Nat :=
  let arg0 : BitVec 32 := BitVec.ofNat 32 (i 0).val
  let arg1 : BitVec 32 := BitVec.ofNat 32 (i 1).val
  let c4128_i32 : BitVec 32 := 4128#32
  let v0 : BitVec 32 := Scalar.muli arg1 c4128_i32
  let c7992_i32 : BitVec 32 := 7992#32
  let v1 : BitVec 32 := Scalar.addi v0 c7992_i32
  let c0_i32 : BitVec 32 := 0#32
  ![arg0.toNat, v1.toNat, 0]
def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage4_0 : Fin 1 → Memref sig .tc .vmem S576x32 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x3x32x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== ReferenceIdeal.lean ====
abbrev S2x3x512x512 : Shape := ⟨4, ![2, 3, 512, 512]⟩
abbrev S64x3x4x4 : Shape := ⟨4, ![64, 3, 4, 4]⟩
abbrev S64 : Shape := ⟨1, ![64]⟩
abbrev S64x64x4x4 : Shape := ⟨4, ![64, 64, 4, 4]⟩
abbrev S512x64 : Shape := ⟨2, ![512, 64]⟩
abbrev S3 : Shape := ⟨1, ![3]⟩
abbrev S_ : Shape := ⟨0, ![]⟩
abbrev S2x3x514x514 : Shape := ⟨4, ![2, 3, 514, 514]⟩
abbrev S2x3x256x514 : Shape := ⟨4, ![2, 3, 256, 514]⟩
abbrev S2x3x1x256x514 : Shape := ⟨5, ![2, 3, 1, 256, 514]⟩
abbrev S2x3x4x256x514 : Shape := ⟨5, ![2, 3, 4, 256, 514]⟩
abbrev S2x3x4x256x256 : Shape := ⟨5, ![2, 3, 4, 256, 256]⟩
abbrev S2x3x4x1x256x256 : Shape := ⟨6, ![2, 3, 4, 1, 256, 256]⟩
abbrev S2x3x4x4x256x256 : Shape := ⟨6, ![2, 3, 4, 4, 256, 256]⟩
abbrev S64x2x256x256 : Shape := ⟨4, ![64, 2, 256, 256]⟩
abbrev S2x64x256x256 : Shape := ⟨4, ![2, 64, 256, 256]⟩
abbrev S1x64x1x1 : Shape := ⟨4, ![1, 64, 1, 1]⟩
abbrev S2x64x258x258 : Shape := ⟨4, ![2, 64, 258, 258]⟩
abbrev S2x64x128x258 : Shape := ⟨4, ![2, 64, 128, 258]⟩
abbrev S2x64x1x128x258 : Shape := ⟨5, ![2, 64, 1, 128, 258]⟩
abbrev S2x64x4x128x258 : Shape := ⟨5, ![2, 64, 4, 128, 258]⟩
abbrev S2x64x4x128x128 : Shape := ⟨5, ![2, 64, 4, 128, 128]⟩
abbrev S2x64x4x1x128x128 : Shape := ⟨6, ![2, 64, 4, 1, 128, 128]⟩
abbrev S2x64x4x4x128x128 : Shape := ⟨6, ![2, 64, 4, 4, 128, 128]⟩
abbrev S64x2x128x128 : Shape := ⟨4, ![64, 2, 128, 128]⟩
abbrev S2x64x128x128 : Shape := ⟨4, ![2, 64, 128, 128]⟩
abbrev S2x128x128x64 : Shape := ⟨4, ![2, 128, 128, 64]⟩
abbrev S32768x64 : Shape := ⟨2, ![32768, 64]⟩
abbrev S32768 : Shape := ⟨1, ![32768]⟩
abbrev S32768x1 : Shape := ⟨2, ![32768, 1]⟩
abbrev S64x512 : Shape := ⟨2, ![64, 512]⟩
abbrev S32768x512 : Shape := ⟨2, ![32768, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S2x128x128 : Shape := ⟨3, ![2, 128, 128]⟩
abbrev S2x64x259x259 : Shape := ⟨4, ![2, 64, 259, 259]⟩
abbrev S2x64x256x259 : Shape := ⟨4, ![2, 64, 256, 259]⟩
abbrev S2x64x1x256x259 : Shape := ⟨5, ![2, 64, 1, 256, 259]⟩
abbrev S2x64x4x256x259 : Shape := ⟨5, ![2, 64, 4, 256, 259]⟩
abbrev S2x64x4x256x256 : Shape := ⟨5, ![2, 64, 4, 256, 256]⟩
abbrev S2x64x4x1x256x256 : Shape := ⟨6, ![2, 64, 4, 1, 256, 256]⟩
abbrev S2x64x4x4x256x256 : Shape := ⟨6, ![2, 64, 4, 4, 256, 256]⟩
abbrev S3x64x4x4 : Shape := ⟨4, ![3, 64, 4, 4]⟩
abbrev S2x64x515x515 : Shape := ⟨4, ![2, 64, 515, 515]⟩
abbrev S2x64x512x515 : Shape := ⟨4, ![2, 64, 512, 515]⟩
abbrev S2x64x1x512x515 : Shape := ⟨5, ![2, 64, 1, 512, 515]⟩
abbrev S2x64x4x512x515 : Shape := ⟨5, ![2, 64, 4, 512, 515]⟩
abbrev S2x64x4x512x512 : Shape := ⟨5, ![2, 64, 4, 512, 512]⟩
abbrev S2x64x4x1x512x512 : Shape := ⟨6, ![2, 64, 4, 1, 512, 512]⟩
abbrev S2x64x4x4x512x512 : Shape := ⟨6, ![2, 64, 4, 4, 512, 512]⟩
abbrev S3x2x512x512 : Shape := ⟨4, ![3, 2, 512, 512]⟩
abbrev S1x3x1x1 : Shape := ⟨4, ![1, 3, 1, 1]⟩

abbrev nBuf : Space → Nat
  | .hbm => 199
  | .vmem => 0
  | .smem => 0
  | _ => 0

abbrev hbmTy0_0 (i : Nat) : BufTy := match i % 128 with
  | 0 => ⟨S2x3x512x512, .f32⟩
  | 1 => ⟨S64x3x4x4, .f32⟩
  | 2 => ⟨S64, .f32⟩
  | 3 => ⟨S64x64x4x4, .f32⟩
  | 4 => ⟨S64, .f32⟩
  | 5 => ⟨S512x64, .f32⟩
  | 6 => ⟨S64x64x4x4, .f32⟩
  | 7 => ⟨S64, .f32⟩
  | 8 => ⟨S64x3x4x4, .f32⟩
  | 9 => ⟨S3, .f32⟩
  | 10 => ⟨S_, .f32⟩
  | 11 => ⟨S_, .f32⟩
  | 12 => ⟨S_, .f32⟩
  | 13 => ⟨S_, .i1⟩
  | 14 => ⟨S_, .f32⟩
  | 15 => ⟨S2x3x512x512, .f32⟩
  | 16 => ⟨S2x3x512x512, .f32⟩
  | 17 => ⟨S_, .f32⟩
  | 18 => ⟨S2x3x512x512, .f32⟩
  | 19 => ⟨S2x3x512x512, .f32⟩
  | 20 => ⟨S2x3x512x512, .f32⟩
  | 21 => ⟨S_, .f32⟩
  | 22 => ⟨S2x3x514x514, .f32⟩
  | 23 => ⟨S2x3x256x514, .f32⟩
  | 24 => ⟨S2x3x256x514, .f32⟩
  | 25 => ⟨S2x3x256x514, .f32⟩
  | 26 => ⟨S2x3x256x514, .f32⟩
  | 27 => ⟨S2x3x1x256x514, .f32⟩
  | 28 => ⟨S2x3x1x256x514, .f32⟩
  | 29 => ⟨S2x3x1x256x514, .f32⟩
  | 30 => ⟨S2x3x1x256x514, .f32⟩
  | 31 => ⟨S2x3x4x256x514, .f32⟩
  | 32 => ⟨S2x3x4x256x256, .f32⟩
  | 33 => ⟨S2x3x4x256x256, .f32⟩
  | 34 => ⟨S2x3x4x256x256, .f32⟩
  | 35 => ⟨S2x3x4x256x256, .f32⟩
  | 36 => ⟨S2x3x4x1x256x256, .f32⟩
  | 37 => ⟨S2x3x4x1x256x256, .f32⟩
  | 38 => ⟨S2x3x4x1x256x256, .f32⟩
  | 39 => ⟨S2x3x4x1x256x256, .f32⟩
  | 40 => ⟨S2x3x4x4x256x256, .f32⟩
  | 41 => ⟨S64x2x256x256, .f32⟩
  | 42 => ⟨S2x64x256x256, .f32⟩
  | 43 => ⟨S1x64x1x1, .f32⟩
  | 44 => ⟨S2x64x256x256, .f32⟩
  | 45 => ⟨S2x64x256x256, .f32⟩
  | 46 => ⟨S_, .f32⟩
  | 47 => ⟨S2x64x256x256, .f32⟩
  | 48 => ⟨S2x64x256x256, .f32⟩
  | 49 => ⟨S_, .f32⟩
  | 50 => ⟨S2x64x258x258, .f32⟩
  | 51 => ⟨S2x64x128x258, .f32⟩
  | 52 => ⟨S2x64x128x258, .f32⟩
  | 53 => ⟨S2x64x128x258, .f32⟩
  | 54 => ⟨S2x64x128x258, .f32⟩
  | 55 => ⟨S2x64x1x128x258, .f32⟩
  | 56 => ⟨S2x64x1x128x258, .f32⟩
  | 57 => ⟨S2x64x1x128x258, .f32⟩
  | 58 => ⟨S2x64x1x128x258, .f32⟩
  | 59 => ⟨S2x64x4x128x258, .f32⟩
  | 60 => ⟨S2x64x4x128x128, .f32⟩
  | 61 => ⟨S2x64x4x128x128, .f32⟩
  | 62 => ⟨S2x64x4x128x128, .f32⟩
  | 63 => ⟨S2x64x4x128x128, .f32⟩
  | 64 => ⟨S2x64x4x1x128x128, .f32⟩
  | 65 => ⟨S2x64x4x1x128x128, .f32⟩
  | 66 => ⟨S2x64x4x1x128x128, .f32⟩
  | 67 => ⟨S2x64x4x1x128x128, .f32⟩
  | 68 => ⟨S2x64x4x4x128x128, .f32⟩
  | 69 => ⟨S64x2x128x128, .f32⟩
  | 70 => ⟨S2x64x128x128, .f32⟩
  | 71 => ⟨S1x64x1x1, .f32⟩
  | 72 => ⟨S2x64x128x128, .f32⟩
  | 73 => ⟨S2x64x128x128, .f32⟩
  | 74 => ⟨S2x128x128x64, .f32⟩
  | 75 => ⟨S32768x64, .f32⟩
  | 76 => ⟨S32768x64, .f32⟩
  | 77 => ⟨S_, .f32⟩
  | 78 => ⟨S32768, .f32⟩
  | 79 => ⟨S32768x1, .f32⟩
  | 80 => ⟨S_, .f32⟩
  | 81 => ⟨S32768x64, .f32⟩
  | 82 => ⟨S32768x64, .f32⟩
  | 83 => ⟨S64x512, .f32⟩
  | 84 => ⟨S32768x512, .f32⟩
  | 85 => ⟨S32768x512, .f32⟩
  | 86 => ⟨S32768x512, .f32⟩
  | 87 => ⟨S512x64, .f32⟩
  | 88 => ⟨S_, .f32⟩
  | 89 => ⟨S512, .f32⟩
  | 90 => ⟨S1x512, .f32⟩
  | 91 => ⟨S32768x512, .f32⟩
  | 92 => ⟨S32768x512, .f32⟩
  | 93 => ⟨S32768x512, .i32⟩
  | 94 => ⟨S_, .f32⟩
  | 95 => ⟨S_, .i32⟩
  | 96 => ⟨S32768, .f32⟩
  | 97 => ⟨S32768, .i32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S1, .i32⟩
  | 107 => ⟨S_, .i32⟩
  | 108 => ⟨S32768x1, .i32⟩
  | 109 => ⟨S32768x1, .i1⟩
  | 110 => ⟨S1x1, .i32⟩
  | 111 => ⟨S32768x1, .i32⟩
  | 112 => ⟨S32768x1, .i1⟩
  | 113 => ⟨S32768x1, .i1⟩
  | 114 => ⟨S_, .i1⟩
  | 115 => ⟨S32768, .i1⟩
  | 116 => ⟨S32768x64, .f32⟩
  | 117 => ⟨S32768x64, .i1⟩
  | 118 => ⟨S_, .f32⟩
  | 119 => ⟨S32768x64, .f32⟩
  | 120 => ⟨S32768x64, .f32⟩
  | 121 => ⟨S2x128x128x64, .f32⟩
  | 122 => ⟨S2x128x128, .i32⟩
  | 123 => ⟨S2x128x128x64, .f32⟩
  | 124 => ⟨S2x128x128x64, .f32⟩
  | 125 => ⟨S_, .f32⟩
  | 126 => ⟨S_, .f32⟩
  | 127 => ⟨S_, .f32⟩
  | _ => ⟨S2x3x512x512, .f32⟩

abbrev hbmTy0_1 (i : Nat) : BufTy := match i % 128 with
  | 0 => ⟨S_, .f32⟩
  | 1 => ⟨S2x128x128x64, .f32⟩
  | 2 => ⟨S2x128x128x64, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S2x128x128x64, .f32⟩
  | 11 => ⟨S2x128x128x64, .f32⟩
  | 12 => ⟨S2x64x128x128, .f32⟩
  | 13 => ⟨S64x64x4x4, .f32⟩
  | 14 => ⟨S64x64x4x4, .f32⟩
  | 15 => ⟨S_, .f32⟩
  | 16 => ⟨S2x64x259x259, .f32⟩
  | 17 => ⟨S2x64x256x259, .f32⟩
  | 18 => ⟨S2x64x256x259, .f32⟩
  | 19 => ⟨S2x64x256x259, .f32⟩
  | 20 => ⟨S2x64x256x259, .f32⟩
  | 21 => ⟨S2x64x1x256x259, .f32⟩
  | 22 => ⟨S2x64x1x256x259, .f32⟩
  | 23 => ⟨S2x64x1x256x259, .f32⟩
  | 24 => ⟨S2x64x1x256x259, .f32⟩
  | 25 => ⟨S2x64x4x256x259, .f32⟩
  | 26 => ⟨S2x64x4x256x256, .f32⟩
  | 27 => ⟨S2x64x4x256x256, .f32⟩
  | 28 => ⟨S2x64x4x256x256, .f32⟩
  | 29 => ⟨S2x64x4x256x256, .f32⟩
  | 30 => ⟨S2x64x4x1x256x256, .f32⟩
  | 31 => ⟨S2x64x4x1x256x256, .f32⟩
  | 32 => ⟨S2x64x4x1x256x256, .f32⟩
  | 33 => ⟨S2x64x4x1x256x256, .f32⟩
  | 34 => ⟨S2x64x4x4x256x256, .f32⟩
  | 35 => ⟨S64x2x256x256, .f32⟩
  | 36 => ⟨S2x64x256x256, .f32⟩
  | 37 => ⟨S1x64x1x1, .f32⟩
  | 38 => ⟨S2x64x256x256, .f32⟩
  | 39 => ⟨S2x64x256x256, .f32⟩
  | 40 => ⟨S_, .f32⟩
  | 41 => ⟨S2x64x256x256, .f32⟩
  | 42 => ⟨S2x64x256x256, .f32⟩
  | 43 => ⟨S3x64x4x4, .f32⟩
  | 44 => ⟨S3x64x4x4, .f32⟩
  | 45 => ⟨S_, .f32⟩
  | 46 => ⟨S2x64x515x515, .f32⟩
  | 47 => ⟨S2x64x512x515, .f32⟩
  | 48 => ⟨S2x64x512x515, .f32⟩
  | 49 => ⟨S2x64x512x515, .f32⟩
  | 50 => ⟨S2x64x512x515, .f32⟩
  | 51 => ⟨S2x64x1x512x515, .f32⟩
  | 52 => ⟨S2x64x1x512x515, .f32⟩
  | 53 => ⟨S2x64x1x512x515, .f32⟩
  | 54 => ⟨S2x64x1x512x515, .f32⟩
  | 55 => ⟨S2x64x4x512x515, .f32⟩
  | 56 => ⟨S2x64x4x512x512, .f32⟩
  | 57 => ⟨S2x64x4x512x512, .f32⟩
  | 58 => ⟨S2x64x4x512x512, .f32⟩
  | 59 => ⟨S2x64x4x512x512, .f32⟩
  | 60 => ⟨S2x64x4x1x512x512, .f32⟩
  | 61 => ⟨S2x64x4x1x512x512, .f32⟩
  | 62 => ⟨S2x64x4x1x512x512, .f32⟩
  | 63 => ⟨S2x64x4x1x512x512, .f32⟩
  | 64 => ⟨S2x64x4x4x512x512, .f32⟩
  | 65 => ⟨S3x2x512x512, .f32⟩
  | 66 => ⟨S2x3x512x512, .f32⟩
  | 67 => ⟨S1x3x1x1, .f32⟩
  | 68 => ⟨S2x3x512x512, .f32⟩
  | 69 => ⟨S2x3x512x512, .f32⟩
  | 70 => ⟨S2x3x512x512, .f32⟩
  | _ => ⟨S2x3x512x512, .f32⟩

abbrev hbmTy (i : Nat) : BufTy := match i / 128 with
  | 0 => hbmTy0_0 i
  | 1 => hbmTy0_1 i
  | _ => ⟨S2x3x512x512, .f32⟩

abbrev bufTy : (tb : Table) → Fin (tcTables nBuf tb) → BufTy
  | .hbm, ⟨i, _⟩ => hbmTy i
  | _, _ => ⟨S2x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call1_v0 : Ref sig .tc := ⟨.hbm, 93, rfl⟩
abbrev main_call1_cst : Ref sig .tc := ⟨.hbm, 94, rfl⟩
abbrev main_call1_c : Ref sig .tc := ⟨.hbm, 95, rfl⟩
abbrev main_call1_v1_0 : Ref sig .tc := ⟨.hbm, 96, rfl⟩
abbrev main_v73 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_9 : Ref sig .tc := ⟨.hbm, 125, rfl⟩
abbrev main_v79 : Ref sig .tc := ⟨.hbm, 126, rfl⟩
abbrev main_cst_10 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_11 : Ref sig .tc := ⟨.hbm, 131, rfl⟩
abbrev main_v83 : Ref sig .tc := ⟨.hbm, 132, rfl⟩
abbrev main_cst_12 : Ref sig .tc := ⟨.hbm, 133, rfl⟩
abbrev main_v84 : Ref sig .tc := ⟨.hbm, 134, rfl⟩
abbrev main_cst_13 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_14 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_15 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_16 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩

abbrev nD : Nat := 1
abbrev τ : Topo := Topo.v7x

variable {F : FTy → Type} [FloatOps F]
-- ==== Proof.Spec.lean ====
/- The autoencoder's layers as plain functions of coordinates: what both programs are shown to compute. -/
module

public import Idealize.ShloMosaic.Lib.Pointwise

@[expose] public section

noncomputable section

namespace Cert.Conv

open Idealize.ShloMosaic

/-- Two images of `C` channels, `n` rows and `n` columns. -/
abbrev Img (C n : ℕ) := Fin 2 → Fin C → Fin n → Fin n → EReal

/-- Filters of four rows and four columns. -/
abbrev Filt (O C : ℕ) := Fin O → Fin C → Fin 4 → Fin 4 → EReal

/-- An array of four axes as a function of its coordinates. -/
abbrev im4 {a b c d : ℕ} (x : (⟨4, ![a, b, c, d]⟩ : Shape).Idx → EReal) : Fin a → Fin b → Fin c → Fin d → EReal :=
  fun i j k l => x (ix4 i j k l)

/-- An array of extended reals of shape `s`. -/
abbrev val (s : Shape) (f : s.Idx → EReal) : s.Idx → EReal := f

/-- An array of 32-bit words of shape `s`. -/
abbrev wval (s : Shape) (f : s.Idx → BitVec 32) : s.Idx → BitVec 32 := f

/-- A vector as a function of its coordinate. -/
abbrev im1 {a : ℕ} (x : (⟨1, ![a]⟩ : Shape).Idx → EReal) : Fin a → EReal := fun i => x (ix1 i)

/-- A matrix as a function of its coordinates. -/
abbrev im2 {a b : ℕ} (x : (⟨2, ![a, b]⟩ : Shape).Idx → EReal) : Fin a → Fin b → EReal := fun i j => x (ix2 i j)

/-- An image with a border of one row or column of zeros, at coordinates of the bordered image. -/
def pad1 {C n : ℕ} (x : Img C n) (b : Fin 2) (c : Fin C) (I J : ℕ) : EReal :=
  if h : (1 ≤ I ∧ I - 1 < n) ∧ 1 ≤ J ∧ J - 1 < n then x b c ⟨I - 1, h.1.2⟩ ⟨J - 1, h.2.2⟩ else 0

/-- The four by four convolution of stride two with a border of one. -/
def down {O C n m : ℕ} (x : Img C n) (w : Filt O C) (bias : Fin O → EReal) : Img O m := fun b o i j =>
  (∑ c : Fin C, ∑ d : Fin 4, ∑ e : Fin 4, w o c d e * pad1 x b c (2 * i + d) (2 * j + e)) + bias o

/-- An image with a zero between neighbouring pixels and a border of two, at coordinates of the spread image. -/
def dil {C n : ℕ} (x : Img C n) (b : Fin 2) (c : Fin C) (I J : ℕ) : EReal :=
  if h : (2 ≤ I ∧ (I - 2) % 2 = 0 ∧ (I - 2) / 2 < n) ∧ 2 ≤ J ∧ (J - 2) % 2 = 0 ∧ (J - 2) / 2 < n then
    x b c ⟨(I - 2) / 2, h.1.2.2⟩ ⟨(J - 2) / 2, h.2.2.2⟩ else 0

/-- The transposed four by four convolution of stride two: the spread image with the filter turned over. -/
def up {O C n m : ℕ} (x : Img C n) (w : Filt C O) (bias : Fin O → EReal) : Img O m := fun b o Y X =>
  (∑ c : Fin C, ∑ u : Fin 4, ∑ v : Fin 4, w c o u.rev v.rev * dil x b c (Y + u) (X + v)) + bias o

/-- The positive part of an image. -/
def relu {C n : ℕ} (x : Img C n) : Img C n := fun b c i j => max (x b c i j) 0

/-- The squared distance of a pixel's channels to code `k`, in the expanded form. -/
def dist (z : Img 64 128) (cb : Fin 512 → Fin 64 → EReal) (b : Fin 2) (i j : Fin 128) (k : Fin 512) : EReal :=
  ((∑ o : Fin 64, z b o i j * z b o i j) - ∑ o : Fin 64, (Ideal.ofBits .f32 0x40000000#32 * z b o i j) * cb k o) + ∑ o : Fin 64, cb k o * cb k o

/-- The input scaled to between minus one and one where it is given between zero and one, told by its least entry. -/
def normArr (hr : (⟨4, ![2, 3, 512, 512]⟩ : Shape).ReducesTo [0, 1, 2, 3] ⟨0, ![]⟩) (h0 : 0 < (⟨0, ![]⟩ : Shape).numel)
    (hb : (⟨0, ![]⟩ : Shape).BroadcastsInDim ⟨4, ![2, 3, 512, 512]⟩ ![])
    (x : (⟨4, ![2, 3, 512, 512]⟩ : Shape).Idx → EReal) : (⟨4, ![2, 3, 512, 512]⟩ : Shape).Idx → EReal :=
  select (broadcastInDim ⟨4, ![2, 3, 512, 512]⟩ ![] hb
      (cmpf (F := Ideal) (φ := .f32) .oge (Host.reduce (FloatOps.minimumf (F := Ideal) (φ := .f32)) x (constant (F := Ideal) ⟨0, ![]⟩ .f32 0x7F800000#32) hr h0)
        (constant (F := Ideal) ⟨0, ![]⟩ .f32 0x00000000#32)))
    (subf (F := Ideal) (φ := .f32) (mulf (F := Ideal) (φ := .f32) x (broadcastInDim ⟨4, ![2, 3, 512, 512]⟩ ![] hb (constant (F := Ideal) ⟨0, ![]⟩ .f32 0x40000000#32)))
      (broadcastInDim ⟨4, ![2, 3, 512, 512]⟩ ![] hb (constant (F := Ideal) ⟨0, ![]⟩ .f32 0x3F800000#32))) x

theorem two_f32 : Ideal.ofBits .f32 0x40000000#32 = ((2 : ℝ) : EReal) := by
  simp [Ideal.ofBits, Ideal.ieee, -EReal.coe_mul]; norm_num

theorem quarter_f32 : Ideal.ofBits .f32 0x3E800000#32 = ((1 / 4 : ℝ) : EReal) := by
  simp [Ideal.ofBits, Ideal.ieee, -EReal.coe_mul]; norm_num

theorem fiveQuarters_f32 : Ideal.ofBits .f32 0x3FA00000#32 = ((5 / 4 : ℝ) : EReal) := by
  simp [Ideal.ofBits, Ideal.ieee, -EReal.coe_mul]; norm_num

theorem entries_f32 : Ideal.ofBits .f32 0x4A000000#32 = ((2097152 : ℝ) : EReal) := by
  simp [Ideal.ofBits, Ideal.ieee, -EReal.coe_mul]; norm_num

/-- The squared difference of two images, summed. -/
def sqSum (q z : Img 64 128) : EReal :=
  ∑ b : Fin 2, ∑ i : Fin 128, ∑ j : Fin 128, ∑ o : Fin 64, (q b o i j - z b o i j) * (q b o i j - z b o i j)

/-- The mean squared difference and a quarter of it. -/
def lossOf (s : EReal) : EReal :=
  Ideal.div s (Ideal.ofBits .f32 0x4A000000#32) + Ideal.ofBits .f32 0x3E800000#32 * Ideal.div s (Ideal.ofBits .f32 0x4A000000#32)

end Cert.Conv

end
-- ==== Proof.HostLib.lean ====
/- Equal coordinates give equal indices. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

theorem ix2_congr {a b : ℕ} {i i' : Fin a} {j j' : Fin b} (h0 : i.val = i'.val) (h1 : j.val = j'.val) : ix2 i j = ix2 i' j' := by
  rw [Fin.ext h0, Fin.ext h1]

theorem ix3_congr {a b c : ℕ} {i i' : Fin a} {j j' : Fin b} {k k' : Fin c} (h0 : i.val = i'.val) (h1 : j.val = j'.val) (h2 : k.val = k'.val) :
    ix3 i j k = ix3 i' j' k' := by
  rw [Fin.ext h0, Fin.ext h1, Fin.ext h2]

theorem ix4_congr {a b c d : ℕ} {i i' : Fin a} {j j' : Fin b} {k k' : Fin c} {l l' : Fin d} (h0 : i.val = i'.val) (h1 : j.val = j'.val) (h2 : k.val = k'.val) (h3 : l.val = l'.val) :
    ix4 i j k l = ix4 i' j' k' l' := by
  rw [Fin.ext h0, Fin.ext h1, Fin.ext h2, Fin.ext h3]

end Cert.KernelIdeal.Layer
end
-- ==== Proof.Argmin.lean ====
/- The place of the least of several extended reals. -/
module

public import Idealize.ShloMosaic.Lib.Pointwise
public import Idealize.ShloMosaic.Lib.ReduceAll

@[expose] public section

noncomputable section

namespace Cert.Conv

open Idealize.ShloMosaic

/-- `k` is the first place at which `x` is least. -/
def FirstMin {n : ℕ} (x : Fin n → EReal) (k : Fin n) : Prop := (∀ k', x k ≤ x k') ∧ ∀ k', k' < k → x k < x k'

theorem FirstMin.unique {n : ℕ} {x : Fin n → EReal} {k l : Fin n} (hk : FirstMin x k) (hl : FirstMin x l) : k = l := by
  rcases lt_trichotomy k l with h | h | h
  · exact absurd (hk.1 l) (not_le.mpr (hl.2 k h))
  · exact h
  · exact absurd (hl.1 k) (not_le.mpr (hk.2 l h))

/-- The order of pairs: by value, then by number. -/
def le2 (p q : EReal × BitVec 32) : Prop := p.1 < q.1 ∨ p.1 = q.1 ∧ p.2.toInt ≤ q.2.toInt

theorem le2.trans {p q r : EReal × BitVec 32} (h : le2 p q) (h' : le2 q r) : le2 p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- Folding a function that gives the smaller of two pairs gives one of the pairs, below all of them. -/
theorem fold_min (f : EReal × BitVec 32 → EReal × BitVec 32 → EReal × BitVec 32)
    (hf : ∀ a b, (f a b = a ∧ le2 a b) ∨ (f a b = b ∧ le2 b a)) (L : List (EReal × BitVec 32)) (a : EReal × BitVec 32) :
    (L.foldl f a = a ∨ L.foldl f a ∈ L) ∧ le2 (L.foldl f a) a ∧ ∀ p ∈ L, le2 (L.foldl f a) p := by
  induction L generalizing a with
  | nil => exact ⟨.inl rfl, .inr ⟨rfl, le_rfl⟩, by simp⟩
  | cons b L ih =>
    obtain ⟨h1, h2, h3⟩ := ih (f a b)
    simp only [List.foldl_cons, List.mem_cons, forall_eq_or_imp]
    rcases hf a b with ⟨e, h⟩ | ⟨e, h⟩ <;> rw [e] at h1 h2 h3 ⊢
    · exact ⟨h1.imp_right .inr, h2, h2.trans h, h3⟩
    · exact ⟨.inr (h1.elim (fun h => .inl h) .inr), h2.trans h, h2, h3⟩

/-- The result of such a fold over the pairs of values and their numbers, from infinity and zero. -/
theorem fold_first {n : ℕ} (hn : 0 < n) (hn' : n ≤ 2 ^ 31) (x : Fin n → EReal)
    (f : EReal × BitVec 32 → EReal × BitVec 32 → EReal × BitVec 32)
    (hf : ∀ a b, (f a b = a ∧ le2 a b) ∨ (f a b = b ∧ le2 b a)) (L : List (EReal × BitVec 32))
    (hL : ∀ p, p ∈ L ↔ ∃ k : Fin n, p = (x k, BitVec.ofNat 32 k)) :
    ∃ k : Fin n, FirstMin x k ∧ (L.foldl f (⊤, 0#32)).2 = BitVec.ofNat 32 k := by
  have hi : ∀ k : Fin n, (BitVec.ofNat 32 k).toInt = k := fun k => by
    have := k.2
    rw [BitVec.toInt_eq_toNat_of_lt] <;> rw [BitVec.toNat_ofNat, Nat.mod_eq_of_lt (by omega)]; omega
  obtain ⟨h1, h2, h3⟩ := fold_min f hf L (⊤, 0#32)
  have key : ∃ k : Fin n, L.foldl f (⊤, 0#32) = (x k, BitVec.ofNat 32 k) := by
    rcases h1 with h | h
    · refine ⟨⟨0, hn⟩, ?_⟩
      have := h3 _ ((hL _).mpr ⟨⟨0, hn⟩, rfl⟩)
      rw [h] at this ⊢
      rcases this with h | ⟨h, -⟩
      · exact absurd h not_top_lt
      · exact Prod.ext h rfl
    · exact (hL _).mp h
  obtain ⟨k, hk⟩ := key
  refine ⟨k, ⟨fun k' => ?_, fun k' h => ?_⟩, by rw [hk]⟩
  all_goals
    have := h3 _ ((hL _).mpr ⟨k', rfl⟩)
    rw [hk] at this
    rcases this with h' | ⟨h', h''⟩
  · exact h'.le
  · exact h'.le
  · exact h'
  · simp only [hi] at h''
    have : (k' : ℕ) < k := h
    omega

end Cert.Conv

end
-- ==== Proof.RowWord.lean ====
/- The row test of the nearest-code call, word by word. -/
module

public import Idealize.ShloMosaic.Lib.Pointwise

@[expose] public section

set_option maxRecDepth 16384

namespace Cert.KernelIdeal.Layer

open Idealize.ShloMosaic

/-- The call's test that a row's remainder by 130 is below 128, on words: blocks have 2080 rows, a multiple of 130. -/
theorem rem_word : ∀ (a : Fin 16) (r : Fin 2080),
    IntOp.cmpi CmpIPredicate.slt
      (Scalar.select
        (IntOp.andi
          (IntOp.xori
            (IntOp.cmpi CmpIPredicate.slt
              (IntOp.remsi ArithUnit.vector
                (IntOp.addi (Scalar.muli (BitVec.ofNat 32 a) 2080#32) (BitVec.ofNat 32 r))
                (Scalar.select (Scalar.cmpi CmpIPredicate.eq 130#32 0#32) 1#32 130#32))
              0#32)
            (Scalar.cmpi CmpIPredicate.slt (Scalar.select (Scalar.cmpi CmpIPredicate.eq 130#32 0#32) 1#32 130#32) 0#32))
          (IntOp.cmpi CmpIPredicate.ne
            (IntOp.remsi ArithUnit.vector
              (IntOp.addi (Scalar.muli (BitVec.ofNat 32 a) 2080#32) (BitVec.ofNat 32 r))
              (Scalar.select (Scalar.cmpi CmpIPredicate.eq 130#32 0#32) 1#32 130#32))
            0#32))
        (IntOp.addi
          (IntOp.remsi ArithUnit.vector (IntOp.addi (Scalar.muli (BitVec.ofNat 32 a) 2080#32) (BitVec.ofNat 32 r))
            (Scalar.select (Scalar.cmpi CmpIPredicate.eq 130#32 0#32) 1#32 130#32))
          (Scalar.select (Scalar.cmpi CmpIPredicate.eq 130#32 0#32) 1#32 130#32))
        (IntOp.remsi ArithUnit.vector (IntOp.addi (Scalar.muli (BitVec.ofNat 32 a) 2080#32) (BitVec.ofNat 32 r))
          (Scalar.select (Scalar.cmpi CmpIPredicate.eq 130#32 0#32) 1#32 130#32)))
      128#32 = if r.val % 130 < 128 then 1#1 else 0#1 := by decide +kernel

end Cert.KernelIdeal.Layer
-- ==== Proof.Region2.lean ====
/- What the nearest-code call leaves in its results, as functions of its operands. -/
module

public import proofs.«01_k».proof.Proof.Gen.KernelIdeal.Frame
public import proofs.«01_k».proof.Proof.Spec
public import proofs.«01_k».proof.Proof.Argmin
public import proofs.«01_k».proof.Proof.RowWord
public import Idealize.ShloMosaic.Lib.Pipeline.ValueKit
public import Idealize.ShloMosaic.Lib.Pointwise

@[expose] public section

set_option maxRecDepth 16384

noncomputable section

namespace Cert.Conv

/-- A finite family of extended reals has a least entry, and of these a first. -/
theorem exists_firstMin {n : ℕ} (hn : 0 < n) (x : Fin n → EReal) : ∃ k, FirstMin x k := by
  classical
  have hne : ∃ k : ℕ, ∃ h : k < n, ∀ k', x ⟨k, h⟩ ≤ x k' := by
    obtain ⟨k, -, hk⟩ := Finset.exists_min_image Finset.univ x ⟨⟨0, hn⟩, Finset.mem_univ _⟩
    exact ⟨k, k.isLt, fun k' => hk k' (Finset.mem_univ _)⟩
  obtain ⟨h, hmin⟩ := Nat.find_spec hne
  refine ⟨⟨Nat.find hne, h⟩, hmin, fun k' hk' => lt_of_le_of_ne (hmin k') fun he => ?_⟩
  exact Nat.find_min hne (show k'.val < Nat.find hne from hk') ⟨k'.isLt, fun l => he ▸ hmin l⟩

/-- The place of the first least entry of a family of 512. -/
def firstMin (x : Fin 512 → EReal) : Fin 512 := (exists_firstMin (by omega) x).choose

theorem firstMin_spec (x : Fin 512 → EReal) : FirstMin x (firstMin x) := (exists_firstMin (by omega) x).choose_spec

end Cert.Conv

namespace Cert.KernelIdeal.Layer

open Cert.KernelIdeal Cert.KernelIdeal.Gen Cert.Conv Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The call's distance of a row to code `k`: the square of the code less twice the product. -/
def kd (z : Fin 64 → EReal) (cb : S512x64.Idx → EReal) (cs : S1x512.Idx → EReal) (k : Fin 512) : EReal :=
  cs (ix2 0 k) - Ideal.ofBits .f32 0x40000000#32 * ∑ o : Fin 64, z o * cb (ix2 k o)

/-- The least of a family folded from the greatest value is the value at its first least place. -/
theorem fold_eq (x : Fin 512 → EReal) (k : Fin 512) (hk : FirstMin x k) :
    Finset.fold min (Ideal.ofBits FTy.f32 2139095040#32) x Finset.univ = x k := by
  have ht : Ideal.ofBits FTy.f32 2139095040#32 = ⊤ := by simp [Ideal.ofBits, Ideal.ieee]
  rw [ht]
  refine le_antisymm ?_ ?_
  · exact (Finset.fold_min_le _).mpr (.inr ⟨k, Finset.mem_univ _, le_rfl⟩)
  · exact (Finset.le_fold_min _).mpr ⟨le_top, fun l _ => hk.1 l⟩

theorem word_lt (k l : Fin 512) : (BitVec.ofNat 32 k).toInt ≤ (BitVec.ofNat 32 l).toInt ↔ k ≤ l := by
  have e : ∀ k : Fin 512, (BitVec.ofNat 32 k).toInt = k := by decide +kernel
  rw [e, e]; simp

/-- The lesser of two words is one of them. -/
theorem minsi_cases (a b : BitVec 32) : (IntOp.minsi a b = a ∧ a.toInt ≤ b.toInt) ∨ (IntOp.minsi a b = b ∧ b.toInt ≤ a.toInt) := by
  simp only [IntOp.minsi]
  split_ifs with h
  · exact .inl ⟨rfl, (BitVec.slt_iff_toInt_lt.mp h).le⟩
  · exact .inr ⟨rfl, not_lt.mp fun hl => h (BitVec.slt_iff_toInt_lt.mpr hl)⟩

/-- The least place, as a word, among those where the family is least. -/
theorem fold_word (x : Fin 512 → EReal) (k : Fin 512) (hk : FirstMin x k) :
    Finset.fold IntOp.minsi (2147483647#32) (fun l : Fin 512 => if x l = x k then BitVec.ofNat 32 l else 512#32) Finset.univ
      = BitVec.ofNat 32 k := by
  have hb : ∀ k : Fin 512, (BitVec.ofNat 32 k).toInt ≤ (512#32).toInt ∧ (BitVec.ofNat 32 k).toInt ≤ (2147483647#32).toInt := by
    decide +kernel
  have hle : ∀ a : Fin 512, (BitVec.ofNat 32 k).toInt ≤ (if x a = x k then BitVec.ofNat 32 (a : ℕ) else 512#32).toInt := fun a => by
    split_ifs with h
    · exact (word_lt k a).mpr (not_lt.mp fun hlt => absurd h (hk.2 a hlt).ne')
    · exact (hb k).1
  refine (?_ : ∀ S : Finset (Fin 512), (BitVec.ofNat 32 k).toInt ≤
      (Finset.fold IntOp.minsi (2147483647#32) (fun l : Fin 512 => if x l = x k then BitVec.ofNat 32 l else 512#32) S).toInt
      ∧ (k ∈ S → Finset.fold IntOp.minsi (2147483647#32) (fun l : Fin 512 => if x l = x k then BitVec.ofNat 32 l else 512#32) S
        = BitVec.ofNat 32 k)) Finset.univ |>.2 (Finset.mem_univ k)
  intro S
  induction S using Finset.induction_on with
  | empty => exact ⟨(hb k).2, fun h => absurd h (Finset.notMem_empty k)⟩
  | insert a S ha ih =>
    rw [Finset.fold_insert ha]
    have hc := minsi_cases (if x a = x k then BitVec.ofNat 32 (a : ℕ) else 512#32)
      (Finset.fold IntOp.minsi (2147483647#32) (fun l : Fin 512 => if x l = x k then BitVec.ofNat 32 l else 512#32) S)
    refine ⟨?_, fun hm => BitVec.eq_of_toInt_eq ?_⟩
    · rcases hc with ⟨h, -⟩ | ⟨h, -⟩ <;> rw [h]
      · exact hle a
      · exact ih.1
    · rcases Finset.mem_insert.mp hm with rfl | hm
      · rw [if_pos rfl] at hc ⊢
        rcases hc with ⟨h, -⟩ | ⟨h, h2⟩ <;> rw [h]
        exact le_antisymm h2 ih.1
      · rw [ih.2 hm] at hc ⊢
        rcases hc with ⟨h, h2⟩ | ⟨h, -⟩ <;> rw [h]
        exact le_antisymm h2 (hle a)

/-- The place the call chooses for a row of the image. -/
def kplace (z : S33280x64.Idx → EReal) (cb : S512x64.Idx → EReal) (cs : S1x512.Idx → EReal) (n : Fin 33280) : Fin 512 :=
  firstMin (kd (fun o => z (ix2 n o)) cb cs)

/-- The chosen codes, zero in the two columns past the image's width. -/
def G2q (z : S33280x64.Idx → EReal) (cb : S512x64.Idx → EReal) (cs : S1x512.Idx → EReal) : S33280x64.Idx → EReal := fun i =>
  if (i 0).val % 130 < 128 then cb (ix2 (kplace z cb cs (i 0)) (i 1)) else 0

/-- The chosen places, as words. -/
def G2i (z : S33280x64.Idx → EReal) (cb : S512x64.Idx → EReal) (cs : S1x512.Idx → EReal) : S16x1x2080.Idx → BitVec 32 := fun i =>
  BitVec.ofNat 32 (kplace z cb cs ⟨(i 0).val * 2080 + (i 2).val, by have h0 : (i 0).val < 16 := (i 0).isLt; have h2 : (i 2).val < 2080 := (i 2).isLt; omega⟩)

/-- The squared differences of a block of rows, summed over the image's columns. -/
def G2s (z : S33280x64.Idx → EReal) (cb : S512x64.Idx → EReal) (cs : S1x512.Idx → EReal) : S16x1x2080.Idx → EReal := fun i =>
  ∑ r : Fin 2080, ∑ o : Fin 64,
    if r.val % 130 < 128 then
      (cb (ix2 (kplace z cb cs ⟨(i 0).val * 2080 + r.val, by have h0 : (i 0).val < 16 := (i 0).isLt; omega⟩) o)
          - z (ix2 ⟨(i 0).val * 2080 + r.val, by have h0 : (i 0).val < 16 := (i 0).isLt; omega⟩ o))
        * (cb (ix2 (kplace z cb cs ⟨(i 0).val * 2080 + r.val, by have h0 : (i 0).val < 16 := (i 0).isLt; omega⟩) o)
          - z (ix2 ⟨(i 0).val * 2080 + r.val, by have h0 : (i 0).val < 16 := (i 0).isLt; omega⟩ o))
    else 0

/-- The chosen place of a row of a block. -/
theorem place_word (x0 : FVec Ideal S2080x64 .f32) (x1 : FVec Ideal S512x64 .f32) (x2 : FVec Ideal S1x512 .f32) (r : Fin 2080) :
    k2_pay7 (F := Ideal) x0 x1 x2 (ix1 r) = BitVec.ofNat 32 (firstMin (kd (fun o => x0 (ix2 r o)) x1 x2)) := by
  pointwise [k2_pay7, k2_pay6]
  have h := firstMin_spec (kd (fun o => x0 (ix2 r o)) x1 x2)
  refine Eq.trans ?_ (fold_word _ _ h)
  rw [← fold_eq _ _ h]
  rfl

/-- The indicator of a place, as the call computes it from words. -/
theorem hot_word (k l : Fin 512) :
    (FloatOps.sitofp (F := Ideal) FTy.f32 (BitVec.setWidth 32 (IntOp.cmpi CmpIPredicate.eq (BitVec.ofNat 32 k) (BitVec.ofNat 32 l))) : EReal)
      = if k = l then 1 else 0 := by
  by_cases h : k = l
  · rw [if_pos h, h]
    have : IntOp.cmpi CmpIPredicate.eq (BitVec.ofNat 32 l) (BitVec.ofNat 32 l) = 1#1 := by simp [IntOp.cmpi]
    rw [this]
    simp [FloatOps.sitofp]
  · rw [if_neg h]
    have : IntOp.cmpi CmpIPredicate.eq (BitVec.ofNat 32 k) (BitVec.ofNat 32 l) = 0#1 := by
      have hne : BitVec.ofNat 32 k ≠ BitVec.ofNat 32 l := fun e => h (Fin.ext (by
        have := congrArg BitVec.toNat e
        simp only [BitVec.toNat_ofNat] at this
        have hk := k.isLt; have hl := l.isLt
        omega))
      show BitVec.ofBool (BitVec.ofNat 32 k == BitVec.ofNat 32 l) = 0#1
      rw [beq_eq_false_iff_ne.mpr hne]; rfl
    rw [this]
    simp [FloatOps.sitofp]

/-- The row of the chosen place, gathered by a product with its indicator. -/
theorem place_row (x0 : FVec Ideal S2080x64 .f32) (x1 : FVec Ideal S512x64 .f32) (x2 : FVec Ideal S1x512 .f32) (r : Fin 2080) (o : Fin 64) :
    k2_pay8 (F := Ideal) x0 x1 x2 (ix2 r o) = x1 (ix2 (firstMin (kd (fun o => x0 (ix2 r o)) x1 x2)) o) := by
  pointwise [k2_pay8]
  rw [place_word]
  generalize firstMin (kd (fun o => x0 (ix2 r o)) x1 x2) = κ
  refine Eq.trans (Finset.sum_congr rfl fun k _ => congrArg (· * x1 (ix2 k o)) (hot_word k κ)) ?_
  simp only [ite_mul, one_mul, zero_mul]
  rw [Finset.sum_ite_eq' Finset.univ κ, if_pos (Finset.mem_univ _)]

/-- The call's row test, at a row of a block. -/
theorem row_test (i : grid2.Coords) (r : Fin 2080) :
    k2_pay1 (Scalar.select (Scalar.cmpi .eq 130#32 0#32) 1#32 130#32) (k2_pay9 i) (k2_pay10 i) (k2_pay11 i) k2_pay12 (ix2 r 0)
      = if r.val % 130 < 128 then 1#1 else 0#1 := by
  pointwise [k2_pay1, k2_pay9, k2_pay10, k2_pay11, k2_pay12]
  exact rem_word (i 0) r

theorem idx2 : ∀ t : Fin cfg2.N, win2_0.index t = ![(grid2.coords t 0).val, 0] ∧ win2_1.index t = ![0, 0]
    ∧ win2_2.index t = ![0, 0] ∧ win2_3.index t = ![(grid2.coords t 0).val, 0] ∧ win2_4.index t = ![(grid2.coords t 0).val, 0, 0]
    ∧ win2_5.index t = ![(grid2.coords t 0).val, 0, 0] :=
  (by decide +kernel : ∀ t : Fin grid2.N, _)

/-- A choice on a row test's word. -/
theorem select_test (n : ℕ) (a b : EReal) : Scalar.select (if n % 130 < 128 then 1#1 else 0#1) a b = if n % 130 < 128 then a else b := by
  split_ifs <;> rfl

/-- The operands' blocks at a point: rows of the image, all the codes, all their squares. -/
theorem blk2 (c : Dev nD) (t : Fin cfg2.N) :
    (∀ (r : Fin 2080) (o : Fin 64), iblk2 V c 0 t (ix2 r o) = val S33280x64 (V c main_v47)
      (ix2 ⟨(grid2.coords t 0).val * 2080 + r.val, by have := (grid2.coords t 0).isLt; have h : (grid2.coords t 0).val < 16 := this; omega⟩ o))
    ∧ iblk2 V c 1 t = val S512x64 (V c main_arg5) ∧ iblk2 V c 2 t = val S1x512 (V c main_v50) := by
  refine ⟨fun r o => ?_, ?_, ?_⟩
  · blk_simp [iblk2]
    simp only [val]
    blk_ext [idx2 t]
  · funext y
    blk_simp [iblk2]
    simp only [val]
    blk_ext [idx2 t]
  · funext y
    blk_simp [iblk2]
    simp only [val]
    blk_ext [idx2 t]

theorem ld2_0 (x : Vec Ideal S2080x64 .f32) : View.ld x r2_0 = x := View.ld_unit_lit _ _ (by decide)
theorem ld2_1 (x : Vec Ideal S512x64 .f32) : View.ld x r2_1 = x := View.ld_unit_lit _ _ (by decide)
theorem ld2_2 (x : Vec Ideal S1x512 .f32) : View.ld x r2_2 = x := View.ld_unit_lit _ _ (by decide)

/-- The codes stored for a block of rows. -/
theorem q_pay (i : grid2.Coords) (x0 : FVec Ideal S2080x64 .f32) (x1 : FVec Ideal S512x64 .f32) (x2 : FVec Ideal S1x512 .f32) (r : Fin 2080) (o : Fin 64) :
    k2_pay3 (F := Ideal) (k2_pay8 x0 x1 x2) (Scalar.select (Scalar.cmpi .eq 130#32 0#32) 1#32 130#32) (k2_pay9 i) (k2_pay10 i) (k2_pay11 i) k2_pay12 (ix2 r o)
      = if r.val % 130 < 128 then x1 (ix2 (firstMin (kd (fun o => x0 (ix2 r o)) x1 x2)) o) else 0 := by
  pointwise [k2_pay3, k2_pay2]
  rw [row_test, place_row, select_test]

/-- The places stored for a block of rows. -/
theorem i_pay (x0 : FVec Ideal S2080x64 .f32) (x1 : FVec Ideal S512x64 .f32) (x2 : FVec Ideal S1x512 .f32) (r : Fin 2080) :
    k2_pay4 (k2_pay7 (F := Ideal) x0 x1 x2) (ix3 0 0 r) = BitVec.ofNat 32 (firstMin (kd (fun o => x0 (ix2 r o)) x1 x2)) := by
  pointwise [k2_pay4]
  exact place_word x0 x1 x2 r

/-- The sum of squares stored for a block of rows. -/
theorem s_pay (i : grid2.Coords) (x0 : FVec Ideal S2080x64 .f32) (x1 : FVec Ideal S512x64 .f32) (x2 : FVec Ideal S1x512 .f32) (r : Fin 2080) :
    k2_pay5 (F := Ideal) (k2_pay6 x0) (k2_pay8 x0 x1 x2) (Scalar.select (Scalar.cmpi .eq 130#32 0#32) 1#32 130#32) (k2_pay9 i) (k2_pay10 i) (k2_pay11 i) k2_pay12 (ix3 0 0 r)
      = ∑ r : Fin 2080, ∑ o : Fin 64, if r.val % 130 < 128 then
          (x1 (ix2 (firstMin (kd (fun o => x0 (ix2 r o)) x1 x2)) o) - x0 (ix2 r o)) * (x1 (ix2 (firstMin (kd (fun o => x0 (ix2 r o)) x1 x2)) o) - x0 (ix2 r o)) else 0 := by
  pointwise [k2_pay5, k2_pay2, k2_pay6]
  refine Finset.sum_congr rfl fun r _ => Finset.sum_congr rfl fun o _ => ?_
  rw [row_test, place_row, select_test, select_test]
  split_ifs <;> rfl

variable (c : Dev nD)

/-- The codes the call leaves. -/
theorem final2_3 : (dat2 V c).arrAt 3 cfg2.N = G2q (val S33280x64 (V c main_v47)) (val S512x64 (V c main_arg5)) (val S1x512 (V c main_v50)) := by
  refine (dat2 V c).arrAt_eq_of_covers 3 _ (by decide +kernel) fun t _ y => ?_
  blk_simp
  rw [after2_3]; frame_out
  simp only [k2_pay13, k2_pay14, k2_pay15, k2_pay16, k2_pay17]
  obtain ⟨e0, e1, e2⟩ := blk2 V c t
  obtain ⟨r, o, rfl⟩ : ∃ (r : Fin 2080) (o : Fin 64), y = ix2 r o := ⟨y 0, y 1, eq_ix2 y⟩
  rw [ld2_0, ld2_1, ld2_2]
  refine (q_pay _ _ _ _ r o).trans ?_
  rw [e1, e2]
  simp only [e0]
  have ht : (grid2.coords t 0).val < 16 := (grid2.coords t 0).isLt
  have hi : (((View.whole main_v51_0).slice (win2_3.rect t)).emb (ix2 r o) : S33280x64.Idx) = ix2 ⟨(grid2.coords t 0).val * 2080 + r.val, by omega⟩ o := by
    blk_ext [idx2 t]
  refine Eq.trans ?_ (congrArg (G2q (val S33280x64 (V c main_v47)) (val S512x64 (V c main_arg5)) (val S1x512 (V c main_v50))) hi).symm
  show _ = if ((grid2.coords t 0).val * 2080 + r.val) % 130 < 128 then _ else _
  have hr : ((grid2.coords t 0).val * 2080 + r.val) % 130 = r.val % 130 := by omega
  rw [hr]
  rfl

/-- The places the call leaves. -/
theorem final2_4 : (dat2 V c).arrAt 4 cfg2.N = G2i (val S33280x64 (V c main_v47)) (val S512x64 (V c main_arg5)) (val S1x512 (V c main_v50)) := by
  refine (dat2 V c).arrAt_eq_of_covers 4 _ (by decide +kernel) fun t _ y => ?_
  blk_simp
  rw [after2_4]; frame_out
  obtain ⟨e0, e1, e2⟩ := blk2 V c t
  obtain ⟨r, rfl⟩ : ∃ (r : Fin 2080), y = ix3 0 0 r := ⟨y 2, by
    refine (eq_ix3 y).trans ?_
    congr 1
    · exact Subsingleton.elim (α := Fin 1) _ _
    · exact Subsingleton.elim (α := Fin 1) _ _⟩
  refine (i_pay _ _ _ r).trans ?_
  rw [e1, e2]
  simp only [e0]
  have ht : (grid2.coords t 0).val < 16 := (grid2.coords t 0).isLt
  have hi : (((View.whole main_v51_1).slice (win2_4.rect t)).emb (ix3 0 0 r) : S16x1x2080.Idx) = ix3 (grid2.coords t 0) 0 r := by
    blk_ext [idx2 t]
  exact (congrArg (G2i (val S33280x64 (V c main_v47)) (val S512x64 (V c main_arg5)) (val S1x512 (V c main_v50))) hi).symm

/-- The sums of squares the call leaves. -/
theorem final2_5 : (dat2 V c).arrAt 5 cfg2.N = G2s (val S33280x64 (V c main_v47)) (val S512x64 (V c main_arg5)) (val S1x512 (V c main_v50)) := by
  refine (dat2 V c).arrAt_eq_of_covers 5 _ (by decide +kernel) fun t _ y => ?_
  blk_simp
  rw [after2_5]; frame_out
  simp only [k2_pay13, k2_pay14, k2_pay15, k2_pay16, k2_pay17]
  obtain ⟨e0, e1, e2⟩ := blk2 V c t
  obtain ⟨r, rfl⟩ : ∃ (r : Fin 2080), y = ix3 0 0 r := ⟨y 2, by
    refine (eq_ix3 y).trans ?_
    congr 1
    · exact Subsingleton.elim (α := Fin 1) _ _
    · exact Subsingleton.elim (α := Fin 1) _ _⟩
  rw [ld2_0, ld2_1, ld2_2]
  refine (s_pay _ _ _ _ r).trans ?_
  rw [e1, e2]
  simp only [e0]
  have hi : (((View.whole main_v51_2).slice (win2_5.rect t)).emb (ix3 0 0 r) : S16x1x2080.Idx) = ix3 (grid2.coords t 0) 0 r := by
    blk_ext [idx2 t]
  exact (congrArg (G2s (val S33280x64 (V c main_v47)) (val S512x64 (V c main_arg5)) (val S1x512 (V c main_v50))) hi).symm

end Cert.KernelIdeal.Layer

end
-- ==== Proof.MathVq.lean ====
/- The nearest code, the chosen codes and the loss. -/
module

public import proofs.«01_k».proof.Proof.HostLib
public import proofs.«01_k».proof.Proof.Region2

@[expose] public section

set_option maxRecDepth 16384

noncomputable section

namespace Cert.KernelIdeal.Layer

open Cert.KernelIdeal Cert.KernelIdeal.Gen Cert.Conv Idealize.ShloMosaic Idealize.ShloMosaic.TcCoe Idealize.SL.Sem

/-- A real number, not an infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.zero : IsReal 0 := ⟨0, rfl⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A nonnegative real factor may be taken out of a sum of extended reals. -/
theorem sum_factor {ι : Type} (s : Finset ι) (a : ℝ) (ha : 0 ≤ a) (f : ι → EReal) : ∑ i ∈ s, (a : EReal) * f i = (a : EReal) * ∑ i ∈ s, f i := by
  classical
  induction s using Finset.induction_on with
  | empty => simp
  | insert i s hi ih =>
    rw [Finset.sum_insert hi, Finset.sum_insert hi, ih, EReal.left_distrib_of_nonneg_of_ne_top (EReal.coe_nonneg.mpr ha) (EReal.coe_ne_top a)]

/-- Adding one real to every entry keeps the first least place. -/
theorem firstMin_shift {n : ℕ} (x y : Fin n → EReal) (S : ℝ) (hy : ∀ k, y k = (S : EReal) + x k) {k : Fin n} (h : FirstMin x k) : FirstMin y k := by
  obtain ⟨h1, h2⟩ := h
  constructor
  · intro k'
    rw [hy, hy]
    exact add_le_add le_rfl (h1 k')
  · intro k' hk
    rw [hy, hy]
    exact EReal.add_lt_add_left_coe (h2 k' hk) S

/-- The kernel's shortened distance has the same first least place as the squared distance, whatever the codes. -/
theorem firstMin_dist (z : Img 64 128) (cb : Fin 512 → Fin 64 → EReal) (cs : S1x512.Idx → EReal) (CB : S512x64.Idx → EReal)
    (hz : ∀ b o i j, IsReal (z b o i j)) (hCB : ∀ k o, CB (ix2 k o) = cb k o)
    (hcs : ∀ k, cs (ix2 0 k) = ∑ o : Fin 64, cb k o * cb k o) (b : Fin 2) (i j : Fin 128) (k : Fin 512)
    (h : FirstMin (kd (fun o => z b o i j) CB cs) k) : FirstMin (Cert.Conv.dist z cb b i j) k := by
  obtain ⟨S, hS⟩ : IsReal (∑ o : Fin 64, z b o i j * z b o i j) := IsReal.sum _ fun o => (hz b o i j).mul (hz b o i j)
  refine firstMin_shift _ _ S ?_ h
  intro k
  unfold Cert.Conv.dist kd
  rw [hcs, two_f32, hS]
  simp only [hCB]
  have e : ∑ o : Fin 64, ((2 : ℝ) : EReal) * z b o i j * cb k o = ((2 : ℝ) : EReal) * ∑ o : Fin 64, z b o i j * cb k o := by
    rw [← sum_factor _ 2 (by norm_num)]
    exact Finset.sum_congr rfl fun o _ => mul_assoc _ _ _
  rw [e, sub_eq_add_neg, sub_eq_add_neg, add_assoc, add_comm (-_)]

/-- The row of a pixel. -/
def pix (b : Fin 2) (i j : Fin 128) : Fin 33280 := ⟨(b.val * 128 + i.val) * 130 + j.val, by omega⟩

/-- The kernel's place of a pixel is the first least place of the squared distance. -/
theorem kplace_eq (z : Img 64 128) (cb : Fin 512 → Fin 64 → EReal) (Z : S33280x64.Idx → EReal) (cs : S1x512.Idx → EReal) (CB : S512x64.Idx → EReal)
    (hz : ∀ b o i j, IsReal (z b o i j)) (hCB : ∀ k o, CB (ix2 k o) = cb k o)
    (hcs : ∀ k, cs (ix2 0 k) = ∑ o : Fin 64, cb k o * cb k o) (hZ : ∀ b i j o, Z (ix2 (pix b i j) o) = z b o i j)
    (κ : Fin 2 → Fin 128 → Fin 128 → Fin 512) (hκ : ∀ b i j, FirstMin (Cert.Conv.dist z cb b i j) (κ b i j)) (b : Fin 2) (i j : Fin 128) :
    kplace Z CB cs (pix b i j) = κ b i j := by
  refine FirstMin.unique (firstMin_dist z cb cs CB hz hCB hcs b i j _ ?_) (hκ b i j)
  have e : (fun o => z b o i j) = fun o => Z (ix2 (pix b i j) o) := funext fun o => (hZ b i j o).symm
  rw [e]
  exact firstMin_spec _

/-- The place of a pixel among the sixteen blocks of rows. -/
def blockPix (t : Fin 2 × Fin 128 × Fin 128) : Fin 16 × Fin 2080 :=
  (⟨t.1.val * 8 + t.2.1.val / 16, by omega⟩, ⟨t.2.1.val % 16 * 130 + t.2.2.val, by omega⟩)

theorem blockPix_injective : Function.Injective blockPix := by
  rintro ⟨b, i, j⟩ ⟨b', i', j'⟩ h
  have h1 : b.val * 8 + i.val / 16 = b'.val * 8 + i'.val / 16 := congrArg (fun p => p.1.val) h
  have h2 : i.val % 16 * 130 + j.val = i'.val % 16 * 130 + j'.val := congrArg (fun p => p.2.val) h
  have hb : b = b' := Fin.ext (by omega)
  have hi : i = i' := Fin.ext (by omega)
  have hj : j = j' := Fin.ext (by omega)
  rw [hb, hi, hj]

/-- A sum over the blocks' rows that is zero past the image's width is the sum over the pixels. -/
theorem sum_blocks (F : Fin 16 → Fin 2080 → EReal) (g : Fin 2 → Fin 128 → Fin 128 → EReal) (h0 : ∀ t r, ¬ r.val % 130 < 128 → F t r = 0)
    (h : ∀ t : Fin 2 × Fin 128 × Fin 128, g t.1 t.2.1 t.2.2 = F (blockPix t).1 (blockPix t).2) : ∑ t, ∑ r, F t r = ∑ b, ∑ i, ∑ j, g b i j := by
  have e1 : ∑ b, ∑ i, ∑ j, g b i j = ∑ t : Fin 2 × Fin 128 × Fin 128, g t.1 t.2.1 t.2.2 := by
    rw [Fintype.sum_prod_type]
    refine Finset.sum_congr rfl fun c _ => ?_
    rw [Fintype.sum_prod_type]
  have e2 : ∑ t, ∑ r, F t r = ∑ p : Fin 16 × Fin 2080, F p.1 p.2 := by rw [Fintype.sum_prod_type]
  rw [e1, e2]
  refine (Fintype.sum_of_injective blockPix blockPix_injective _ _ ?_ h).symm
  rintro ⟨t, r⟩ hp
  refine h0 t r fun hr => hp ⟨(⟨t.val / 8, by omega⟩, ⟨t.val % 8 * 16 + r.val / 130, by omega⟩, ⟨r.val % 130, hr⟩), ?_⟩
  refine Prod.ext (Fin.ext ?_) (Fin.ext ?_)
  · show t.val / 8 * 8 + (t.val % 8 * 16 + r.val / 130) / 16 = t.val
    omega
  · show (t.val % 8 * 16 + r.val / 130) % 16 * 130 + r.val % 130 = r.val
    omega

/-- The sixteen partial sums add up to the squared difference of the chosen codes and the latents. -/
theorem sum_G2s (z q : Img 64 128) (Z : S33280x64.Idx → EReal) (cs : S1x512.Idx → EReal) (CB : S512x64.Idx → EReal)
    (hZ : ∀ b i j o, Z (ix2 (pix b i j) o) = z b o i j) (hq : ∀ b i j o, CB (ix2 (kplace Z CB cs (pix b i j)) o) = q b o i j) :
    ∑ t : Fin 16, G2s Z CB cs (ix3 t 0 0) = sqSum q z := by
  refine sum_blocks (fun t r => ∑ o : Fin 64,
    if r.val % 130 < 128 then
      (CB (ix2 (kplace Z CB cs ⟨t.val * 2080 + r.val, by omega⟩) o) - Z (ix2 ⟨t.val * 2080 + r.val, by omega⟩ o))
        * (CB (ix2 (kplace Z CB cs ⟨t.val * 2080 + r.val, by omega⟩) o) - Z (ix2 ⟨t.val * 2080 + r.val, by omega⟩ o)) else 0)
    (fun b i j => ∑ o : Fin 64, (q b o i j - z b o i j) * (q b o i j - z b o i j)) ?_ ?_
  · intro t r hr
    exact Finset.sum_eq_zero fun o _ => if_neg hr
  · rintro ⟨b, i, j⟩
    refine Finset.sum_congr rfl fun o _ => ?_
    have e : (⟨(blockPix (b, i, j)).1.val * 2080 + (blockPix (b, i, j)).2.val, by omega⟩ : Fin 33280) = pix b i j := by
      refine Fin.ext ?_
      show (b.val * 8 + i.val / 16) * 2080 + (i.val % 16 * 130 + j.val) = (b.val * 128 + i.val) * 130 + j.val
      omega
    refine Eq.trans ?_ (if_pos (by show (i.val % 16 * 130 + j.val) % 130 < 128; omega)).symm
    rw [e, hZ, hq]

/-- Five quarters of the sum, over the number of entries, is the mean and a quarter of it. -/
theorem loss_eq (s : EReal) :
    Ideal.div (Ideal.ofBits .f32 0x3FA00000#32 * s) (Ideal.ofBits .f32 0x4A000000#32) = lossOf s := by
  unfold lossOf
  rw [fiveQuarters_f32, entries_f32, quarter_f32, Ideal.div_coe (by norm_num), Ideal.div_coe (by norm_num)]
  induction s using EReal.rec with
  | bot => rw [EReal.coe_mul_bot_of_pos (by norm_num), EReal.bot_mul_coe_of_pos (by norm_num), EReal.bot_add]
  | top => rw [EReal.coe_mul_top_of_pos (by norm_num), EReal.top_mul_coe_of_pos (by norm_num), EReal.coe_mul_top_of_pos (by norm_num), EReal.top_add_top]
  | coe r =>
    simp only [← EReal.coe_mul, ← EReal.coe_add]
    refine congrArg _ ?_
    ring

/-- The straight-through value is the chosen code, where the latent is real. -/
theorem straight {z q : EReal} (hz : IsReal z) : z + (q - z) = q := by
  obtain ⟨a, rfl⟩ := hz
  induction q using EReal.rec with
  | bot => rw [EReal.bot_sub, EReal.add_bot]
  | top => rw [EReal.top_sub_coe, EReal.coe_add_top]
  | coe b =>
    rw [← EReal.coe_sub, ← EReal.coe_add]
    refine congrArg _ ?_
    ring

/-- A convolution of real images by real filters is real. -/
theorem down_real {O C n m : ℕ} (x : Img C n) (w : Filt O C) (bias : Fin O → EReal) (hx : ∀ b c i j, IsReal (x b c i j)) (hw : ∀ o c d e, IsReal (w o c d e))
    (hb : ∀ o, IsReal (bias o)) (b : Fin 2) (o : Fin O) (i j : Fin m) : IsReal (down x w bias b o i j) := by
  refine IsReal.add (IsReal.sum _ fun c => IsReal.sum _ fun d => IsReal.sum _ fun e => (hw o c d e).mul ?_) (hb o)
  unfold pad1
  split
  · exact hx _ _ _ _
  · exact IsReal.zero

end Cert.KernelIdeal.Layer
end
-- ==== Proof.Pre.lean ====
/- The precondition read back: every entry of the first five arguments is a real number. -/
module

public import proofs.«01_k».proof.Pre_finite
public import proofs.«01_k».proof.Proof.MathVq
public import Idealize.ShloMosaic.Lib.ReduceAll

@[expose] public section

noncomputable section

namespace Cert.Pre_finite

open Idealize.ShloMosaic Cert.KernelIdeal.Layer

/-- The precondition's shape relations hold. -/
theorem sides : Facts where
  bcast_S_S2x3x512x512 := by decide
  reducesTo_S2x3x512x512_S_d0_1_2_3 := by decide
  h_S_ := by decide
  bcast_S_S64x3x4x4 := by decide
  reducesTo_S64x3x4x4_S_d0_1_2_3 := by decide
  bcast_S_S64 := by decide
  reducesTo_S64_S_d0 := by decide
  bcast_S_S64x64x4x4 := by decide
  reducesTo_S64x64x4x4_S_d0_1_2_3 := by decide

/-- The precondition's bound is the top element. -/
theorem bound_top : Ideal.ofBits .f32 0x7F800000#32 = (⊤ : EReal) := by
  simp [Ideal.ofBits, Ideal.ieee]

/-- An extended real whose absolute value lies below the top element is real. -/
theorem real_of_abs (x : EReal) (h : max x (-x) < ⊤) : IsReal x := by
  induction x using EReal.rec with
  | bot => simp at h
  | coe r => exact ⟨r, rfl⟩
  | top => simp at h

/-- Two one-bit words whose conjunction is one are both one. -/
theorem and_one : ∀ a b : BitVec 1, IntOp.andi a b = 1#1 → a = 1#1 ∧ b = 1#1 := by decide

/-- If the conjunction of all comparisons of an array's absolute values with the bound is one, the array is real. -/
theorem real_of_all {s : Shape} {axes : List (Fin s.rank)} (x : FVec Ideal s .f32) (init : IVec ⟨0, ![]⟩ 1)
    (hb : Shape.BroadcastsInDim ⟨0, ![]⟩ s (![] : Fin 0 → Fin s.rank)) (hr : s.ReducesTo axes ⟨0, ![]⟩) (hu : 0 < Shape.numel ⟨0, ![]⟩)
    (j : Shape.Idx ⟨0, ![]⟩)
    (e : Host.reduce IntOp.andi (cmpf .olt (Host.absf x) (broadcastInDim s ![] hb (constant ⟨0, ![]⟩ .f32 0x7F800000#32))) init hr hu j = 1#1)
    (i : s.Idx) : IsReal (x i) := by
  haveI : Subsingleton (Shape.Idx ⟨0, ![]⟩) := ⟨fun a b => funext fun k => k.elim0⟩
  have h := Host.reduce_andi_all _ _ _ _ _ e i
  have h' : BitVec.ofBool (decide (max (x i) (-(x i)) < Ideal.ofBits .f32 0x7F800000#32)) = 1#1 := h
  rw [bound_top] at h'
  apply real_of_abs
  by_contra hc
  rw [decide_eq_false hc] at h'
  exact absurd h' (by decide)

variable [Facts]

/-- Where the precondition holds, the first five arguments are real. -/
theorem real_args (a0 : FVec Ideal S2x3x512x512 .f32) (a1 : FVec Ideal S64x3x4x4 .f32) (a2 : FVec Ideal S64 .f32)
    (a3 : FVec Ideal S64x64x4x4 .f32) (a4 : FVec Ideal S64 .f32) (a5 : FVec Ideal S512x64 .f32) (a6 : FVec Ideal S64x64x4x4 .f32)
    (a7 : FVec Ideal S64 .f32) (a8 : FVec Ideal S64x3x4x4 .f32) (a9 : FVec Ideal S3 .f32)
    (e : fn a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) := by
  have h := congrFun e (fun k => k.elim0)
  obtain ⟨h, h4⟩ := and_one _ _ h
  obtain ⟨h, h3⟩ := and_one _ _ h
  obtain ⟨h, h2⟩ := and_one _ _ h
  obtain ⟨h0, h1⟩ := and_one _ _ h
  exact ⟨real_of_all a0 (constantI S_ 1 1#1) Facts.bcast_S_S2x3x512x512 Facts.reducesTo_S2x3x512x512_S_d0_1_2_3 Facts.h_S_ (fun k => k.elim0) h0,
    real_of_all a1 (constantI S_ 1 1#1) Facts.bcast_S_S64x3x4x4 Facts.reducesTo_S64x3x4x4_S_d0_1_2_3 Facts.h_S_ (fun k => k.elim0) h1,
    real_of_all a2 (constantI S_ 1 1#1) Facts.bcast_S_S64 Facts.reducesTo_S64_S_d0 Facts.h_S_ (fun k => k.elim0) h2,
    real_of_all a3 (constantI S_ 1 1#1) Facts.bcast_S_S64x64x4x4 Facts.reducesTo_S64x64x4x4_S_d0_1_2_3 Facts.h_S_ (fun k => k.elim0) h3,
    real_of_all a4 (constantI S_ 1 1#1) Facts.bcast_S_S64 Facts.reducesTo_S64_S_d0 Facts.h_S_ (fun k => k.elim0) h4⟩

end Cert.Pre_finite

end
end
-- ==== Proof.RefRun.lean ====
/- The reference program as a list of its host operations, cut into windows, and its run: the final buffers are the
   windows' results, one after the other. -/
module

public import proofs.«01_k».proof.Proof.Gen.ReferenceIdeal
public import Idealize.ShloMosaic.Lib.StableHlo.Run
public import Idealize.ShloMosaic.Lib.Pipeline.Frame

@[expose] public section

set_option maxRecDepth 8192

noncomputable section

namespace Cert.ReferenceIdeal.Windows

open Cert.ReferenceIdeal Cert.ReferenceIdeal.Gen Idealize.ShloMosaic Idealize.ShloMosaic.TcCoe Idealize.SL.Sem Idealize.ShloMosaic.StableHlo

variable {F : FTy → Type} [FloatOps F]

/-- The 4 slices of one axis, put side by side: what the operation writing `main_v16` computes. -/
def stack_v16 (u0 u1 u2 u3 : (⟨S2x3x1x256x514, .f32⟩ : BufTy).Contents (Elt F)) : (⟨S2x3x4x256x514, .f32⟩ : BufTy).Contents (Elt F) :=
  concatenate S2x3x4x256x514 2 [⟨S2x3x1x256x514, u0⟩, ⟨S2x3x1x256x514, u1⟩, ⟨S2x3x1x256x514, u2⟩, ⟨S2x3x1x256x514, u3⟩] concatenates_S2x3x1x256x514_S2x3x1x256x514_S2x3x1x256x514_S2x3x1x256x514_S2x3x4x256x514_d2

/-- The 4 slices of one axis, put side by side: what the operation writing `main_v25` computes. -/
def stack_v25 (u0 u1 u2 u3 : (⟨S2x3x4x1x256x256, .f32⟩ : BufTy).Contents (Elt F)) : (⟨S2x3x4x4x256x256, .f32⟩ : BufTy).Contents (Elt F) :=
  concatenate S2x3x4x4x256x256 3 [⟨S2x3x4x1x256x256, u0⟩, ⟨S2x3x4x1x256x256, u1⟩, ⟨S2x3x4x1x256x256, u2⟩, ⟨S2x3x4x1x256x256, u3⟩] concatenates_S2x3x4x1x256x256_S2x3x4x1x256x256_S2x3x4x1x256x256_S2x3x4x1x256x256_S2x3x4x4x256x256_d3

/-- The 4 slices of one axis, put side by side: what the operation writing `main_v42` computes. -/
def stack_v42 (u0 u1 u2 u3 : (⟨S2x64x1x128x258, .f32⟩ : BufTy).Contents (Elt F)) : (⟨S2x64x4x128x258, .f32⟩ : BufTy).Contents (Elt F) :=
  concatenate S2x64x4x128x258 2 [⟨S2x64x1x128x258, u0⟩, ⟨S2x64x1x128x258, u1⟩, ⟨S2x64x1x128x258, u2⟩, ⟨S2x64x1x128x258, u3⟩] concatenates_S2x64x1x128x258_S2x64x1x128x258_S2x64x1x128x258_S2x64x1x128x258_S2x64x4x128x258_d2

/-- The 4 slices of one axis, put side by side: what the operation writing `main_v51` computes. -/
def stack_v51 (u0 u1 u2 u3 : (⟨S2x64x4x1x128x128, .f32⟩ : BufTy).Contents (Elt F)) : (⟨S2x64x4x4x128x128, .f32⟩ : BufTy).Contents (Elt F) :=
  concatenate S2x64x4x4x128x128 3 [⟨S2x64x4x1x128x128, u0⟩, ⟨S2x64x4x1x128x128, u1⟩, ⟨S2x64x4x1x128x128, u2⟩, ⟨S2x64x4x1x128x128, u3⟩] concatenates_S2x64x4x1x128x128_S2x64x4x1x128x128_S2x64x4x1x128x128_S2x64x4x1x128x128_S2x64x4x4x128x128_d3

/-- The 4 slices of one axis, put side by side: what the operation writing `main_v101` computes. -/
def stack_v101 (u0 u1 u2 u3 : (⟨S2x64x1x256x259, .f32⟩ : BufTy).Contents (Elt F)) : (⟨S2x64x4x256x259, .f32⟩ : BufTy).Contents (Elt F) :=
  concatenate S2x64x4x256x259 2 [⟨S2x64x1x256x259, u0⟩, ⟨S2x64x1x256x259, u1⟩, ⟨S2x64x1x256x259, u2⟩, ⟨S2x64x1x256x259, u3⟩] concatenates_S2x64x1x256x259_S2x64x1x256x259_S2x64x1x256x259_S2x64x1x256x259_S2x64x4x256x259_d2

/-- The 4 slices of one axis, put side by side: what the operation writing `main_v110` computes. -/
def stack_v110 (u0 u1 u2 u3 : (⟨S2x64x4x1x256x256, .f32⟩ : BufTy).Contents (Elt F)) : (⟨S2x64x4x4x256x256, .f32⟩ : BufTy).Contents (Elt F) :=
  concatenate S2x64x4x4x256x256 3 [⟨S2x64x4x1x256x256, u0⟩, ⟨S2x64x4x1x256x256, u1⟩, ⟨S2x64x4x1x256x256, u2⟩, ⟨S2x64x4x1x256x256, u3⟩] concatenates_S2x64x4x1x256x256_S2x64x4x1x256x256_S2x64x4x1x256x256_S2x64x4x1x256x256_S2x64x4x4x256x256_d3

/-- The 4 slices of one axis, put side by side: what the operation writing `main_v129` computes. -/
def stack_v129 (u0 u1 u2 u3 : (⟨S2x64x1x512x515, .f32⟩ : BufTy).Contents (Elt F)) : (⟨S2x64x4x512x515, .f32⟩ : BufTy).Contents (Elt F) :=
  concatenate S2x64x4x512x515 2 [⟨S2x64x1x512x515, u0⟩, ⟨S2x64x1x512x515, u1⟩, ⟨S2x64x1x512x515, u2⟩, ⟨S2x64x1x512x515, u3⟩] concatenates_S2x64x1x512x515_S2x64x1x512x515_S2x64x1x512x515_S2x64x1x512x515_S2x64x4x512x515_d2

/-- The 4 slices of one axis, put side by side: what the operation writing `main_v138` computes. -/
def stack_v138 (u0 u1 u2 u3 : (⟨S2x64x4x1x512x512, .f32⟩ : BufTy).Contents (Elt F)) : (⟨S2x64x4x4x512x512, .f32⟩ : BufTy).Contents (Elt F) :=
  concatenate S2x64x4x4x512x512 3 [⟨S2x64x4x1x512x512, u0⟩, ⟨S2x64x4x1x512x512, u1⟩, ⟨S2x64x4x1x512x512, u2⟩, ⟨S2x64x4x1x512x512, u3⟩] concatenates_S2x64x4x1x512x512_S2x64x4x1x512x512_S2x64x4x1x512x512_S2x64x4x1x512x512_S2x64x4x4x512x512_d3

/-- Operations of the reference up to the one that writes `main_v7`: window 0. -/
abbrev win0 : List (HloOp τ sig (Elt F)) :=
  [ nullary main_cst (constant S_ .f32 0x7F800000#32),
    binary main_arg0 main_cst main_v0 ((fun x v => Host.reduce FloatOps.minimumf x v reducesTo_S2x3x512x512_S_d0_1_2_3 h_S_) : (⟨S2x3x512x512, .f32⟩ : BufTy).Contents (Elt F) → (⟨S_, .f32⟩ : BufTy).Contents (Elt F) → (⟨S_, .f32⟩ : BufTy).Contents (Elt F)),
    nullary main_cst_0 (constant S_ .f32 0x00000000#32),
    binary main_v0 main_cst_0 main_v1 (cmpf .oge : (⟨S_, .f32⟩ : BufTy).Contents (Elt F) → (⟨S_, .f32⟩ : BufTy).Contents (Elt F) → (⟨S_, .i1⟩ : BufTy).Contents (Elt F)),
    nullary main_cst_1 (constant S_ .f32 0x40000000#32),
    unary main_cst_1 main_v2 (broadcastInDim S2x3x512x512 ![] bcast_S_S2x3x512x512 : (⟨S_, .f32⟩ : BufTy).Contents (Elt F) → (⟨S2x3x512x512, .f32⟩ : BufTy).Contents (Elt F)),
    binary main_arg0 main_v2 main_v3 (mulf : (⟨S2x3x512x512, .f32⟩ : BufTy).Contents (Elt F) → (⟨S2x3x512x512, .f32⟩ : BufTy).Contents (Elt F) → (⟨S2x3x512x512, .f32⟩ : BufTy).Contents (Elt F)),
    nullary main_cst_2 (constant S_ .f32 0x3F800000#32),
    unary main_cst_2 main_v4 (broadcastInDim S2x3x512x512 ![] bcast_S_S2x3x512x512 : (⟨S_, .f32⟩ : BufTy).Contents (Elt F) → (⟨S2x3x512x512, .f32⟩ : BufTy).Contents (Elt F)),
    binary main_v3 main_v4 main_v5 (subf : (⟨S2x3x512x512, .f32⟩ : BufTy).Contents (Elt F) → (⟨S2x3x512x512, .f32⟩ : BufTy).Contents (Elt F) → (⟨S2x3x512x512, .f32⟩ : BufTy).Contents (Elt F)),
    TRef.ternary (TRef.of (T := ⟨S_, .i1⟩) main_v1) (TRef.of (T := ⟨S2x3x512x512, .f32⟩) main_v5) (TRef.of (T := ⟨S2x3x512x512, .f32⟩) main_arg0) (TRef.of (T := ⟨S2x3x512x512, .f32⟩) main_v6) (fun p a b => select (broadcastInDim S2x3x512x512 ![] bcast_S_S2x3x512x512 p) a b),
    nullary main_cst_3 (constant S_ .f32 0x00000000#32),
    binary main_v6 main_cst_3 main_v7 ((fun x v => pad S2x3x514x514 ![0, 0, 1, 1] ![0, 0, 1, 1] ![0, 0, 0, 0] x v pads_S2x3x512x512_S2x3x514x514_000_000_110_110 h_S_) : (⟨S2x3x512x512, .f32⟩ : BufTy).Contents (Elt F) → (⟨S_, .f32⟩ : BufTy).Contents (Elt F) → (⟨S2x3x514x514, .f32⟩ : BufTy).Contents (Elt F)) ]

/-- The buffers window 0 writes, in order. -/
abbrev win0_W : List (Ref sig .tc) := [main_cst, main_v0, main_cst_0, main_v1, main_cst_1, main_v2, main_v3, main_cst_2, main_v4, main_v5, main_v6, main_cst_3, main_v7]

theorem win0_writes : (win0 : List (HloOp τ sig (Elt F))).Forall fun op => op.writes ⊆ (win0_W.map (Proc.devRef (τ := τ) .tc)).toFinset :=
  forall_writes_sub_of_map rfl

theorem win0_fresh : (win0 : List (HloOp τ sig (Elt F))).Forall fun op => op.fresh = ∅ := by
  simp only [List.Forall]; repeat' constructor

theorem win0_sub : (win0 : List (HloOp τ sig (Elt F))).Forall fun op => op.bufs ⊆ tcRefs τ sig :=
  ⟨nullary_bufs_sub .., binary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., binary_bufs_sub ..⟩

/-- A buffer window 0 does not write keeps its contents through it. -/
theorem win0_keep (V : Valuation τ sig (Elt F)) (r : Ref sig .tc) (h : r ∉ win0_W) :
    after win0 V (Proc.devRef .tc r) = V (Proc.devRef .tc r) :=
  after_of_writes_sub win0 V win0_writes h

/-- Operations of the reference up to the one that writes `main_v25`: window 1. -/
abbrev win1 : List (HloOp τ sig (Elt F)) :=
  [ unary main_v7 main_v8 ((Host.slice S2x3x256x514 ![0, 0, 0, 0] ![1, 1, 2, 1] · slicesBy_S2x3x514x514_S2x3x256x514_0s1_0s1_0s2_0s1) : (⟨S2x3x514x514, .f32⟩ : BufTy).Contents (Elt F) → (⟨S2x3x256x514, .f32⟩ : BufTy).Contents (Elt F)),
    unary main_v7 main_v9 ((Host.slice S2x3x256x514 ![0, 0, 1, 0] ![1, 1, 2, 1] · slicesBy_S2x3x514x514_S2x3x256x514_0s1_0s1_1s2_0s1) : (⟨S2x3x514x514, .f32⟩ : BufTy).Contents (Elt F) → (⟨S2x3x256x514, .f32⟩ : BufTy).Contents (Elt F)),
    unary main_v7 main_v10 ((Host.slice S2x3x256x514 ![0, 0, 2, 0] ![1, 1, 2, 1] · slicesBy_S2x3x514x514_S2x3x256x514_0s1_0s1_2s2_0s1) : (⟨S2x3x514x514, .f32⟩ : BufTy).Contents (Elt F) → (⟨S2x3x256x514, .f32⟩ : BufTy).Contents (Elt F)),
    unary main_v7 main_v11 ((Host.slice S2x3x256x514 ![0, 0, 3, 0] ![1, 1, 2, 1] · slicesBy_S2x3x514x514_S2x3x256x514_0s1_0s1_3s2_0s1) : (⟨S2x3x514x514, .f32⟩ : BufTy).Contents (Elt F) → (⟨S2x3x256x514, .f32⟩ : BufTy).Contents (Elt F)),
    unary main_v8 main_v12 (broadcastInDim S2x3x1x256x514 ![0, 1, 3, 4] bcast_S2x3x256x514_S2x3x1x256x514_0_1_3_4 : (⟨S2x3x256x514, .f32⟩ : BufTy).Contents (Elt F) → (⟨S2x3x1x256x514, .f32⟩ : BufTy).Contents (Elt F)),
    unary main_v9 main_v13 (broadcastInDim S2x3x1x256x514 ![0, 1, 3, 4] bcast_S2x3x256x514_S2x3x1x256x514_0_1_3_4 : (⟨S2x3x256x514, .f32⟩ : BufTy).Contents (Elt F) → (⟨S2x3x1x256x514, .f32⟩ : BufTy).Contents (Elt F)),
    unary main_v10 main_v14 (broadcastInDim S2x3x1x256x514 ![0, 1, 3, 4] bcast_S2x3x256x514_S2x3x1x256x514_0_1_3_4 : (⟨S2x3x256x514, .f32⟩ : BufTy).Contents (Elt F) → (⟨S2x3x1x256x514, .f32⟩ : BufTy).Contents (Elt F)),
    unary main_v11 main_v15 (broadcastInDim S2x3x1x256x514 ![0, 1, 3, 4] bcast_S2x3x256x514_S2x3x1x256x514_0_1_3_4 : (⟨S2x3x256x514, .f32⟩ : BufTy).Contents (Elt F) → (⟨S2x3x1x256x514, .f32⟩ : BufTy).Contents (Elt F)),
    nary ![main_v12, main_v13, main_v14, main_v15] main_v16 (fun u => stack_v16 (u 0) (u 1) (u 2) (u 3)),
    unary main_v16 main_v17 ((Host.slice S2x3x4x256x256 ![0, 0, 0, 0, 0] ![1, 1, 1, 1, 2] · slicesBy_S2x3x4x256x514_S2x3x4x256x256_0s1_0s1_0s1_0s1_0s2) : (⟨S2x3x4x256x514, .f32⟩ : BufTy).Contents (Elt F) → (⟨S2x3x4x256x256, .f32⟩ : BufTy).Contents (Elt F)),
    unary main_v16 main_v18 ((Host.slice S2x3x4x256x256 ![0, 0, 0, 0, 1] ![1, 1, 1, 1, 2] · slicesBy_S2x3x4x256x514_S2x3x4x256x256_0s1_0s1_0s1_0s1_1s2) : (⟨S2x3x4x256x514, .f32⟩ : BufTy).Contents (Elt F) → (⟨S2x3x4x256x256, .f32⟩ : BufTy).Contents (Elt F)),
    unary main_v16 main_v19 ((Host.slice S2x3x4x256x256 ![0, 0, 0, 0, 2] ![1, 1, 1, 1, 2] · slicesBy_S2x3x4x256x514_S2x3x4x256x256_0s1_0s1_0s1_0s1_2s2) : (⟨S2x3x4x256x514, .f32⟩ : BufTy).Contents (Elt F) → (⟨S2x3x4x256x256, .f32⟩ : BufTy).Contents (Elt F)),
    unary main_v16 main_v20 ((Host.slice S2x3x4x256x256 ![0, 0, 0, 0, 3] ![1, 1, 1, 1, 2] · slicesBy_S2x3x4x256x514_S2x3x4x256x256_0s1_0s1_0s1_0s1_3s2) : (⟨S2x3x4x256x514, .f32⟩ : BufTy).Contents (Elt F) → (⟨S2x3x4x256x256, .f32⟩ : BufTy).Contents (Elt F)),
    unary main_v17 main_v21 (broadcastInDim S2x3x4x1x256x256 ![0, 1, 2, 4, 5] bcast_S2x3x4x256x256_S2x3x4x1x256x256_0_1_2_4_5 : (⟨S2x3x4x256x256, .f32⟩ : BufTy).Contents (Elt F) → (⟨S2x3x4x1x256x256, .f32⟩ : BufTy).Contents (Elt F)),
    unary main_v18 main_v22 (broadcastInDim S2x3x4x1x256x256 ![0, 1, 2, 4, 5] bcast_S2x3x4x256x256_S2x3x4x1x256x256_0_1_2_4_5 : (⟨S2x3x4x256x256, .f32⟩ : BufTy).Contents (Elt F) → (⟨S2x3x4x1x256x256, .f32⟩ : BufTy).Contents (Elt F)),
    unary main_v19 main_v23 (broadcastInDim S2x3x4x1x256x256 ![0, 1, 2, 4, 5] bcast_S2x3x4x256x256_S2x3x4x1x256x256_0_1_2_4_5 : (⟨S2x3x4x256x256, .f32⟩ : BufTy).Contents (Elt F) → (⟨S2x3x4x1x256x256, .f32⟩ : BufTy).Contents (Elt F)),
    unary main_v20 main_v24 (broadcastInDim S2x3x4x1x256x256 ![0, 1, 2, 4, 5] bcast_S2x3x4x256x256_S2x3x4x1x256x256_0_1_2_4_5 : (⟨S2x3x4x256x256, .f32⟩ : BufTy).Contents (Elt F) → (⟨S2x3x4x1x256x256, .f32⟩ : BufTy).Contents (Elt F)),
    nary ![main_v21, main_v22, main_v23, main_v24] main_v25 (fun u => stack_v25 (u 0) (u 1) (u 2) (u 3)) ]

/-- The buffers window 1 writes, in order. -/
abbrev win1_W : List (Ref sig .tc) := [main_v8, main_v9, main_v10, main_v11, main_v12, main_v13, main_v14, main_v15, main_v16, main_v17, main_v18, main_v19, main_v20, main_v21, main_v22, main_v23, main_v24, main_v25]

theorem win1_writes : (win1 : List (HloOp τ sig (Elt F))).Forall fun op => op.writes ⊆ (win1_W.map (Proc.devRef (τ := τ) .tc)).toFinset :=
  forall_writes_sub_of_map rfl

theorem win1_fresh : (win1 : List (HloOp τ sig (Elt F))).Forall fun op => op.fresh = ∅ := by
  simp only [List.Forall]; repeat' constructor

theorem win1_sub : (win1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub ..⟩

/-- A buffer window 1 does not write keeps its contents through it. -/
theorem win1_keep (V : Valuation τ sig (Elt F)) (r : Ref sig .tc) (h : r ∉ win1_W) :
    after win1 V (Proc.devRef .tc r) = V (Proc.devRef .tc r) :=
  after_of_writes_sub win1 V win1_writes h

/-- Operations of the reference up to the one that writes `main_v32`: window 2. -/
abbrev win2 : List (HloOp τ sig (Elt F)) :=
  [ binary main_arg1 main_v25 main_v26 ((fun l r => Host.dotGeneral dot_S64x3x4x4_S2x3x4x4x256x256_S64x2x256x256_123_123_0_045_n_n none l r) : (⟨S64x3x4x4, .f32⟩ : BufTy).Contents (Elt F) → (⟨S2x3x4x4x256x256, .f32⟩ : BufTy).Contents (Elt F) → (⟨S64x2x256x256, .f32⟩ : BufTy).Contents (Elt F)),
    unary main_v26 main_v27 ((transpose S2x64x256x256 [1, 0, 2, 3] · transposes_S64x2x256x256_S2x64x256x256_1_0_2_3) : (⟨S64x2x256x256, .f32⟩ : BufTy).Contents (Elt F) → (⟨S2x64x256x256, .f32⟩ : BufTy).Contents (Elt F)),
    unary main_arg2 main_v28 (broadcastInDim S1x64x1x1 ![1] bcast_S64_S1x64x1x1_1 : (⟨S64, .f32⟩ : BufTy).Contents (Elt F) → (⟨S1x64x1x1, .f32⟩ : BufTy).Contents (Elt F)),
    unary main_v28 main_v29 (broadcastInDim S2x64x256x256 ![0, 1, 2, 3] bcast_S1x64x1x1_S2x64x256x256_0_1_2_3 : (⟨S1x64x1x1, .f32⟩ : BufTy).Contents (Elt F) → (⟨S2x64x256x256, .f32⟩ : BufTy).Contents (Elt F)),
    binary main_v27 main_v29 main_v30 (addf : (⟨S2x64x256x256, .f32⟩ : BufTy).Contents (Elt F) → (⟨S2x64x256x256, .f32⟩ : BufTy).Contents (Elt F) → (⟨S2x64x256x256, .f32⟩ : BufTy).Contents (Elt F)),
    nullary main_cst_4 (constant S_ .f32 0x00000000#32),
    unary main_cst_4 main_v31 (broadcastInDim S2x64x256x256 ![] bcast_S_S2x64x256x256 : (⟨S_, .f32⟩ : BufTy).Contents (Elt F) → (⟨S2x64x256x256, .f32⟩ : BufTy).Contents (Elt F)),
    binary main_v30 main_v31 main_v32 (maximumf : (⟨S2x64x256x256, .f32⟩ : BufTy).Contents (Elt F) → (⟨S2x64x256x256, .f32⟩ : BufTy).Contents (Elt F) → (⟨S2x64x256x256, .f32⟩ : BufTy).Contents (Elt F)) ]

/-- The buffers window 2 writes, in order. -/
abbrev win2_W : List (Ref sig .tc) := [main_v26, main_v27, main_v28, main_v29, main_v30, main_cst_4, main_v31, main_v32]

theorem win2_writes : (win2 : List (HloOp τ sig (Elt F))).Forall fun op => op.writes ⊆ (win2_W.map (Proc.devRef (τ := τ) .tc)).toFinset :=
  forall_writes_sub_of_map rfl

theorem win2_fresh : (win2 : List (HloOp τ sig (Elt F))).Forall fun op => op.fresh = ∅ := by
  simp only [List.Forall]; repeat' constructor

theorem win2_sub : (win2 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub ..⟩

/-- A buffer window 2 does not write keeps its contents through it. -/
theorem win2_keep (V : Valuation τ sig (Elt F)) (r : Ref sig .tc) (h : r ∉ win2_W) :
    after win2 V (Proc.devRef .tc r) = V (Proc.devRef .tc r) :=
  after_of_writes_sub win2 V win2_writes h

/-- Operations of the reference up to the one that writes `main_v33`: window 3. -/
abbrev win3 : List (HloOp τ sig (Elt F)) :=
  [ nullary main_cst_5 (constant S_ .f32 0x00000000#32),
    binary main_v32 main_cst_5 main_v33 ((fun x v => pad S2x64x258x258 ![0, 0, 1, 1] ![0, 0, 1, 1] ![0, 0, 0, 0] x v pads_S2x64x256x256_S2x64x258x258_000_000_110_110 h_S_) : (⟨S2x64x256x256, .f32⟩ : BufTy).Contents (Elt F) → (⟨S_, .f32⟩ : BufTy).Contents (Elt F) → (⟨S2x64x258x258, .f32⟩ : BufTy).Contents (Elt F)) ]

/-- The buffers window 3 writes, in order. -/
abbrev win3_W : List (Ref sig .tc) := [main_cst_5, main_v33]

theorem win3_writes : (win3 : List (HloOp τ sig (Elt F))).Forall fun op => op.writes ⊆ (win3_W.map (Proc.devRef (τ := τ) .tc)).toFinset :=
  forall_writes_sub_of_map rfl

theorem win3_fresh : (win3 : List (HloOp τ sig (Elt F))).Forall fun op => op.fresh = ∅ := by
  simp only [List.Forall]; repeat' constructor

theorem win3_sub : (win3 : List (HloOp τ sig (Elt F))).Forall fun op => op.bufs ⊆ tcRefs τ sig :=
  ⟨nullary_bufs_sub .., binary_bufs_sub ..⟩

/-- A buffer window 3 does not write keeps its contents through it. -/
theorem win3_keep (V : Valuation τ sig (Elt F)) (r : Ref sig .tc) (h : r ∉ win3_W) :
    after win3 V (Proc.devRef .tc r) = V (Proc.devRef .tc r) :=
  after_of_writes_sub win3 V win3_writes h

/-- Operations of the reference up to the one that writes `main_v51`: window 4. -/
abbrev win4 : List (HloOp τ sig (Elt F)) :=
  [ unary main_v33 main_v34 ((Host.slice S2x64x128x258 ![0, 0, 0, 0] ![1, 1, 2, 1] · slicesBy_S2x64x258x258_S2x64x128x258_0s1_0s1_0s2_0s1) : (⟨S2x64x258x258, .f32⟩ : BufTy).Contents (Elt F) → (⟨S2x64x128x258, .f32⟩ : BufTy).Contents (Elt F)),
    unary main_v33 main_v35 ((Host.slice S2x64x128x258 ![0, 0, 1, 0] ![1, 1, 2, 1] · slicesBy_S2x64x258x258_S2x64x128x258_0s1_0s1_1s2_0s1) : (⟨S2x64x258x258, .f32⟩ : BufTy).Contents (Elt F) → (⟨S2x64x128x258, .f32⟩ : BufTy).Contents (Elt F)),
    unary main_v33 main_v36 ((Host.slice S2x64x128x258 ![0, 0, 2, 0] ![1, 1, 2, 1] · slicesBy_S2x64x258x258_S2x64x128x258_0s1_0s1_2s2_0s1) : (⟨S2x64x258x258, .f32⟩ : BufTy).Contents (Elt F) → (⟨S2x64x128x258, .f32⟩ : BufTy).Contents (Elt F)),
    unary main_v33 main_v37 ((Host.slice S2x64x128x258 ![0, 0, 3, 0] ![1, 1, 2, 1] · slicesBy_S2x64x258x258_S2x64x128x258_0s1_0s1_3s2_0s1) : (⟨S2x64x258x258, .f32⟩ : BufTy).Contents (Elt F) → (⟨S2x64x128x258, .f32⟩ : BufTy).Contents (Elt F)),
    unary main_v34 main_v38 (broadcastInDim S2x64x1x128x258 ![0, 1, 3, 4] bcast_S2x64x128x258_S2x64x1x128x258_0_1_3_4 : (⟨S2x64x128x258, .f32⟩ : BufTy).Contents (Elt F) → (⟨S2x64x1x128x258, .f32⟩ : BufTy).Contents (Elt F)),
    unary main_v35 main_v39 (broadcastInDim S2x64x1x128x258 ![0, 1, 3, 4] bcast_S2x64x128x258_S2x64x1x128x258_0_1_3_4 : (⟨S2x64x128x258, .f32⟩ : BufTy).Contents (Elt F) → (⟨S2x64x1x128x258, .f32⟩ : BufTy).Contents (Elt F)),
    unary main_v36 main_v40 (broadcastInDim S2x64x1x128x258 ![0, 1, 3, 4] bcast_S2x64x128x258_S2x64x1x128x258_0_1_3_4 : (⟨S2x64x128x258, .f32⟩ : BufTy).Contents (Elt F) → (⟨S2x64x1x128x258, .f32⟩ : BufTy).Contents (Elt F)),
    unary main_v37 main_v41 (broadcastInDim S2x64x1x128x258 ![0, 1, 3, 4] bcast_S2x64x128x258_S2x64x1x128x258_0_1_3_4 : (⟨S2x64x128x258, .f32⟩ : BufTy).Contents (Elt F) → (⟨S2x64x1x128x258, .f32⟩ : BufTy).Contents (Elt F)),
    nary ![main_v38, main_v39, main_v40, main_v41] main_v42 (fun u => stack_v42 (u 0) (u 1) (u 2) (u 3)),
    unary main_v42 main_v43 ((Host.slice S2x64x4x128x128 ![0, 0, 0, 0, 0] ![1, 1, 1, 1, 2] · slicesBy_S2x64x4x128x258_S2x64x4x128x128_0s1_0s1_0s1_0s1_0s2) : (⟨S2x64x4x128x258, .f32⟩ : BufTy).Contents (Elt F) → (⟨S2x64x4x128x128, .f32⟩ : BufTy).Contents (Elt F)),
    unary main_v42 main_v44 ((Host.slice S2x64x4x128x128 ![0, 0, 0, 0, 1] ![1, 1, 1, 1, 2] · slicesBy_S2x64x4x128x258_S2x64x4x128x128_0s1_0s1_0s1_0s1_1s2) : (⟨S2x64x4x128x258, .f32⟩ : BufTy).Contents (Elt F) → (⟨S2x64x4x128x128, .f32⟩ : BufTy).Contents (Elt F)),
    unary main_v42 main_v45 ((Host.slice S2x64x4x128x128 ![0, 0, 0, 0, 2] ![1, 1, 1, 1, 2] · slicesBy_S2x64x4x128x258_S2x64x4x128x128_0s1_0s1_0s1_0s1_2s2) : (⟨S2x64x4x128x258, .f32⟩ : BufTy).Contents (Elt F) → (⟨S2x64x4x128x128, .f32⟩ : BufTy).Contents (Elt F)),
    unary main_v42 main_v46 ((Host.slice S2x64x4x128x128 ![0, 0, 0, 0, 3] ![1, 1, 1, 1, 2] · slicesBy_S2x64x4x128x258_S2x64x4x128x128_0s1_0s1_0s1_0s1_3s2) : (⟨S2x64x4x128x258, .f32⟩ : BufTy).Contents (Elt F) → (⟨S2x64x4x128x128, .f32⟩ : BufTy).Contents (Elt F)),
    unary main_v43 main_v47 (broadcastInDim S2x64x4x1x128x128 ![0, 1, 2, 4, 5] bcast_S2x64x4x128x128_S2x64x4x1x128x128_0_1_2_4_5 : (⟨S2x64x4x128x128, .f32⟩ : BufTy).Contents (Elt F) → (⟨S2x64x4x1x128x128, .f32⟩ : BufTy).Contents (Elt F)),
    unary main_v44 main_v48 (broadcastInDim S2x64x4x1x128x128 ![0, 1, 2, 4, 5] bcast_S2x64x4x128x128_S2x64x4x1x128x128_0_1_2_4_5 : (⟨S2x64x4x128x128, .f32⟩ : BufTy).Contents (Elt F) → (⟨S2x64x4x1x128x128, .f32⟩ : BufTy).Contents (Elt F)),
    unary main_v45 main_v49 (broadcastInDim S2x64x4x1x128x128 ![0, 1, 2, 4, 5] bcast_S2x64x4x128x128_S2x64x4x1x128x128_0_1_2_4_5 : (⟨S2x64x4x128x128, .f32⟩ : BufTy).Contents (Elt F) → (⟨S2x64x4x1x128x128, .f32⟩ : BufTy).Contents (Elt F)),
    unary main_v46 main_v50 (broadcastInDim S2x64x4x1x128x128 ![0, 1, 2, 4, 5] bcast_S2x64x4x128x128_S2x64x4x1x128x128_0_1_2_4_5 : (⟨S2x64x4x128x128, .f32⟩ : BufTy).Contents (Elt F) → (⟨S2x64x4x1x128x128, .f32⟩ : BufTy).Contents (Elt F)),
    nary ![main_v47, main_v48, main_v49, main_v50] main_v51 (fun u => stack_v51 (u 0) (u 1) (u 2) (u 3)) ]

/-- The buffers window 4 writes, in order. -/
abbrev win4_W : List (Ref sig .tc) := [main_v34, main_v35, main_v36, main_v37, main_v38, main_v39, main_v40, main_v41, main_v42, main_v43, main_v44, main_v45, main_v46, main_v47, main_v48, main_v49, main_v50, main_v51]

theorem win4_writes : (win4 : List (HloOp τ sig (Elt F))).Forall fun op => op.writes ⊆ (win4_W.map (Proc.devRef (τ := τ) .tc)).toFinset :=
  forall_writes_sub_of_map rfl

theorem win4_fresh : (win4 : List (HloOp τ sig (Elt F))).Forall fun op => op.fresh = ∅ := by
  simp only [List.Forall]; repeat' constructor

theorem win4_sub : (win4 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub ..⟩

/-- A buffer window 4 does not write keeps its contents through it. -/
theorem win4_keep (V : Valuation τ sig (Elt F)) (r : Ref sig .tc) (h : r ∉ win4_W) :
    after win4 V (Proc.devRef .tc r) = V (Proc.devRef .tc r) :=
  after_of_writes_sub win4 V win4_writes h

/-- Operations of the reference up to the one that writes `main_v52`: window 5. -/
abbrev win5 : List (HloOp τ sig (Elt F)) :=
  [ binary main_arg3 main_v51 main_v52 ((fun l r => Host.dotGeneral dot_S64x64x4x4_S2x64x4x4x128x128_S64x2x128x128_123_123_0_045_n_n none l r) : (⟨S64x64x4x4, .f32⟩ : BufTy).Contents (Elt F) → (⟨S2x64x4x4x128x128, .f32⟩ : BufTy).Contents (Elt F) → (⟨S64x2x128x128, .f32⟩ : BufTy).Contents (Elt F)) ]

/-- The buffers window 5 writes, in order. -/
abbrev win5_W : List (Ref sig .tc) := [main_v52]

theorem win5_writes : (win5 : List (HloOp τ sig (Elt F))).Forall fun op => op.writes ⊆ (win5_W.map (Proc.devRef (τ := τ) .tc)).toFinset :=
  forall_writes_sub_of_map rfl

theorem win5_fresh : (win5 : List (HloOp τ sig (Elt F))).Forall fun op => op.fresh = ∅ := by
  simp only [List.Forall]; repeat' constructor

theorem win5_sub : (win5 : List (HloOp τ sig (Elt F))).Forall fun op => op.bufs ⊆ tcRefs τ sig := by
  simp only [List.Forall]; exact binary_bufs_sub ..

/-- A buffer window 5 does not write keeps its contents through it. -/
theorem win5_keep (V : Valuation τ sig (Elt F)) (r : Ref sig .tc) (h : r ∉ win5_W) :
    after win5 V (Proc.devRef .tc r) = V (Proc.devRef .tc r) :=
  after_of_writes_sub win5 V win5_writes h

/-- Operations of the reference up to the one that writes `main_v58`: window 6. -/
abbrev win6 : List (HloOp τ sig (Elt F)) :=
  [ unary main_v52 main_v53 ((transpose S2x64x128x128 [1, 0, 2, 3] · transposes_S64x2x128x128_S2x64x128x128_1_0_2_3) : (⟨S64x2x128x128, .f32⟩ : BufTy).Contents (Elt F) → (⟨S2x64x128x128, .f32⟩ : BufTy).Contents (Elt F)),
    unary main_arg4 main_v54 (broadcastInDim S1x64x1x1 ![1] bcast_S64_S1x64x1x1_1 : (⟨S64, .f32⟩ : BufTy).Contents (Elt F) → (⟨S1x64x1x1, .f32⟩ : BufTy).Contents (Elt F)),
    unary main_v54 main_v55 (broadcastInDim S2x64x128x128 ![0, 1, 2, 3] bcast_S1x64x1x1_S2x64x128x128_0_1_2_3 : (⟨S1x64x1x1, .f32⟩ : BufTy).Contents (Elt F) → (⟨S2x64x128x128, .f32⟩ : BufTy).Contents (Elt F)),
    binary main_v53 main_v55 main_v56 (addf : (⟨S2x64x128x128, .f32⟩ : BufTy).Contents (Elt F) → (⟨S2x64x128x128, .f32⟩ : BufTy).Contents (Elt F) → (⟨S2x64x128x128, .f32⟩ : BufTy).Contents (Elt F)),
    unary main_v56 main_v57 ((transpose S2x128x128x64 [0, 2, 3, 1] · transposes_S2x64x128x128_S2x128x128x64_0_2_3_1) : (⟨S2x64x128x128, .f32⟩ : BufTy).Contents (Elt F) → (⟨S2x128x128x64, .f32⟩ : BufTy).Contents (Elt F)),
    reshape main_v57 main_v58 (rfl : (.f32 : EltTy) = .f32) shapeCasts_S2x128x128x64_S32768x64 ]

/-- The buffers window 6 writes, in order. -/
abbrev win6_W : List (Ref sig .tc) := [main_v53, main_v54, main_v55, main_v56, main_v57, main_v58]

theorem win6_writes : (win6 : List (HloOp τ sig (Elt F))).Forall fun op => op.writes ⊆ (win6_W.map (Proc.devRef (τ := τ) .tc)).toFinset :=
  forall_writes_sub_of_map rfl

theorem win6_fresh : (win6 : List (HloOp τ sig (Elt F))).Forall fun op => op.fresh = ∅ := by
  simp only [List.Forall]; repeat' constructor

theorem win6_sub : (win6 : List (HloOp τ sig (Elt F))).Forall fun op => op.bufs ⊆ tcRefs τ sig :=
  ⟨unary_bufs_sub .., unary_bufs_sub .., unary_bufs_sub .., binary_bufs_sub .., unary_bufs_sub .., reshape_bufs_sub ..⟩

/-- A buffer window 6 does not write keeps its contents through it. -/
theorem win6_keep (V : Valuation τ sig (Elt F)) (r : Ref sig .tc) (h : r ∉ win6_W) :
    after win6 V (Proc.devRef .tc r) = V (Proc.devRef .tc r) :=
  after_of_writes_sub win6 V win6_writes h

/-- Operations of the reference up to the one that writes `main_v72`: window 7. -/
abbrev win7 : List (HloOp τ sig (Elt F)) :=
  [ binary main_v58 main_v58 main_v59 (mulf : (⟨S32768x64, .f32⟩ : BufTy).Contents (Elt F) → (⟨S32768x64, .f32⟩ : BufTy).Contents (Elt F) → (⟨S32768x64, .f32⟩ : BufTy).Contents (Elt F)),
    nullary main_cst_6 (constant S_ .f32 0x00000000#32),
    binary main_v59 main_cst_6 main_v60 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v60 main_v61 (broadcastInDim S32768x1 ![0] bcast_S32768_S32768x1_0 : (⟨S32768, .f32⟩ : BufTy).Contents (Elt F) → (⟨S32768x1, .f32⟩ : BufTy).Contents (Elt F)),
    nullary main_cst_7 (constant S_ .f32 0x40000000#32),
    unary main_cst_7 main_v62 (broadcastInDim S32768x64 ![] bcast_S_S32768x64 : (⟨S_, .f32⟩ : BufTy).Contents (Elt F) → (⟨S32768x64, .f32⟩ : BufTy).Contents (Elt F)),
    binary main_v62 main_v58 main_v63 (mulf : (⟨S32768x64, .f32⟩ : BufTy).Contents (Elt F) → (⟨S32768x64, .f32⟩ : BufTy).Contents (Elt F) → (⟨S32768x64, .f32⟩ : BufTy).Contents (Elt F)),
    unary main_arg5 main_v64 ((transpose S64x512 [1, 0] · transposes_S512x64_S64x512_1_0) : (⟨S512x64, .f32⟩ : BufTy).Contents (Elt F) → (⟨S64x512, .f32⟩ : BufTy).Contents (Elt F)),
    binary main_v63 main_v64 main_v65 ((fun l r => Host.dotGeneral dot_S32768x64_S64x512_S32768x512_1_0_0_1_n_n none l r) : (⟨S32768x64, .f32⟩ : BufTy).Contents (Elt F) → (⟨S64x512, .f32⟩ : BufTy).Contents (Elt F) → (⟨S32768x512, .f32⟩ : BufTy).Contents (Elt F)),
    unary main_v61 main_v66 (broadcastInDim S32768x512 ![0, 1] bcast_S32768x1_S32768x512_0_1 : (⟨S32768x1, .f32⟩ : BufTy).Contents (Elt F) → (⟨S32768x512, .f32⟩ : BufTy).Contents (Elt F)),
    binary main_v66 main_v65 main_v67 (subf : (⟨S32768x512, .f32⟩ : BufTy).Contents (Elt F) → (⟨S32768x512, .f32⟩ : BufTy).Contents (Elt F) → (⟨S32768x512, .f32⟩ : BufTy).Contents (Elt F)),
    binary main_arg5 main_arg5 main_v68 (mulf : (⟨S512x64, .f32⟩ : BufTy).Contents (Elt F) → (⟨S512x64, .f32⟩ : BufTy).Contents (Elt F) → (⟨S512x64, .f32⟩ : BufTy).Contents (Elt F)),
    nullary main_cst_8 (constant S_ .f32 0x00000000#32),
    binary main_v68 main_cst_8 main_v69 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v69 main_v70 (broadcastInDim S1x512 ![1] bcast_S512_S1x512_1 : (⟨S512, .f32⟩ : BufTy).Contents (Elt F) → (⟨S1x512, .f32⟩ : BufTy).Contents (Elt F)),
    unary main_v70 main_v71 (broadcastInDim S32768x512 ![0, 1] bcast_S1x512_S32768x512_0_1 : (⟨S1x512, .f32⟩ : BufTy).Contents (Elt F) → (⟨S32768x512, .f32⟩ : BufTy).Contents (Elt F)),
    binary main_v67 main_v71 main_v72 (addf : (⟨S32768x512, .f32⟩ : BufTy).Contents (Elt F) → (⟨S32768x512, .f32⟩ : BufTy).Contents (Elt F) → (⟨S32768x512, .f32⟩ : BufTy).Contents (Elt F)) ]

/-- The buffers window 7 writes, in order. -/
abbrev win7_W : List (Ref sig .tc) := [main_v59, main_cst_6, main_v60, main_v61, main_cst_7, main_v62, main_v63, main_v64, main_v65, main_v66, main_v67, main_v68, main_cst_8, main_v69, main_v70, main_v71, main_v72]

theorem win7_writes : (win7 : List (HloOp τ sig (Elt F))).Forall fun op => op.writes ⊆ (win7_W.map (Proc.devRef (τ := τ) .tc)).toFinset :=
  forall_writes_sub_of_map rfl

theorem win7_fresh : (win7 : List (HloOp τ sig (Elt F))).Forall fun op => op.fresh = ∅ := by
  simp only [List.Forall]; repeat' constructor

theorem win7_sub : (win7 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- A buffer window 7 does not write keeps its contents through it. -/
theorem win7_keep (V : Valuation τ sig (Elt F)) (r : Ref sig .tc) (h : r ∉ win7_W) :
    after win7 V (Proc.devRef .tc r) = V (Proc.devRef .tc r) :=
  after_of_writes_sub win7 V win7_writes h

/-- Operations of the reference up to the one that writes `main_v73`: window 8. -/
abbrev win8 : List (HloOp τ sig (Elt F)) :=
  [ TRef.nullary (TRef.of (T := ⟨S32768x512, .i32⟩) main_call1_v0) (iotaInDim S32768x512 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S32768x512, .f32⟩) main_v72) (TRef.of (T := ⟨S32768x512, .i32⟩) main_call1_v0) (TRef.of (T := ⟨S_, .f32⟩) main_call1_cst) (TRef.of (T := ⟨S_, .i32⟩) main_call1_c) (TRef.of (T := ⟨S32768, .f32⟩) main_call1_v1_0) (fun x y u v j => (Host.argReduce reducer_argmin_f32_i32 x y u v reducesTo_S32768x512_S32768_d1 h_S_ j).1),
    TRef.quaternary (TRef.of (T := ⟨S32768x512, .f32⟩) main_v72) (TRef.of (T := ⟨S32768x512, .i32⟩) main_call1_v0) (TRef.of (T := ⟨S_, .f32⟩) main_call1_cst) (TRef.of (T := ⟨S_, .i32⟩) main_call1_c) (TRef.of (T := ⟨S32768, .i32⟩) main_v73) (fun x y u v j => (Host.argReduce reducer_argmin_f32_i32 x y u v reducesTo_S32768x512_S32768_d1 h_S_ j).2) ]

/-- The buffers window 8 writes, in order. -/
abbrev win8_W : List (Ref sig .tc) := [main_call1_v0, main_call1_cst, main_call1_c, main_call1_v1_0, main_v73]

theorem win8_writes : (win8 : List (HloOp τ sig (Elt F))).Forall fun op => op.writes ⊆ (win8_W.map (Proc.devRef (τ := τ) .tc)).toFinset :=
  forall_writes_sub_of_map rfl

theorem win8_fresh : (win8 : List (HloOp τ sig (Elt F))).Forall fun op => op.fresh = ∅ := by
  simp only [List.Forall]; repeat' constructor

theorem win8_sub : (win8 : List (HloOp τ sig (Elt F))).Forall fun op => op.bufs ⊆ tcRefs τ sig :=
  ⟨nullary_bufs_sub .., nullary_bufs_sub .., nullary_bufs_sub .., quaternary_bufs_sub .., quaternary_bufs_sub ..⟩

/-- A buffer window 8 does not write keeps its contents through it. -/
theorem win8_keep (V : Valuation τ sig (Elt F)) (r : Ref sig .tc) (h : r ∉ win8_W) :
    after win8 V (Proc.devRef .tc r) = V (Proc.devRef .tc r) :=
  after_of_writes_sub win8 V win8_writes h

/-- Operations of the reference up to the one that writes `main_v74`: window 9. -/
abbrev win9 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S32768, .i32⟩) main_call2_v0) (broadcastInDim S32768 ![] bcast_S_S32768),
    TRef.binary (TRef.of (T := ⟨S32768, .i32⟩) main_v73) (TRef.of (T := ⟨S32768, .i32⟩) main_call2_v0) (TRef.of (T := ⟨S32768, .i1⟩) main_call2_v1) (cmpi .slt),
    TRef.nullary (TRef.of (T := ⟨S_, .i32⟩) main_call2_c_0) (constantI S_ 32 512#32),
    TRef.unary (TRef.of (T := ⟨S_, .i32⟩) main_call2_c_0) (TRef.of (T := ⟨S32768, .i32⟩) main_call2_v2) (broadcastInDim S32768 ![] bcast_S_S32768),
    TRef.binary (TRef.of (T := ⟨S32768, .i32⟩) main_v73) (TRef.of (T := ⟨S32768, .i32⟩) main_call2_v2) (TRef.of (T := ⟨S32768, .i32⟩) main_call2_v3) addi,
    TRef.ternary (TRef.of (T := ⟨S32768, .i1⟩) main_call2_v1) (TRef.of (T := ⟨S32768, .i32⟩) main_call2_v3) (TRef.of (T := ⟨S32768, .i32⟩) main_v73) (TRef.of (T := ⟨S32768, .i32⟩) main_call2_v4) select,
    TRef.unary (TRef.of (T := ⟨S32768, .i32⟩) main_call2_v4) (TRef.of (T := ⟨S32768x1, .i32⟩) main_call2_v5) (broadcastInDim S32768x1 ![0] bcast_S32768_S32768x1_0),
    TRef.nullary (TRef.of (T := ⟨S1, .i32⟩) main_call2_c_1) (constantI S1 32 511#32),
    TRef.nullary (TRef.of (T := ⟨S_, .i32⟩) main_call2_c_2) (constantI S_ 32 0#32),
    TRef.unary (TRef.of (T := ⟨S_, .i32⟩) main_call2_c_2) (TRef.of (T := ⟨S32768x1, .i32⟩) main_call2_v6) (broadcastInDim S32768x1 ![] bcast_S_S32768x1),
    TRef.binary (TRef.of (T := ⟨S32768x1, .i32⟩) main_call2_v5) (TRef.of (T := ⟨S32768x1, .i32⟩) main_call2_v6) (TRef.of (T := ⟨S32768x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S32768x1, .i32⟩) main_call2_v9) (broadcastInDim S32768x1 ![0, 1] bcast_S1x1_S32768x1_0_1),
    TRef.binary (TRef.of (T := ⟨S32768x1, .i32⟩) main_call2_v5) (TRef.of (T := ⟨S32768x1, .i32⟩) main_call2_v9) (TRef.of (T := ⟨S32768x1, .i1⟩) main_call2_v10) (cmpi .sle),
    TRef.binary (TRef.of (T := ⟨S32768x1, .i1⟩) main_call2_v7) (TRef.of (T := ⟨S32768x1, .i1⟩) main_call2_v10) (TRef.of (T := ⟨S32768x1, .i1⟩) main_call2_v11) andi,
    TRef.nullary (TRef.of (T := ⟨S_, .i1⟩) main_call2_c_3) (constantI S_ 1 1#1),
    TRef.binary (TRef.of (T := ⟨S32768x1, .i1⟩) main_call2_v11) (TRef.of (T := ⟨S_, .i1⟩) main_call2_c_3) (TRef.of (T := ⟨S32768, .i1⟩) main_call2_v12) (fun x v => Host.reduce IntOp.andi x v reducesTo_S32768x1_S32768_d1 h_S_),
    TRef.binary (TRef.of (T := ⟨S512x64, .f32⟩) main_arg5) (TRef.of (T := ⟨S32768x1, .i32⟩) main_call2_v5) (TRef.of (T := ⟨S32768x64, .f32⟩) main_call2_v13) (fun x i => Host.gather gather_S512x64_S32768x1_S32768x64_1_0_n_n_0_1_164 x i),
    TRef.unary (TRef.of (T := ⟨S32768, .i1⟩) main_call2_v12) (TRef.of (T := ⟨S32768x64, .i1⟩) main_call2_v14) (broadcastInDim S32768x64 ![0] bcast_S32768_S32768x64_0),
    TRef.nullary (TRef.of (T := ⟨S_, .f32⟩) main_call2_cst) (constant S_ .f32 0x7FC00000#32),
    TRef.unary (TRef.of (T := ⟨S_, .f32⟩) main_call2_cst) (TRef.of (T := ⟨S32768x64, .f32⟩) main_call2_v15) (broadcastInDim S32768x64 ![] bcast_S_S32768x64),
    TRef.ternary (TRef.of (T := ⟨S32768x64, .i1⟩) main_call2_v14) (TRef.of (T := ⟨S32768x64, .f32⟩) main_call2_v13) (TRef.of (T := ⟨S32768x64, .f32⟩) main_call2_v15) (TRef.of (T := ⟨S32768x64, .f32⟩) main_v74) select ]

/-- The buffers window 9 writes, in order. -/
abbrev win9_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v74]

theorem win9_writes : (win9 : List (HloOp τ sig (Elt F))).Forall fun op => op.writes ⊆ (win9_W.map (Proc.devRef (τ := τ) .tc)).toFinset :=
  forall_writes_sub_of_map rfl

theorem win9_fresh : (win9 : List (HloOp τ sig (Elt F))).Forall fun op => op.fresh = ∅ := by
  simp only [List.Forall]; repeat' constructor

theorem win9_sub : (win9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- A buffer window 9 does not write keeps its contents through it. -/
theorem win9_keep (V : Valuation τ sig (Elt F)) (r : Ref sig .tc) (h : r ∉ win9_W) :
    after win9 V (Proc.devRef .tc r) = V (Proc.devRef .tc r) :=
  after_of_writes_sub win9 V win9_writes h

/-- Operations of the reference up to the one that writes `main_v76`: window 10. -/
abbrev win10 : List (HloOp τ sig (Elt F)) :=
  [ reshape main_v74 main_v75 (rfl : (.f32 : EltTy) = .f32) shapeCasts_S32768x64_S2x128x128x64,
    reshape main_v73 main_v76 (rfl : (.i32 : EltTy) = .i32) shapeCasts_S32768_S2x128x128 ]

/-- The buffers window 10 writes, in order. -/
abbrev win10_W : List (Ref sig .tc) := [main_v75, main_v76]

theorem win10_writes : (win10 : List (HloOp τ sig (Elt F))).Forall fun op => op.writes ⊆ (win10_W.map (Proc.devRef (τ := τ) .tc)).toFinset :=
  forall_writes_sub_of_map rfl

theorem win10_fresh : (win10 : List (HloOp τ sig (Elt F))).Forall fun op => op.fresh = ∅ := by
  simp only [List.Forall]; repeat' constructor

theorem win10_sub : (win10 : List (HloOp τ sig (Elt F))).Forall fun op => op.bufs ⊆ tcRefs τ sig :=
  ⟨reshape_bufs_sub .., reshape_bufs_sub ..⟩

/-- A buffer window 10 does not write keeps its contents through it. -/
theorem win10_keep (V : Valuation τ sig (Elt F)) (r : Ref sig .tc) (h : r ∉ win10_W) :
    after win10 V (Proc.devRef .tc r) = V (Proc.devRef .tc r) :=
  after_of_writes_sub win10 V win10_writes h

/-- Operations of the reference up to the one that writes `main_v86`: window 11. -/
abbrev win11 : List (HloOp τ sig (Elt F)) :=
  [ binary main_v75 main_v57 main_v77 (subf : (⟨S2x128x128x64, .f32⟩ : BufTy).Contents (Elt F) → (⟨S2x128x128x64, .f32⟩ : BufTy).Contents (Elt F) → (⟨S2x128x128x64, .f32⟩ : BufTy).Contents (Elt F)),
    binary main_v77 main_v77 main_v78 (mulf : (⟨S2x128x128x64, .f32⟩ : BufTy).Contents (Elt F) → (⟨S2x128x128x64, .f32⟩ : BufTy).Contents (Elt F) → (⟨S2x128x128x64, .f32⟩ : BufTy).Contents (Elt F)),
    nullary main_cst_9 (constant S_ .f32 0x00000000#32),
    binary main_v78 main_cst_9 main_v79 ((fun x v => Host.reduceAdd x v reducesTo_S2x128x128x64_S_d0_1_2_3 h_S_) : (⟨S2x128x128x64, .f32⟩ : BufTy).Contents (Elt F) → (⟨S_, .f32⟩ : BufTy).Contents (Elt F) → (⟨S_, .f32⟩ : BufTy).Contents (Elt F)),
    nullary main_cst_10 (constant S_ .f32 0x4A000000#32),
    binary main_v79 main_cst_10 main_v80 (Host.divf : (⟨S_, .f32⟩ : BufTy).Contents (Elt F) → (⟨S_, .f32⟩ : BufTy).Contents (Elt F) → (⟨S_, .f32⟩ : BufTy).Contents (Elt F)),
    binary main_v75 main_v57 main_v81 (subf : (⟨S2x128x128x64, .f32⟩ : BufTy).Contents (Elt F) → (⟨S2x128x128x64, .f32⟩ : BufTy).Contents (Elt F) → (⟨S2x128x128x64, .f32⟩ : BufTy).Contents (Elt F)),
    binary main_v81 main_v81 main_v82 (mulf : (⟨S2x128x128x64, .f32⟩ : BufTy).Contents (Elt F) → (⟨S2x128x128x64, .f32⟩ : BufTy).Contents (Elt F) → (⟨S2x128x128x64, .f32⟩ : BufTy).Contents (Elt F)),
    nullary main_cst_11 (constant S_ .f32 0x00000000#32),
    binary main_v82 main_cst_11 main_v83 ((fun x v => Host.reduceAdd x v reducesTo_S2x128x128x64_S_d0_1_2_3 h_S_) : (⟨S2x128x128x64, .f32⟩ : BufTy).Contents (Elt F) → (⟨S_, .f32⟩ : BufTy).Contents (Elt F) → (⟨S_, .f32⟩ : BufTy).Contents (Elt F)),
    nullary main_cst_12 (constant S_ .f32 0x4A000000#32),
    binary main_v83 main_cst_12 main_v84 (Host.divf : (⟨S_, .f32⟩ : BufTy).Contents (Elt F) → (⟨S_, .f32⟩ : BufTy).Contents (Elt F) → (⟨S_, .f32⟩ : BufTy).Contents (Elt F)),
    nullary main_cst_13 (constant S_ .f32 0x3E800000#32),
    binary main_cst_13 main_v80 main_v85 (mulf : (⟨S_, .f32⟩ : BufTy).Contents (Elt F) → (⟨S_, .f32⟩ : BufTy).Contents (Elt F) → (⟨S_, .f32⟩ : BufTy).Contents (Elt F)),
    binary main_v84 main_v85 main_v86 (addf : (⟨S_, .f32⟩ : BufTy).Contents (Elt F) → (⟨S_, .f32⟩ : BufTy).Contents (Elt F) → (⟨S_, .f32⟩ : BufTy).Contents (Elt F)) ]

/-- The buffers window 11 writes, in order. -/
abbrev win11_W : List (Ref sig .tc) := [main_v77, main_v78, main_cst_9, main_v79, main_cst_10, main_v80, main_v81, main_v82, main_cst_11, main_v83, main_cst_12, main_v84, main_cst_13, main_v85, main_v86]

theorem win11_writes : (win11 : List (HloOp τ sig (Elt F))).Forall fun op => op.writes ⊆ (win11_W.map (Proc.devRef (τ := τ) .tc)).toFinset :=
  forall_writes_sub_of_map rfl

theorem win11_fresh : (win11 : List (HloOp τ sig (Elt F))).Forall fun op => op.fresh = ∅ := by
  simp only [List.Forall]; repeat' constructor

theorem win11_sub : (win11 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩

/-- A buffer window 11 does not write keeps its contents through it. -/
theorem win11_keep (V : Valuation τ sig (Elt F)) (r : Ref sig .tc) (h : r ∉ win11_W) :
    after win11 V (Proc.devRef .tc r) = V (Proc.devRef .tc r) :=
  after_of_writes_sub win11 V win11_writes h

/-- Operations of the reference up to the one that writes `main_v89`: window 12. -/
abbrev win12 : List (HloOp τ sig (Elt F)) :=
  [ binary main_v75 main_v57 main_v87 (subf : (⟨S2x128x128x64, .f32⟩ : BufTy).Contents (Elt F) → (⟨S2x128x128x64, .f32⟩ : BufTy).Contents (Elt F) → (⟨S2x128x128x64, .f32⟩ : BufTy).Contents (Elt F)),
    binary main_v57 main_v87 main_v88 (addf : (⟨S2x128x128x64, .f32⟩ : BufTy).Contents (Elt F) → (⟨S2x128x128x64, .f32⟩ : BufTy).Contents (Elt F) → (⟨S2x128x128x64, .f32⟩ : BufTy).Contents (Elt F)),
    unary main_v88 main_v89 ((transpose S2x64x128x128 [0, 3, 1, 2] · transposes_S2x128x128x64_S2x64x128x128_0_3_1_2) : (⟨S2x128x128x64, .f32⟩ : BufTy).Contents (Elt F) → (⟨S2x64x128x128, .f32⟩ : BufTy).Contents (Elt F)) ]

/-- The buffers window 12 writes, in order. -/
abbrev win12_W : List (Ref sig .tc) := [main_v87, main_v88, main_v89]

theorem win12_writes : (win12 : List (HloOp τ sig (Elt F))).Forall fun op => op.writes ⊆ (win12_W.map (Proc.devRef (τ := τ) .tc)).toFinset :=
  forall_writes_sub_of_map rfl

theorem win12_fresh : (win12 : List (HloOp τ sig (Elt F))).Forall fun op => op.fresh = ∅ := by
  simp only [List.Forall]; repeat' constructor

theorem win12_sub : (win12 : List (HloOp τ sig (Elt F))).Forall fun op => op.bufs ⊆ tcRefs τ sig :=
  ⟨binary_bufs_sub .., binary_bufs_sub .., unary_bufs_sub ..⟩

/-- A buffer window 12 does not write keeps its contents through it. -/
theorem win12_keep (V : Valuation τ sig (Elt F)) (r : Ref sig .tc) (h : r ∉ win12_W) :
    after win12 V (Proc.devRef .tc r) = V (Proc.devRef .tc r) :=
  after_of_writes_sub win12 V win12_writes h

/-- Operations of the reference up to the one that writes `main_v92`: window 13. -/
abbrev win13 : List (HloOp τ sig (Elt F)) :=
  [ unary main_arg6 main_v90 ((transpose S64x64x4x4 [1, 0, 2, 3] · transposes_S64x64x4x4_S64x64x4x4_1_0_2_3) : (⟨S64x64x4x4, .f32⟩ : BufTy).Contents (Elt F) → (⟨S64x64x4x4, .f32⟩ : BufTy).Contents (Elt F)),
    unary main_v90 main_v91 (Host.reverse [2, 3] : (⟨S64x64x4x4, .f32⟩ : BufTy).Contents (Elt F) → (⟨S64x64x4x4, .f32⟩ : BufTy).Contents (Elt F)),
    nullary main_cst_14 (constant S_ .f32 0x00000000#32),
    binary main_v89 main_cst_14 main_v92 ((fun x v => pad S2x64x259x259 ![0, 0, 2, 2] ![0, 0, 2, 2] ![0, 0, 1, 1] x v pads_S2x64x128x128_S2x64x259x259_000_000_221_221 h_S_) : (⟨S2x64x128x128, .f32⟩ : BufTy).Contents (Elt F) → (⟨S_, .f32⟩ : BufTy).Contents (Elt F) → (⟨S2x64x259x259, .f32⟩ : BufTy).Contents (Elt F)) ]

/-- The buffers window 13 writes, in order. -/
abbrev win13_W : List (Ref sig .tc) := [main_v90, main_v91, main_cst_14, main_v92]

theorem win13_writes : (win13 : List (HloOp τ sig (Elt F))).Forall fun op => op.writes ⊆ (win13_W.map (Proc.devRef (τ := τ) .tc)).toFinset :=
  forall_writes_sub_of_map rfl

theorem win13_fresh : (win13 : List (HloOp τ sig (Elt F))).Forall fun op => op.fresh = ∅ := by
  simp only [List.Forall]; repeat' constructor

theorem win13_sub : (win13 : List (HloOp τ sig (Elt F))).Forall fun op => op.bufs ⊆ tcRefs τ sig :=
  ⟨unary_bufs_sub .., unary_bufs_sub .., nullary_bufs_sub .., binary_bufs_sub ..⟩

/-- A buffer window 13 does not write keeps its contents through it. -/
theorem win13_keep (V : Valuation τ sig (Elt F)) (r : Ref sig .tc) (h : r ∉ win13_W) :
    after win13 V (Proc.devRef .tc r) = V (Proc.devRef .tc r) :=
  after_of_writes_sub win13 V win13_writes h

/-- Operations of the reference up to the one that writes `main_v103`: window 14. -/
abbrev win14 : List (HloOp τ sig (Elt F)) :=
  [ unary main_v92 main_v93 ((extractStridedSlice S2x64x256x259 ![0, 0, 0, 0] · slices_S2x64x259x259_S2x64x256x259_0_0_0_0) : (⟨S2x64x259x259, .f32⟩ : BufTy).Contents (Elt F) → (⟨S2x64x256x259, .f32⟩ : BufTy).Contents (Elt F)),
    unary main_v92 main_v94 ((extractStridedSlice S2x64x256x259 ![0, 0, 1, 0] · slices_S2x64x259x259_S2x64x256x259_0_0_1_0) : (⟨S2x64x259x259, .f32⟩ : BufTy).Contents (Elt F) → (⟨S2x64x256x259, .f32⟩ : BufTy).Contents (Elt F)),
    unary main_v92 main_v95 ((extractStridedSlice S2x64x256x259 ![0, 0, 2, 0] · slices_S2x64x259x259_S2x64x256x259_0_0_2_0) : (⟨S2x64x259x259, .f32⟩ : BufTy).Contents (Elt F) → (⟨S2x64x256x259, .f32⟩ : BufTy).Contents (Elt F)),
    unary main_v92 main_v96 ((extractStridedSlice S2x64x256x259 ![0, 0, 3, 0] · slices_S2x64x259x259_S2x64x256x259_0_0_3_0) : (⟨S2x64x259x259, .f32⟩ : BufTy).Contents (Elt F) → (⟨S2x64x256x259, .f32⟩ : BufTy).Contents (Elt F)),
    unary main_v93 main_v97 (broadcastInDim S2x64x1x256x259 ![0, 1, 3, 4] bcast_S2x64x256x259_S2x64x1x256x259_0_1_3_4 : (⟨S2x64x256x259, .f32⟩ : BufTy).Contents (Elt F) → (⟨S2x64x1x256x259, .f32⟩ : BufTy).Contents (Elt F)),
    unary main_v94 main_v98 (broadcastInDim S2x64x1x256x259 ![0, 1, 3, 4] bcast_S2x64x256x259_S2x64x1x256x259_0_1_3_4 : (⟨S2x64x256x259, .f32⟩ : BufTy).Contents (Elt F) → (⟨S2x64x1x256x259, .f32⟩ : BufTy).Contents (Elt F)),
    unary main_v95 main_v99 (broadcastInDim S2x64x1x256x259 ![0, 1, 3, 4] bcast_S2x64x256x259_S2x64x1x256x259_0_1_3_4 : (⟨S2x64x256x259, .f32⟩ : BufTy).Contents (Elt F) → (⟨S2x64x1x256x259, .f32⟩ : BufTy).Contents (Elt F)),
    unary main_v96 main_v100 (broadcastInDim S2x64x1x256x259 ![0, 1, 3, 4] bcast_S2x64x256x259_S2x64x1x256x259_0_1_3_4 : (⟨S2x64x256x259, .f32⟩ : BufTy).Contents (Elt F) → (⟨S2x64x1x256x259, .f32⟩ : BufTy).Contents (Elt F)),
    nary ![main_v97, main_v98, main_v99, main_v100] main_v101 (fun u => stack_v101 (u 0) (u 1) (u 2) (u 3)),
    unary main_v101 main_v102 ((extractStridedSlice S2x64x4x256x256 ![0, 0, 0, 0, 0] · slices_S2x64x4x256x259_S2x64x4x256x256_0_0_0_0_0) : (⟨S2x64x4x256x259, .f32⟩ : BufTy).Contents (Elt F) → (⟨S2x64x4x256x256, .f32⟩ : BufTy).Contents (Elt F)),
    unary main_v101 main_v103 ((extractStridedSlice S2x64x4x256x256 ![0, 0, 0, 0, 1] · slices_S2x64x4x256x259_S2x64x4x256x256_0_0_0_0_1) : (⟨S2x64x4x256x259, .f32⟩ : BufTy).Contents (Elt F) → (⟨S2x64x4x256x256, .f32⟩ : BufTy).Contents (Elt F)) ]

/-- The buffers window 14 writes, in order. -/
abbrev win14_W : List (Ref sig .tc) := [main_v93, main_v94, main_v95, main_v96, main_v97, main_v98, main_v99, main_v100, main_v101, main_v102, main_v103]

theorem win14_writes : (win14 : List (HloOp τ sig (Elt F))).Forall fun op => op.writes ⊆ (win14_W.map (Proc.devRef (τ := τ) .tc)).toFinset :=
  forall_writes_sub_of_map rfl

theorem win14_fresh : (win14 : List (HloOp τ sig (Elt F))).Forall fun op => op.fresh = ∅ := by
  simp only [List.Forall]; repeat' constructor

theorem win14_sub : (win14 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., unary_bufs_sub .., unary_bufs_sub ..⟩

/-- A buffer window 14 does not write keeps its contents through it. -/
theorem win14_keep (V : Valuation τ sig (Elt F)) (r : Ref sig .tc) (h : r ∉ win14_W) :
    after win14 V (Proc.devRef .tc r) = V (Proc.devRef .tc r) :=
  after_of_writes_sub win14 V win14_writes h

/-- Operations of the reference up to the one that writes `main_v110`: window 15. -/
abbrev win15 : List (HloOp τ sig (Elt F)) :=
  [ unary main_v101 main_v104 ((extractStridedSlice S2x64x4x256x256 ![0, 0, 0, 0, 2] · slices_S2x64x4x256x259_S2x64x4x256x256_0_0_0_0_2) : (⟨S2x64x4x256x259, .f32⟩ : BufTy).Contents (Elt F) → (⟨S2x64x4x256x256, .f32⟩ : BufTy).Contents (Elt F)),
    unary main_v101 main_v105 ((extractStridedSlice S2x64x4x256x256 ![0, 0, 0, 0, 3] · slices_S2x64x4x256x259_S2x64x4x256x256_0_0_0_0_3) : (⟨S2x64x4x256x259, .f32⟩ : BufTy).Contents (Elt F) → (⟨S2x64x4x256x256, .f32⟩ : BufTy).Contents (Elt F)),
    unary main_v102 main_v106 (broadcastInDim S2x64x4x1x256x256 ![0, 1, 2, 4, 5] bcast_S2x64x4x256x256_S2x64x4x1x256x256_0_1_2_4_5 : (⟨S2x64x4x256x256, .f32⟩ : BufTy).Contents (Elt F) → (⟨S2x64x4x1x256x256, .f32⟩ : BufTy).Contents (Elt F)),
    unary main_v103 main_v107 (broadcastInDim S2x64x4x1x256x256 ![0, 1, 2, 4, 5] bcast_S2x64x4x256x256_S2x64x4x1x256x256_0_1_2_4_5 : (⟨S2x64x4x256x256, .f32⟩ : BufTy).Contents (Elt F) → (⟨S2x64x4x1x256x256, .f32⟩ : BufTy).Contents (Elt F)),
    unary main_v104 main_v108 (broadcastInDim S2x64x4x1x256x256 ![0, 1, 2, 4, 5] bcast_S2x64x4x256x256_S2x64x4x1x256x256_0_1_2_4_5 : (⟨S2x64x4x256x256, .f32⟩ : BufTy).Contents (Elt F) → (⟨S2x64x4x1x256x256, .f32⟩ : BufTy).Contents (Elt F)),
    unary main_v105 main_v109 (broadcastInDim S2x64x4x1x256x256 ![0, 1, 2, 4, 5] bcast_S2x64x4x256x256_S2x64x4x1x256x256_0_1_2_4_5 : (⟨S2x64x4x256x256, .f32⟩ : BufTy).Contents (Elt F) → (⟨S2x64x4x1x256x256, .f32⟩ : BufTy).Contents (Elt F)),
    nary ![main_v106, main_v107, main_v108, main_v109] main_v110 (fun u => stack_v110 (u 0) (u 1) (u 2) (u 3)) ]

/-- The buffers window 15 writes, in order. -/
abbrev win15_W : List (Ref sig .tc) := [main_v104, main_v105, main_v106, main_v107, main_v108, main_v109, main_v110]

theorem win15_writes : (win15 : List (HloOp τ sig (Elt F))).Forall fun op => op.writes ⊆ (win15_W.map (Proc.devRef (τ := τ) .tc)).toFinset :=
  forall_writes_sub_of_map rfl

theorem win15_fresh : (win15 : List (HloOp τ sig (Elt F))).Forall fun op => op.fresh = ∅ := by
  simp only [List.Forall]; repeat' constructor

theorem win15_sub : (win15 : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub ..⟩

/-- A buffer window 15 does not write keeps its contents through it. -/
theorem win15_keep (V : Valuation τ sig (Elt F)) (r : Ref sig .tc) (h : r ∉ win15_W) :
    after win15 V (Proc.devRef .tc r) = V (Proc.devRef .tc r) :=
  after_of_writes_sub win15 V win15_writes h

/-- Operations of the reference up to the one that writes `main_v117`: window 16. -/
abbrev win16 : List (HloOp τ sig (Elt F)) :=
  [ binary main_v91 main_v110 main_v111 ((fun l r => Host.dotGeneral dot_S64x64x4x4_S2x64x4x4x256x256_S64x2x256x256_123_123_0_045_n_n none l r) : (⟨S64x64x4x4, .f32⟩ : BufTy).Contents (Elt F) → (⟨S2x64x4x4x256x256, .f32⟩ : BufTy).Contents (Elt F) → (⟨S64x2x256x256, .f32⟩ : BufTy).Contents (Elt F)),
    unary main_v111 main_v112 ((transpose S2x64x256x256 [1, 0, 2, 3] · transposes_S64x2x256x256_S2x64x256x256_1_0_2_3) : (⟨S64x2x256x256, .f32⟩ : BufTy).Contents (Elt F) → (⟨S2x64x256x256, .f32⟩ : BufTy).Contents (Elt F)),
    unary main_arg7 main_v113 (broadcastInDim S1x64x1x1 ![1] bcast_S64_S1x64x1x1_1 : (⟨S64, .f32⟩ : BufTy).Contents (Elt F) → (⟨S1x64x1x1, .f32⟩ : BufTy).Contents (Elt F)),
    unary main_v113 main_v114 (broadcastInDim S2x64x256x256 ![0, 1, 2, 3] bcast_S1x64x1x1_S2x64x256x256_0_1_2_3 : (⟨S1x64x1x1, .f32⟩ : BufTy).Contents (Elt F) → (⟨S2x64x256x256, .f32⟩ : BufTy).Contents (Elt F)),
    binary main_v112 main_v114 main_v115 (addf : (⟨S2x64x256x256, .f32⟩ : BufTy).Contents (Elt F) → (⟨S2x64x256x256, .f32⟩ : BufTy).Contents (Elt F) → (⟨S2x64x256x256, .f32⟩ : BufTy).Contents (Elt F)),
    nullary main_cst_15 (constant S_ .f32 0x00000000#32),
    unary main_cst_15 main_v116 (broadcastInDim S2x64x256x256 ![] bcast_S_S2x64x256x256 : (⟨S_, .f32⟩ : BufTy).Contents (Elt F) → (⟨S2x64x256x256, .f32⟩ : BufTy).Contents (Elt F)),
    binary main_v115 main_v116 main_v117 (maximumf : (⟨S2x64x256x256, .f32⟩ : BufTy).Contents (Elt F) → (⟨S2x64x256x256, .f32⟩ : BufTy).Contents (Elt F) → (⟨S2x64x256x256, .f32⟩ : BufTy).Contents (Elt F)) ]

/-- The buffers window 16 writes, in order. -/
abbrev win16_W : List (Ref sig .tc) := [main_v111, main_v112, main_v113, main_v114, main_v115, main_cst_15, main_v116, main_v117]

theorem win16_writes : (win16 : List (HloOp τ sig (Elt F))).Forall fun op => op.writes ⊆ (win16_W.map (Proc.devRef (τ := τ) .tc)).toFinset :=
  forall_writes_sub_of_map rfl

theorem win16_fresh : (win16 : List (HloOp τ sig (Elt F))).Forall fun op => op.fresh = ∅ := by
  simp only [List.Forall]; repeat' constructor

theorem win16_sub : (win16 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub ..⟩

/-- A buffer window 16 does not write keeps its contents through it. -/
theorem win16_keep (V : Valuation τ sig (Elt F)) (r : Ref sig .tc) (h : r ∉ win16_W) :
    after win16 V (Proc.devRef .tc r) = V (Proc.devRef .tc r) :=
  after_of_writes_sub win16 V win16_writes h

/-- Operations of the reference up to the one that writes `main_v120`: window 17. -/
abbrev win17 : List (HloOp τ sig (Elt F)) :=
  [ unary main_arg8 main_v118 ((transpose S3x64x4x4 [1, 0, 2, 3] · transposes_S64x3x4x4_S3x64x4x4_1_0_2_3) : (⟨S64x3x4x4, .f32⟩ : BufTy).Contents (Elt F) → (⟨S3x64x4x4, .f32⟩ : BufTy).Contents (Elt F)),
    unary main_v118 main_v119 (Host.reverse [2, 3] : (⟨S3x64x4x4, .f32⟩ : BufTy).Contents (Elt F) → (⟨S3x64x4x4, .f32⟩ : BufTy).Contents (Elt F)),
    nullary main_cst_16 (constant S_ .f32 0x00000000#32),
    binary main_v117 main_cst_16 main_v120 ((fun x v => pad S2x64x515x515 ![0, 0, 2, 2] ![0, 0, 2, 2] ![0, 0, 1, 1] x v pads_S2x64x256x256_S2x64x515x515_000_000_221_221 h_S_) : (⟨S2x64x256x256, .f32⟩ : BufTy).Contents (Elt F) → (⟨S_, .f32⟩ : BufTy).Contents (Elt F) → (⟨S2x64x515x515, .f32⟩ : BufTy).Contents (Elt F)) ]

/-- The buffers window 17 writes, in order. -/
abbrev win17_W : List (Ref sig .tc) := [main_v118, main_v119, main_cst_16, main_v120]

theorem win17_writes : (win17 : List (HloOp τ sig (Elt F))).Forall fun op => op.writes ⊆ (win17_W.map (Proc.devRef (τ := τ) .tc)).toFinset :=
  forall_writes_sub_of_map rfl

theorem win17_fresh : (win17 : List (HloOp τ sig (Elt F))).Forall fun op => op.fresh = ∅ := by
  simp only [List.Forall]; repeat' constructor

theorem win17_sub : (win17 : List (HloOp τ sig (Elt F))).Forall fun op => op.bufs ⊆ tcRefs τ sig :=
  ⟨unary_bufs_sub .., unary_bufs_sub .., nullary_bufs_sub .., binary_bufs_sub ..⟩

/-- A buffer window 17 does not write keeps its contents through it. -/
theorem win17_keep (V : Valuation τ sig (Elt F)) (r : Ref sig .tc) (h : r ∉ win17_W) :
    after win17 V (Proc.devRef .tc r) = V (Proc.devRef .tc r) :=
  after_of_writes_sub win17 V win17_writes h

/-- Operations of the reference up to the one that writes `main_v138`: window 18. -/
abbrev win18 : List (HloOp τ sig (Elt F)) :=
  [ unary main_v120 main_v121 ((extractStridedSlice S2x64x512x515 ![0, 0, 0, 0] · slices_S2x64x515x515_S2x64x512x515_0_0_0_0) : (⟨S2x64x515x515, .f32⟩ : BufTy).Contents (Elt F) → (⟨S2x64x512x515, .f32⟩ : BufTy).Contents (Elt F)),
    unary main_v120 main_v122 ((extractStridedSlice S2x64x512x515 ![0, 0, 1, 0] · slices_S2x64x515x515_S2x64x512x515_0_0_1_0) : (⟨S2x64x515x515, .f32⟩ : BufTy).Contents (Elt F) → (⟨S2x64x512x515, .f32⟩ : BufTy).Contents (Elt F)),
    unary main_v120 main_v123 ((extractStridedSlice S2x64x512x515 ![0, 0, 2, 0] · slices_S2x64x515x515_S2x64x512x515_0_0_2_0) : (⟨S2x64x515x515, .f32⟩ : BufTy).Contents (Elt F) → (⟨S2x64x512x515, .f32⟩ : BufTy).Contents (Elt F)),
    unary main_v120 main_v124 ((extractStridedSlice S2x64x512x515 ![0, 0, 3, 0] · slices_S2x64x515x515_S2x64x512x515_0_0_3_0) : (⟨S2x64x515x515, .f32⟩ : BufTy).Contents (Elt F) → (⟨S2x64x512x515, .f32⟩ : BufTy).Contents (Elt F)),
    unary main_v121 main_v125 (broadcastInDim S2x64x1x512x515 ![0, 1, 3, 4] bcast_S2x64x512x515_S2x64x1x512x515_0_1_3_4 : (⟨S2x64x512x515, .f32⟩ : BufTy).Contents (Elt F) → (⟨S2x64x1x512x515, .f32⟩ : BufTy).Contents (Elt F)),
    unary main_v122 main_v126 (broadcastInDim S2x64x1x512x515 ![0, 1, 3, 4] bcast_S2x64x512x515_S2x64x1x512x515_0_1_3_4 : (⟨S2x64x512x515, .f32⟩ : BufTy).Contents (Elt F) → (⟨S2x64x1x512x515, .f32⟩ : BufTy).Contents (Elt F)),
    unary main_v123 main_v127 (broadcastInDim S2x64x1x512x515 ![0, 1, 3, 4] bcast_S2x64x512x515_S2x64x1x512x515_0_1_3_4 : (⟨S2x64x512x515, .f32⟩ : BufTy).Contents (Elt F) → (⟨S2x64x1x512x515, .f32⟩ : BufTy).Contents (Elt F)),
    unary main_v124 main_v128 (broadcastInDim S2x64x1x512x515 ![0, 1, 3, 4] bcast_S2x64x512x515_S2x64x1x512x515_0_1_3_4 : (⟨S2x64x512x515, .f32⟩ : BufTy).Contents (Elt F) → (⟨S2x64x1x512x515, .f32⟩ : BufTy).Contents (Elt F)),
    nary ![main_v125, main_v126, main_v127, main_v128] main_v129 (fun u => stack_v129 (u 0) (u 1) (u 2) (u 3)),
    unary main_v129 main_v130 ((extractStridedSlice S2x64x4x512x512 ![0, 0, 0, 0, 0] · slices_S2x64x4x512x515_S2x64x4x512x512_0_0_0_0_0) : (⟨S2x64x4x512x515, .f32⟩ : BufTy).Contents (Elt F) → (⟨S2x64x4x512x512, .f32⟩ : BufTy).Contents (Elt F)),
    unary main_v129 main_v131 ((extractStridedSlice S2x64x4x512x512 ![0, 0, 0, 0, 1] · slices_S2x64x4x512x515_S2x64x4x512x512_0_0_0_0_1) : (⟨S2x64x4x512x515, .f32⟩ : BufTy).Contents (Elt F) → (⟨S2x64x4x512x512, .f32⟩ : BufTy).Contents (Elt F)),
    unary main_v129 main_v132 ((extractStridedSlice S2x64x4x512x512 ![0, 0, 0, 0, 2] · slices_S2x64x4x512x515_S2x64x4x512x512_0_0_0_0_2) : (⟨S2x64x4x512x515, .f32⟩ : BufTy).Contents (Elt F) → (⟨S2x64x4x512x512, .f32⟩ : BufTy).Contents (Elt F)),
    unary main_v129 main_v133 ((extractStridedSlice S2x64x4x512x512 ![0, 0, 0, 0, 3] · slices_S2x64x4x512x515_S2x64x4x512x512_0_0_0_0_3) : (⟨S2x64x4x512x515, .f32⟩ : BufTy).Contents (Elt F) → (⟨S2x64x4x512x512, .f32⟩ : BufTy).Contents (Elt F)),
    unary main_v130 main_v134 (broadcastInDim S2x64x4x1x512x512 ![0, 1, 2, 4, 5] bcast_S2x64x4x512x512_S2x64x4x1x512x512_0_1_2_4_5 : (⟨S2x64x4x512x512, .f32⟩ : BufTy).Contents (Elt F) → (⟨S2x64x4x1x512x512, .f32⟩ : BufTy).Contents (Elt F)),
    unary main_v131 main_v135 (broadcastInDim S2x64x4x1x512x512 ![0, 1, 2, 4, 5] bcast_S2x64x4x512x512_S2x64x4x1x512x512_0_1_2_4_5 : (⟨S2x64x4x512x512, .f32⟩ : BufTy).Contents (Elt F) → (⟨S2x64x4x1x512x512, .f32⟩ : BufTy).Contents (Elt F)),
    unary main_v132 main_v136 (broadcastInDim S2x64x4x1x512x512 ![0, 1, 2, 4, 5] bcast_S2x64x4x512x512_S2x64x4x1x512x512_0_1_2_4_5 : (⟨S2x64x4x512x512, .f32⟩ : BufTy).Contents (Elt F) → (⟨S2x64x4x1x512x512, .f32⟩ : BufTy).Contents (Elt F)),
    unary main_v133 main_v137 (broadcastInDim S2x64x4x1x512x512 ![0, 1, 2, 4, 5] bcast_S2x64x4x512x512_S2x64x4x1x512x512_0_1_2_4_5 : (⟨S2x64x4x512x512, .f32⟩ : BufTy).Contents (Elt F) → (⟨S2x64x4x1x512x512, .f32⟩ : BufTy).Contents (Elt F)),
    nary ![main_v134, main_v135, main_v136, main_v137] main_v138 (fun u => stack_v138 (u 0) (u 1) (u 2) (u 3)) ]

/-- The buffers window 18 writes, in order. -/
abbrev win18_W : List (Ref sig .tc) := [main_v121, main_v122, main_v123, main_v124, main_v125, main_v126, main_v127, main_v128, main_v129, main_v130, main_v131, main_v132, main_v133, main_v134, main_v135, main_v136, main_v137, main_v138]

theorem win18_writes : (win18 : List (HloOp τ sig (Elt F))).Forall fun op => op.writes ⊆ (win18_W.map (Proc.devRef (τ := τ) .tc)).toFinset :=
  forall_writes_sub_of_map rfl

theorem win18_fresh : (win18 : List (HloOp τ sig (Elt F))).Forall fun op => op.fresh = ∅ := by
  simp only [List.Forall]; repeat' constructor

theorem win18_sub : (win18 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub ..⟩

/-- A buffer window 18 does not write keeps its contents through it. -/
theorem win18_keep (V : Valuation τ sig (Elt F)) (r : Ref sig .tc) (h : r ∉ win18_W) :
    after win18 V (Proc.devRef .tc r) = V (Proc.devRef .tc r) :=
  after_of_writes_sub win18 V win18_writes h

/-- Operations of the reference up to the one that writes `main_v144`: window 19. -/
abbrev win19 : List (HloOp τ sig (Elt F)) :=
  [ binary main_v119 main_v138 main_v139 ((fun l r => Host.dotGeneral dot_S3x64x4x4_S2x64x4x4x512x512_S3x2x512x512_123_123_0_045_n_n none l r) : (⟨S3x64x4x4, .f32⟩ : BufTy).Contents (Elt F) → (⟨S2x64x4x4x512x512, .f32⟩ : BufTy).Contents (Elt F) → (⟨S3x2x512x512, .f32⟩ : BufTy).Contents (Elt F)),
    unary main_v139 main_v140 ((transpose S2x3x512x512 [1, 0, 2, 3] · transposes_S3x2x512x512_S2x3x512x512_1_0_2_3) : (⟨S3x2x512x512, .f32⟩ : BufTy).Contents (Elt F) → (⟨S2x3x512x512, .f32⟩ : BufTy).Contents (Elt F)),
    unary main_arg9 main_v141 (broadcastInDim S1x3x1x1 ![1] bcast_S3_S1x3x1x1_1 : (⟨S3, .f32⟩ : BufTy).Contents (Elt F) → (⟨S1x3x1x1, .f32⟩ : BufTy).Contents (Elt F)),
    unary main_v141 main_v142 (broadcastInDim S2x3x512x512 ![0, 1, 2, 3] bcast_S1x3x1x1_S2x3x512x512_0_1_2_3 : (⟨S1x3x1x1, .f32⟩ : BufTy).Contents (Elt F) → (⟨S2x3x512x512, .f32⟩ : BufTy).Contents (Elt F)),
    binary main_v140 main_v142 main_v143 (addf : (⟨S2x3x512x512, .f32⟩ : BufTy).Contents (Elt F) → (⟨S2x3x512x512, .f32⟩ : BufTy).Contents (Elt F) → (⟨S2x3x512x512, .f32⟩ : BufTy).Contents (Elt F)),
    unary main_v143 main_v144 (Host.tanh : (⟨S2x3x512x512, .f32⟩ : BufTy).Contents (Elt F) → (⟨S2x3x512x512, .f32⟩ : BufTy).Contents (Elt F)) ]

/-- The buffers window 19 writes, in order. -/
abbrev win19_W : List (Ref sig .tc) := [main_v139, main_v140, main_v141, main_v142, main_v143, main_v144]

theorem win19_writes : (win19 : List (HloOp τ sig (Elt F))).Forall fun op => op.writes ⊆ (win19_W.map (Proc.devRef (τ := τ) .tc)).toFinset :=
  forall_writes_sub_of_map rfl

theorem win19_fresh : (win19 : List (HloOp τ sig (Elt F))).Forall fun op => op.fresh = ∅ := by
  simp only [List.Forall]; repeat' constructor

theorem win19_sub : (win19 : List (HloOp τ sig (Elt F))).Forall fun op => op.bufs ⊆ tcRefs τ sig :=
  ⟨binary_bufs_sub .., unary_bufs_sub .., unary_bufs_sub .., unary_bufs_sub .., binary_bufs_sub .., unary_bufs_sub ..⟩

/-- A buffer window 19 does not write keeps its contents through it. -/
theorem win19_keep (V : Valuation τ sig (Elt F)) (r : Ref sig .tc) (h : r ∉ win19_W) :
    after win19 V (Proc.devRef .tc r) = V (Proc.devRef .tc r) :=
  after_of_writes_sub win19 V win19_writes h

/-- Part 0 of the reference's operations. -/
def part0 : List (HloOp τ sig (Elt F)) := win0 ++ (win1 ++ (win2 ++ (win3 ++ (win4 ++ (win5)))))

set_option maxRecDepth 16384 in
set_option maxHeartbeats 8000000 in
theorem main_part0_eq (c : Dev nD) : main_part0 (F := F) c = seq part0 := rfl

/-- Part 1 of the reference's operations. -/
def part1 : List (HloOp τ sig (Elt F)) := win6 ++ (win7 ++ (win8 ++ (win9 ++ (win10 ++ (win11 ++ (win12 ++ (win13 ++ (win14))))))))

set_option maxRecDepth 16384 in
set_option maxHeartbeats 8000000 in
theorem main_part1_eq (c : Dev nD) : main_part1 (F := F) c = seq part1 := rfl

/-- Part 2 of the reference's operations. -/
def part2 : List (HloOp τ sig (Elt F)) := win15 ++ (win16 ++ (win17 ++ (win18 ++ (win19))))

set_option maxRecDepth 16384 in
set_option maxHeartbeats 8000000 in
theorem main_part2_eq (c : Dev nD) : main_part2 (F := F) c = seq part2 := rfl

/-- All of the reference's operations. -/
def ops : List (HloOp τ sig (Elt F)) := part0 ++ (part1 ++ part2)

set_option maxRecDepth 8192 in
theorem main_eq (c : Dev nD) : main (F := F) c = seq ops := by
  simp only [ops, seq_append, ← main_part0_eq c, ← main_part1_eq c, ← main_part2_eq c]
  rfl
theorem noScopedRefs : (Finset.univ.filter fun b : Ref sig .tc => b.isScoped) = ∅ := by decide
theorem noScopedSems : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, part0, part1, part2, List.mem_append, or_assoc] at h
    rcases h with h | h | h | h | h | h | h | h | h | h | h | h | h | h | h | h | h | h | h | h
    exacts [List.forall_iff_forall_mem.mp win0_sub op h, List.forall_iff_forall_mem.mp win1_sub op h, List.forall_iff_forall_mem.mp win2_sub op h, List.forall_iff_forall_mem.mp win3_sub op h, List.forall_iff_forall_mem.mp win4_sub op h, List.forall_iff_forall_mem.mp win5_sub op h, List.forall_iff_forall_mem.mp win6_sub op h, List.forall_iff_forall_mem.mp win7_sub op h, List.forall_iff_forall_mem.mp win8_sub op h, List.forall_iff_forall_mem.mp win9_sub op h, List.forall_iff_forall_mem.mp win10_sub op h, List.forall_iff_forall_mem.mp win11_sub op h, List.forall_iff_forall_mem.mp win12_sub op h, List.forall_iff_forall_mem.mp win13_sub op h, List.forall_iff_forall_mem.mp win14_sub op h, List.forall_iff_forall_mem.mp win15_sub op h, List.forall_iff_forall_mem.mp win16_sub op h, List.forall_iff_forall_mem.mp win17_sub op h, List.forall_iff_forall_mem.mp win18_sub op h, List.forall_iff_forall_mem.mp win19_sub op h]
theorem ops_fresh : ∀ op ∈ (ops : List (HloOp τ sig (Elt F))), op.fresh = ∅ := fun op h => by
    simp only [ops, part0, part1, part2, List.mem_append, or_assoc] at h
    rcases h with h | h | h | h | h | h | h | h | h | h | h | h | h | h | h | h | h | h | h | h
    exacts [List.forall_iff_forall_mem.mp win0_fresh op h, List.forall_iff_forall_mem.mp win1_fresh op h, List.forall_iff_forall_mem.mp win2_fresh op h, List.forall_iff_forall_mem.mp win3_fresh op h, List.forall_iff_forall_mem.mp win4_fresh op h, List.forall_iff_forall_mem.mp win5_fresh op h, List.forall_iff_forall_mem.mp win6_fresh op h, List.forall_iff_forall_mem.mp win7_fresh op h, List.forall_iff_forall_mem.mp win8_fresh op h, List.forall_iff_forall_mem.mp win9_fresh op h, List.forall_iff_forall_mem.mp win10_fresh op h, List.forall_iff_forall_mem.mp win11_fresh op h, List.forall_iff_forall_mem.mp win12_fresh op h, List.forall_iff_forall_mem.mp win13_fresh op h, List.forall_iff_forall_mem.mp win14_fresh op h, List.forall_iff_forall_mem.mp win15_fresh op h, List.forall_iff_forall_mem.mp win16_fresh op h, List.forall_iff_forall_mem.mp win17_fresh op h, List.forall_iff_forall_mem.mp win18_fresh op h, List.forall_iff_forall_mem.mp win19_fresh op h]

/-- The buffers after each window, from launch contents `V`. -/
def buf1 (V : Valuation τ sig (Elt F)) : Valuation τ sig (Elt F) := after win0 V
def buf2 (V : Valuation τ sig (Elt F)) : Valuation τ sig (Elt F) := after win1 (buf1 V)
def buf3 (V : Valuation τ sig (Elt F)) : Valuation τ sig (Elt F) := after win2 (buf2 V)
def buf4 (V : Valuation τ sig (Elt F)) : Valuation τ sig (Elt F) := after win3 (buf3 V)
def buf5 (V : Valuation τ sig (Elt F)) : Valuation τ sig (Elt F) := after win4 (buf4 V)
def buf6 (V : Valuation τ sig (Elt F)) : Valuation τ sig (Elt F) := after win5 (buf5 V)
def buf7 (V : Valuation τ sig (Elt F)) : Valuation τ sig (Elt F) := after win6 (buf6 V)
def buf8 (V : Valuation τ sig (Elt F)) : Valuation τ sig (Elt F) := after win7 (buf7 V)
def buf9 (V : Valuation τ sig (Elt F)) : Valuation τ sig (Elt F) := after win8 (buf8 V)
def buf10 (V : Valuation τ sig (Elt F)) : Valuation τ sig (Elt F) := after win9 (buf9 V)
def buf11 (V : Valuation τ sig (Elt F)) : Valuation τ sig (Elt F) := after win10 (buf10 V)
def buf12 (V : Valuation τ sig (Elt F)) : Valuation τ sig (Elt F) := after win11 (buf11 V)
def buf13 (V : Valuation τ sig (Elt F)) : Valuation τ sig (Elt F) := after win12 (buf12 V)
def buf14 (V : Valuation τ sig (Elt F)) : Valuation τ sig (Elt F) := after win13 (buf13 V)
def buf15 (V : Valuation τ sig (Elt F)) : Valuation τ sig (Elt F) := after win14 (buf14 V)
def buf16 (V : Valuation τ sig (Elt F)) : Valuation τ sig (Elt F) := after win15 (buf15 V)
def buf17 (V : Valuation τ sig (Elt F)) : Valuation τ sig (Elt F) := after win16 (buf16 V)
def buf18 (V : Valuation τ sig (Elt F)) : Valuation τ sig (Elt F) := after win17 (buf17 V)
def buf19 (V : Valuation τ sig (Elt F)) : Valuation τ sig (Elt F) := after win18 (buf18 V)
def buf20 (V : Valuation τ sig (Elt F)) : Valuation τ sig (Elt F) := after win19 (buf19 V)

theorem after_append (l₁ l₂ : List (HloOp τ sig (Elt F))) (V : Valuation τ sig (Elt F)) :
    after (l₁ ++ l₂) V = after l₂ (after l₁ V) := by
  induction l₁ generalizing V with
  | nil => rfl
  | cons op l ih => exact ih _
theorem after_ops (V : Valuation τ sig (Elt F)) : after ops V = buf20 V := by
  simp only [ops, part0, part1, part2, after_append]
  rfl
/-- Every execution of the reference ends, with every buffer at what the windows, one after the other, leave in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = buf20 (launchContents m d) (Proc.devRef .tc b) := by
  have h := run_seq noScopedRefs noScopedSems defs main (fun _ => ops) main_eq (fun _ => ops_sub) m ρ fun _ => ops_fresh
  simpa only [after_ops] using h

end Cert.ReferenceIdeal.Windows

end
-- ==== Proof.KerRun.lean ====
/- The launch's run of the whole kernel program: every buffer ends at the contents the program's segments leave in it. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- The program run from any memory ends with every unscoped buffer at what its last segment leaves there. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W52 m ρ c b) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W52 m ρ c b)
    (hfin := fun c s' => by
      iintro ⟨⟨Hh, -⟩, HSI⟩
      unfold StableHlo.held
      imodintro
      iapply (pointsTo_read_all (Pipeline.ucRefs τ sig) (fun b => (((c : Thread nD τ)).1, b)) (W52 m ρ c) s')
      isplitl [Hh] <;> iassumption)
    (hQ := fun s h hz => h)

end Cert.KernelIdeal.Gen
end
-- ==== Proof.WinDot.lean ====
/- A contraction of filters with windows over three axes (input channel, window row, window column), at an index. -/
module

public import Idealize.ShloMosaic.Lib.Pointwise

@[expose] public section

noncomputable section

namespace Cert.Conv

open Idealize.ShloMosaic

variable {O C N : ℕ}

/-- The contraction of a four by four window's channels, rows and columns. -/
abbrev winDims (wf : DotDims.WF ⟨4, ![O, C, 4, 4]⟩ ⟨6, ![2, C, 4, 4, N, N]⟩ ⟨4, ![O, 2, N, N]⟩ [1, 2, 3] [1, 2, 3] [0] [0, 4, 5] [] []) :
    DotDims ⟨4, ![O, C, 4, 4]⟩ ⟨6, ![2, C, 4, 4, N, N]⟩ ⟨4, ![O, 2, N, N]⟩ :=
  ⟨[1, 2, 3], [1, 2, 3], [0], [0, 4, 5], [], [], wf⟩

variable (wf : DotDims.WF ⟨4, ![O, C, 4, 4]⟩ ⟨6, ![2, C, 4, 4, N, N]⟩ ⟨4, ![O, 2, N, N]⟩ [1, 2, 3] [1, 2, 3] [0] [0, 4, 5] [] [])

/-- A contraction index from its three coordinates. -/
def winIdx (c : Fin C) (d e : Fin 4) : (winDims wf).contr.Idx := fun p => match p with
  | ⟨0, _⟩ => c
  | ⟨1, _⟩ => d
  | ⟨2, _⟩ => e
  | ⟨n + 3, h⟩ => absurd (show n + 3 < 3 from h) (by omega)

/-- Contraction indices are triples of coordinates. -/
def winEquiv : Fin C × Fin 4 × Fin 4 ≃ (winDims wf).contr.Idx where
  toFun k := winIdx wf k.1 k.2.1 k.2.2
  invFun kk := (kk ⟨0, show 0 < 3 by omega⟩, kk ⟨1, show 1 < 3 by omega⟩, kk ⟨2, show 2 < 3 by omega⟩)
  left_inv _ := rfl
  right_inv kk := by
    funext p
    match p with
    | ⟨0, _⟩ => rfl
    | ⟨1, _⟩ => rfl
    | ⟨2, _⟩ => rfl
    | ⟨n + 3, h⟩ => exact absurd (show n + 3 < 3 from h) (by omega)

/-- The contraction at an index: the sum over channels, window rows and window columns of filter times window. -/
theorem winDot (lhs : FVec Ideal ⟨4, ![O, C, 4, 4]⟩ .f32) (rhs : FVec Ideal ⟨6, ![2, C, 4, 4, N, N]⟩ .f32) (o : Fin O) (b : Fin 2) (i j : Fin N) :
    Host.dotGeneral (winDims wf) none lhs rhs (ix4 o b i j)
      = ∑ c : Fin C, ∑ d : Fin 4, ∑ e : Fin 4, lhs (ix4 o c d e) * rhs (ix6 b c d e i j) := by
  simp only [Host.dotGeneral]
  rw [Ideal.dotGeneral_apply]
  rw [← Fintype.sum_equiv (winEquiv wf) (fun k => lhs (ix4 o k.1 k.2.1 k.2.2) * rhs (ix6 b k.1 k.2.1 k.2.2 i j)) _ fun k => ?_]
  · simp only [Fintype.sum_prod_type]
  · congr 1
    · congr 1
      funext a
      fin_cases a <;> rfl
    · congr 1
      funext a
      fin_cases a <;> rfl

/-- The same, for the contraction onto zero. -/
theorem winMat (lhs : FVec Ideal ⟨4, ![O, C, 4, 4]⟩ .f32) (rhs : FVec Ideal ⟨6, ![2, C, 4, 4, N, N]⟩ .f32) (o : Fin O) (b : Fin 2) (i j : Fin N) :
    Ideal.matmul (winDims wf) lhs rhs (fun _ => 0) (ix4 o b i j)
      = ∑ c : Fin C, ∑ d : Fin 4, ∑ e : Fin 4, lhs (ix4 o c d e) * rhs (ix6 b c d e i j) :=
  winDot wf lhs rhs o b i j

end Cert.Conv

end
-- ==== Proof.RefRead.lean ====
/- What the reference's windows compute, index by index. -/
module

public import proofs.«01_k».proof.Proof.RefRun
public import proofs.«01_k».proof.Proof.Spec
public import proofs.«01_k».proof.Proof.WinDot
public import Idealize.ShloMosaic.Lib.Pointwise

@[expose] public section

set_option maxRecDepth 8192

noncomputable section

namespace Cert.ReferenceIdeal.Windows

open Cert.ReferenceIdeal Cert.ReferenceIdeal.Gen Idealize.ShloMosaic Idealize.ShloMosaic.TcCoe Idealize.SL.Sem Idealize.ShloMosaic.StableHlo Cert.Conv

variable (V : Valuation τ sig (Elt Ideal))

set_option maxHeartbeats 4000000 in
/-- The four by four windows of the bordered image, stride two. -/
theorem win1_read (b : Fin 2) (c : Fin 3) (d e : Fin 4) (i j : Fin 256) :
    (after win1 V (Proc.devRef .tc main_v25) : (⟨S2x3x4x4x256x256, .f32⟩ : BufTy).Contents (Elt Ideal)) (ix6 b c d e i j)
      = (V (Proc.devRef .tc main_v7) : (⟨S2x3x514x514, .f32⟩ : BufTy).Contents (Elt Ideal)) (ix4 b c ⟨2 * i + d, by omega⟩ ⟨2 * j + e, by omega⟩) := by
  simp only [win1]
  after_results_simp
  try dsimp only [Matrix.cons_val]
  try after_results_simp
  try dsimp only [Matrix.cons_val]
  try after_results_simp
  try dsimp only [Matrix.cons_val]
  try after_results_simp
  simp only [stack_v25, stack_v16]
  pointwise
  fin_cases d <;> fin_cases e <;> simp [Nat.add_comm]

set_option maxHeartbeats 4000000 in
/-- The four by four windows of the bordered first layer, stride two. -/
theorem win4_read (b : Fin 2) (c : Fin 64) (d e : Fin 4) (i j : Fin 128) :
    (after win4 V (Proc.devRef .tc main_v51) : (⟨S2x64x4x4x128x128, .f32⟩ : BufTy).Contents (Elt Ideal)) (ix6 b c d e i j)
      = (V (Proc.devRef .tc main_v33) : (⟨S2x64x258x258, .f32⟩ : BufTy).Contents (Elt Ideal)) (ix4 b c ⟨2 * i + d, by omega⟩ ⟨2 * j + e, by omega⟩) := by
  simp only [win4]
  after_results_simp
  try dsimp only [Matrix.cons_val]
  try after_results_simp
  try dsimp only [Matrix.cons_val]
  try after_results_simp
  try dsimp only [Matrix.cons_val]
  try after_results_simp
  simp only [stack_v51, stack_v42]
  pointwise
  fin_cases d <;> fin_cases e <;> simp [Nat.add_comm]

set_option maxHeartbeats 4000000 in
/-- The four by four windows of the spread third layer, stride one. -/
theorem win18_read (b : Fin 2) (c : Fin 64) (d e : Fin 4) (i j : Fin 512) :
    (after win18 V (Proc.devRef .tc main_v138) : (⟨S2x64x4x4x512x512, .f32⟩ : BufTy).Contents (Elt Ideal)) (ix6 b c d e i j)
      = (V (Proc.devRef .tc main_v120) : (⟨S2x64x515x515, .f32⟩ : BufTy).Contents (Elt Ideal)) (ix4 b c ⟨i + d, by omega⟩ ⟨j + e, by omega⟩) := by
  simp only [win18]
  after_results_simp
  try dsimp only [Matrix.cons_val]
  try after_results_simp
  try dsimp only [Matrix.cons_val]
  try after_results_simp
  try dsimp only [Matrix.cons_val]
  try after_results_simp
  simp only [stack_v138, stack_v129]
  pointwise
  fin_cases d <;> fin_cases e <;> simp [Nat.add_comm]

end Cert.ReferenceIdeal.Windows

end
-- ==== Proof.RefRead2.lean ====
/- What more of the reference's windows compute, index by index. -/
module

public import proofs.«01_k».proof.Proof.RefRun
public import proofs.«01_k».proof.Proof.Spec
public import proofs.«01_k».proof.Proof.WinDot
public import proofs.«01_k».proof.Proof.Spec
public import proofs.«01_k».proof.Proof.WinDot
public import Idealize.ShloMosaic.Lib.Pointwise

@[expose] public section

set_option maxRecDepth 8192

noncomputable section

namespace Cert.ReferenceIdeal.Windows

open Cert.ReferenceIdeal Cert.ReferenceIdeal.Gen Idealize.ShloMosaic Idealize.ShloMosaic.TcCoe Idealize.SL.Sem Idealize.ShloMosaic.StableHlo Cert.Conv

variable (V : Valuation τ sig (Elt Ideal))

set_option maxHeartbeats 4000000 in
/-- The four by four windows of the spread quantized image, stride one. -/
theorem win15_read (b : Fin 2) (c : Fin 64) (d e : Fin 4) (i j : Fin 256) :
    (after win15 (after win14 V) (Proc.devRef .tc main_v110) : (⟨S2x64x4x4x256x256, .f32⟩ : BufTy).Contents (Elt Ideal)) (ix6 b c d e i j)
      = (V (Proc.devRef .tc main_v92) : (⟨S2x64x259x259, .f32⟩ : BufTy).Contents (Elt Ideal)) (ix4 b c ⟨i + d, by omega⟩ ⟨j + e, by omega⟩) := by
  simp only [win14, win15]
  after_results_simp
  try dsimp only [Matrix.cons_val]
  try after_results_simp
  try dsimp only [Matrix.cons_val]
  try after_results_simp
  try dsimp only [Matrix.cons_val]
  try after_results_simp
  simp only [stack_v110, stack_v101]
  pointwise
  fin_cases d <;> fin_cases e <;> simp [Nat.add_comm]

set_option maxHeartbeats 4000000 in
/-- The first layer: filters times windows, the bias added, the positive part. -/
theorem win2_read (b : Fin 2) (o : Fin 64) (i j : Fin 256) :
    val S2x64x256x256 (after win2 V (Proc.devRef .tc main_v32)) (ix4 b o i j)
      = max ((∑ c : Fin 3, ∑ d : Fin 4, ∑ e : Fin 4, val S64x3x4x4 (V (Proc.devRef .tc main_arg1)) (ix4 o c d e) * val S2x3x4x4x256x256 (V (Proc.devRef .tc main_v25)) (ix6 b c d e i j)) + val S64 (V (Proc.devRef .tc main_arg2)) (ix1 o)) 0 := by
  simp only [val, wval, win2, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  rw [show dot_S64x3x4x4_S2x3x4x4x256x256_S64x2x256x256_123_123_0_045_n_n = winDims dot_S64x3x4x4_S2x3x4x4x256x256_S64x2x256x256_123_123_0_045_n_n_wf from rfl]
  pointwise [winMat]

set_option maxHeartbeats 4000000 in
/-- The second layer: filters times windows, the bias added, channels last. -/
theorem win6_read (b : Fin 2) (o : Fin 64) (i j : Fin 128) :
    val S2x128x128x64 (after win6 (after win5 V) (Proc.devRef .tc main_v57)) (ix4 b i j o)
      = (∑ c : Fin 64, ∑ d : Fin 4, ∑ e : Fin 4, val S64x64x4x4 (V (Proc.devRef .tc main_arg3)) (ix4 o c d e) * val S2x64x4x4x128x128 (V (Proc.devRef .tc main_v51)) (ix6 b c d e i j)) + val S64 (V (Proc.devRef .tc main_arg4)) (ix1 o) := by
  simp only [val, wval, win5, win6, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  rw [show dot_S64x64x4x4_S2x64x4x4x128x128_S64x2x128x128_123_123_0_045_n_n = winDims dot_S64x64x4x4_S2x64x4x4x128x128_S64x2x128x128_123_123_0_045_n_n_wf from rfl]
  pointwise [winMat]

set_option maxHeartbeats 4000000 in
/-- The second layer with its pixels in one row. -/
theorem win6_flat (b : Fin 2) (o : Fin 64) (i j : Fin 128) :
    val S32768x64 (after win6 V (Proc.devRef .tc main_v58)) (ix2 ⟨(b * 128 + i) * 128 + j, by omega⟩ o)
      = (after win6 V (Proc.devRef .tc main_v57) : (⟨S2x128x128x64, .f32⟩ : BufTy).Contents (Elt Ideal)) (ix4 b i j o) := by
  simp only [val, wval, win6, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise

end Cert.ReferenceIdeal.Windows

end
-- ==== Proof.RefRead3.lean ====
/- What the rest of the reference's windows compute, index by index. -/
module

public import proofs.«01_k».proof.Proof.RefRun
public import proofs.«01_k».proof.Proof.Spec
public import proofs.«01_k».proof.Proof.WinDot
public import proofs.«01_k».proof.Proof.Argmin
public import Idealize.ShloMosaic.Lib.Routing.Ops
public import Idealize.ShloMosaic.Lib.Pointwise

@[expose] public section

set_option maxRecDepth 8192

noncomputable section

namespace Cert.ReferenceIdeal.Windows

open Cert.ReferenceIdeal Cert.ReferenceIdeal.Gen Idealize.ShloMosaic Idealize.ShloMosaic.TcCoe Idealize.SL.Sem Idealize.ShloMosaic.StableHlo Cert.Conv

variable (V : Valuation τ sig (Elt Ideal))

/-- The image scaled to between minus one and one, if it was between zero and one. -/
theorem win0_read : after win0 V (Proc.devRef .tc main_v6) = normArr reducesTo_S2x3x512x512_S_d0_1_2_3 h_S_ bcast_S_S2x3x512x512 (V (Proc.devRef .tc main_arg0)) := by
  simp only [win0, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  rfl

/-- That image with its border. -/
theorem win0_pad (b : Fin 2) (c : Fin 3) (I J : Fin 514) :
    val S2x3x514x514 (after win0 V (Proc.devRef .tc main_v7)) (ix4 b c I J) = pad1 (im4 (normArr reducesTo_S2x3x512x512_S_d0_1_2_3 h_S_ bcast_S_S2x3x512x512 (V (Proc.devRef .tc main_arg0)))) b c I J := by
  have e : val S2x3x514x514 (after win0 V (Proc.devRef .tc main_v7)) = pad S2x3x514x514 ![0, 0, 1, 1] ![0, 0, 1, 1] ![0, 0, 0, 0] (val S2x3x512x512 (normArr reducesTo_S2x3x512x512_S_d0_1_2_3 h_S_ bcast_S_S2x3x512x512 (V (Proc.devRef .tc main_arg0)))) (constant (F := Ideal) S_ .f32 0x00000000#32) pads_S2x3x512x512_S2x3x514x514_000_000_110_110 h_S_ := by
    simp only [val, win0, TRef.nullary, TRef.unary, TRef.binary, TRef.ternary, TRef.toBuf, TRef.ofBuf, cast_eq]
    after_results_simp
    try dsimp only [Matrix.cons_val]
    try after_results_simp
    try dsimp only [Matrix.cons_val]
    try after_results_simp
    try dsimp only [Matrix.cons_val]
    try after_results_simp
    rfl
  rw [e]
  generalize normArr _ _ _ _ = x
  simp only [val]
  pointwise
  simp [pad1, im4, and_assoc]

set_option maxHeartbeats 4000000 in
/-- The first layer with its border. -/
theorem win3_pad (b : Fin 2) (c : Fin 64) (I J : Fin 258) :
    val S2x64x258x258 (after win3 V (Proc.devRef .tc main_v33)) (ix4 b c I J)
      = pad1 (im4 (val S2x64x256x256 (V (Proc.devRef .tc main_v32)))) b c I J := by
  simp only [val, wval, win3, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  simp [pad1, im4, and_assoc]

set_option maxHeartbeats 4000000 in
/-- The squared distances to the codes. -/
theorem win7_read (n : Fin 32768) (k : Fin 512) :
    val S32768x512 (after win7 V (Proc.devRef .tc main_v72)) (ix2 n k)
      = ((∑ o, val S32768x64 (V (Proc.devRef .tc main_v58)) (ix2 n o) * val S32768x64 (V (Proc.devRef .tc main_v58)) (ix2 n o)) - ∑ o, (Ideal.ofBits .f32 0x40000000#32 * val S32768x64 (V (Proc.devRef .tc main_v58)) (ix2 n o)) * val S512x64 (V (Proc.devRef .tc main_arg5)) (ix2 k o)) + ∑ o, val S512x64 (V (Proc.devRef .tc main_arg5)) (ix2 k o) * val S512x64 (V (Proc.devRef .tc main_arg5)) (ix2 k o) := by
  simp only [val, wval, win7, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise

set_option maxHeartbeats 4000000 in
/-- The chosen codes, pixels in rows and columns. -/
theorem win10_q (b : Fin 2) (o : Fin 64) (i j : Fin 128) :
    val S2x128x128x64 (after win10 V (Proc.devRef .tc main_v75)) (ix4 b i j o)
      = val S32768x64 (V (Proc.devRef .tc main_v74)) (ix2 ⟨(b * 128 + i) * 128 + j, by omega⟩ o) := by
  simp only [val, wval, win10, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  congr 3
  omega

set_option maxHeartbeats 4000000 in
/-- The numbers of the chosen codes, pixels in rows and columns. -/
theorem win10_p (b : Fin 2) (i j : Fin 128) :
    wval S2x128x128 (after win10 V (Proc.devRef .tc main_v76)) (ix3 b i j)
      = wval S32768 (V (Proc.devRef .tc main_v73)) (ix1 ⟨(b * 128 + i) * 128 + j, by omega⟩) := by
  simp only [val, wval, win10, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  congr 3
  omega

/-- A sum over all four axes. -/
theorem hostReduceAdd_all (x : S2x128x128x64.Idx → EReal) :
    Ideal.hostReduceAdd reducesTo_S2x128x128x64_S_d0_1_2_3 x 0 ix0 = ∑ b : Fin 2, ∑ i : Fin 128, ∑ j : Fin 128, ∑ o : Fin 64, x (ix4 b i j o) := by
  rw [Ideal.hostReduceAdd, zero_add, Finset.filter_true_of_mem fun i _ => funext fun a => a.elim0, sum_idx4]

set_option maxHeartbeats 4000000 in
/-- The loss. -/
theorem win11_read  :
    val S_ (after win11 V (Proc.devRef .tc main_v86)) ix0
      = lossOf (sqSum (fun b o i j => val S2x128x128x64 (V (Proc.devRef .tc main_v75)) (ix4 b i j o)) (fun b o i j => val S2x128x128x64 (V (Proc.devRef .tc main_v57)) (ix4 b i j o))) := by
  simp only [val, wval, win11, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  rw [hostReduceAdd_all]
  rfl

set_option maxHeartbeats 4000000 in
/-- The quantized image, as the encoder’s plus the difference. -/
theorem win12_read (b : Fin 2) (o : Fin 64) (i j : Fin 128) :
    val S2x64x128x128 (after win12 V (Proc.devRef .tc main_v89)) (ix4 b o i j)
      = val S2x128x128x64 (V (Proc.devRef .tc main_v57)) (ix4 b i j o) + (val S2x128x128x64 (V (Proc.devRef .tc main_v75)) (ix4 b i j o) - val S2x128x128x64 (V (Proc.devRef .tc main_v57)) (ix4 b i j o)) := by
  simp only [val, wval, win12, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise

set_option maxHeartbeats 4000000 in
/-- The third layer’s filters turned over. -/
theorem win13_w (o c : Fin 64) (d e : Fin 4) :
    val S64x64x4x4 (after win13 V (Proc.devRef .tc main_v91)) (ix4 o c d e)
      = val S64x64x4x4 (V (Proc.devRef .tc main_arg6)) (ix4 c o d.rev e.rev) := by
  simp only [val, wval, win13, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  simp

set_option maxHeartbeats 4000000 in
/-- The last layer’s filters turned over. -/
theorem win17_w (o : Fin 3) (c : Fin 64) (d e : Fin 4) :
    val S3x64x4x4 (after win17 V (Proc.devRef .tc main_v119)) (ix4 o c d e)
      = val S64x3x4x4 (V (Proc.devRef .tc main_arg8)) (ix4 c o d.rev e.rev) := by
  simp only [val, wval, win17, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  simp

set_option maxHeartbeats 4000000 in
/-- The quantized image spread. -/
theorem win13_dil (b : Fin 2) (c : Fin 64) (I J : Fin 259) :
    val S2x64x259x259 (after win13 V (Proc.devRef .tc main_v92)) (ix4 b c I J)
      = dil (im4 (val S2x64x128x128 (V (Proc.devRef .tc main_v89)))) b c I J := by
  simp only [val, wval, win13, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  rfl

set_option maxHeartbeats 4000000 in
/-- The third layer spread. -/
theorem win17_dil (b : Fin 2) (c : Fin 64) (I J : Fin 515) :
    val S2x64x515x515 (after win17 V (Proc.devRef .tc main_v120)) (ix4 b c I J)
      = dil (im4 (val S2x64x256x256 (V (Proc.devRef .tc main_v117)))) b c I J := by
  simp only [val, wval, win17, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  pointwise
  rfl

set_option maxHeartbeats 4000000 in
/-- The third layer. -/
theorem win16_read (b : Fin 2) (o : Fin 64) (i j : Fin 256) :
    val S2x64x256x256 (after win16 V (Proc.devRef .tc main_v117)) (ix4 b o i j)
      = max ((∑ c : Fin 64, ∑ d : Fin 4, ∑ e : Fin 4, val S64x64x4x4 (V (Proc.devRef .tc main_v91)) (ix4 o c d e) * val S2x64x4x4x256x256 (V (Proc.devRef .tc main_v110)) (ix6 b c d e i j)) + val S64 (V (Proc.devRef .tc main_arg7)) (ix1 o)) 0 := by
  simp only [val, wval, win16, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  rw [show dot_S64x64x4x4_S2x64x4x4x256x256_S64x2x256x256_123_123_0_045_n_n = winDims dot_S64x64x4x4_S2x64x4x4x256x256_S64x2x256x256_123_123_0_045_n_n_wf from rfl]
  pointwise [winMat]

set_option maxHeartbeats 4000000 in
/-- The last layer. -/
theorem win19_read (b : Fin 2) (o : Fin 3) (i j : Fin 512) :
    val S2x3x512x512 (after win19 V (Proc.devRef .tc main_v144)) (ix4 b o i j)
      = Ideal.tanh ((∑ c : Fin 64, ∑ d : Fin 4, ∑ e : Fin 4, val S3x64x4x4 (V (Proc.devRef .tc main_v119)) (ix4 o c d e) * val S2x64x4x4x512x512 (V (Proc.devRef .tc main_v138)) (ix6 b c d e i j)) + val S3 (V (Proc.devRef .tc main_arg9)) (ix1 o)) := by
  simp only [val, wval, win19, TRef.nullary, TRef.unary, TRef.binary, TRef.ternary, TRef.toBuf, TRef.ofBuf, cast_eq]
  after_results_simp
  try dsimp only [Matrix.cons_val]
  try after_results_simp
  try dsimp only [Matrix.cons_val]
  try after_results_simp
  try dsimp only [Matrix.cons_val]
  try after_results_simp
  rw [show dot_S3x64x4x4_S2x64x4x4x512x512_S3x2x512x512_123_123_0_045_n_n = winDims dot_S3x64x4x4_S2x64x4x4x512x512_S3x2x512x512_123_123_0_045_n_n_wf from rfl]
  pointwise [winMat]

end Cert.ReferenceIdeal.Windows

end
-- ==== Proof.RefRead4.lean ====
/- The chosen codes of the reference: the first nearest code's number, and its row. -/
module

public import proofs.«01_k».proof.Proof.RefRun
public import proofs.«01_k».proof.Proof.Spec
public import proofs.«01_k».proof.Proof.Argmin
public import Idealize.ShloMosaic.Lib.Routing.Ops
public import Idealize.ShloMosaic.Lib.Pointwise

@[expose] public section

set_option maxRecDepth 8192

noncomputable section

namespace Cert.ReferenceIdeal.Windows

open Cert.ReferenceIdeal Cert.ReferenceIdeal.Gen Cert.Conv Idealize.ShloMosaic Idealize.ShloMosaic.TcCoe Idealize.SL.Sem Idealize.ShloMosaic.StableHlo

variable (V : Valuation τ sig (Elt Ideal))

theorem or_one : ∀ b : BitVec 1, 1#1 ||| b = 1#1 := by decide

/-- The function folded over the pairs gives the smaller pair. -/
theorem reducer_min (a b : EReal × BitVec 32) :
    (reducer_argmin_f32_i32 (F := Ideal) a b = a ∧ le2 a b) ∨ (reducer_argmin_f32_i32 (F := Ideal) a b = b ∧ le2 b a) := by
  obtain ⟨x, k⟩ := a
  obtain ⟨y, l⟩ := b
  have hne : FloatOps.cmpf (F := Ideal) (φ := .f32) .une x x = 0#1 := by simp [Ideal.cmpf_def, Ideal.cmp]
  simp only [reducer_argmin_f32_i32, hne, le2]
  rcases lt_trichotomy x y with h | h | h
  · left
    have h1 : FloatOps.cmpf (F := Ideal) (φ := .f32) .olt x y = 1#1 := by simp [Ideal.cmpf_def, Ideal.cmp, h]
    simp [h1, IntOp.ori, Scalar.select, h]
    intro hh; exact absurd (or_one _ : (1#1 ||| IntOp.andi (FloatOps.cmpf (F := Ideal) (φ := .f32) .oeq x y) (IntOp.cmpi .slt k l)) = 1#1) hh
  · subst h
    have h1 : FloatOps.cmpf (F := Ideal) (φ := .f32) .olt x x = 0#1 := by simp [Ideal.cmpf_def, Ideal.cmp]
    have h2 : FloatOps.cmpf (F := Ideal) (φ := .f32) .oeq x x = 1#1 := by simp [Ideal.cmpf_def, Ideal.cmp]
    by_cases hk : k.toInt < l.toInt
    · left
      have h3 : IntOp.cmpi .slt k l = 1#1 := by simp [IntOp.cmpi, BitVec.slt, hk]
      simp [h1, h2, h3, IntOp.ori, IntOp.andi, Scalar.select, hk.le]
    · right
      have h3 : IntOp.cmpi .slt k l = 0#1 := by simp [IntOp.cmpi, BitVec.slt, hk]
      simp [h1, h2, h3, IntOp.ori, IntOp.andi, Scalar.select, not_lt.mp hk]
  · right
    have h1 : FloatOps.cmpf (F := Ideal) (φ := .f32) .olt x y = 0#1 := by simp [Ideal.cmpf_def, Ideal.cmp, not_lt.mpr h.le]
    have h2 : FloatOps.cmpf (F := Ideal) (φ := .f32) .oeq x y = 0#1 := by simp [Ideal.cmpf_def, Ideal.cmp, h.ne']
    simp [h1, h2, IntOp.ori, IntOp.andi, Scalar.select, h]

/-- Window 8 gives a pixel the number of the first code at the least distance. -/
theorem win8_read (n : Fin 32768) :
    ∃ k : Fin 512, FirstMin (fun k => val S32768x512 (V (Proc.devRef .tc main_v72)) (ix2 n k)) k
      ∧ wval S32768 (after win8 V (Proc.devRef .tc main_v73)) (ix1 n) = BitVec.ofNat 32 k := by
  have e : wval S32768 (after win8 V (Proc.devRef .tc main_v73))
      = fun j => (Host.argReduce (F := Ideal) (φ := .f32) reducer_argmin_f32_i32 (val S32768x512 (V (Proc.devRef .tc main_v72))) (iotaInDim S32768x512 32 1)
          (constant S_ .f32 0x7F800000#32) (constantI S_ 32 0#32) reducesTo_S32768x512_S32768_d1 h_S_ j).2 := by
    simp only [val, wval, win8, TRef.nullary, TRef.quaternary, TRef.toBuf, TRef.ofBuf, cast_eq]
    after_results_simp
  rw [e, Ideal.argReduce_eq_reduce2]
  simp only [Host.reduce2_eq_foldl_fiber]
  have ht : (constant (F := Ideal) S_ .f32 0x7F800000#32) (Shape.Idx.first h_S_) = (⊤ : EReal) := by
    simp [constant, Ideal.ofBits_def, Ideal.ofBits, Ideal.ieee]
  have := fold_first (n := 512) (by decide) (by decide) (fun k => val S32768x512 (V (Proc.devRef .tc main_v72)) (ix2 n k))
    (reducer_argmin_f32_i32 (F := Ideal)) reducer_min (Host.argReduceFiber (val S32768x512 (V (Proc.devRef .tc main_v72))) (iotaInDim S32768x512 32 1) reducesTo_S32768x512_S32768_d1 (ix1 n)) ?_
  · rw [ht]; exact this
  · intro p
    simp only [Host.argReduceFiber, List.mem_map, List.mem_filter, decide_eq_true_eq]
    constructor
    · rintro ⟨m, ⟨-, hm⟩, rfl⟩
      obtain ⟨k, hk⟩ := (Shape.ReducesTo.fiber_r2_a1 reducesTo_S32768x512_S32768_d1 (ix1 n) _).mp hm
      exact ⟨k, by rw [← hk]; rfl⟩
    · rintro ⟨k, rfl⟩
      refine ⟨S32768x512.rowMajor (ix2 n k), ⟨List.mem_finRange _, ?_⟩, ?_⟩
      · rw [Equiv.symm_apply_apply]
        exact (Shape.ReducesTo.fiber_r2_a1 reducesTo_S32768x512_S32768_d1 (ix1 n) _).mpr ⟨k, rfl⟩
      · rw [Equiv.symm_apply_apply]; rfl

theorem number_facts : ∀ k : Fin 512, IntOp.cmpi .slt (BitVec.ofNat 32 k) 0#32 = 0#1 ∧ IntOp.cmpi .sge (BitVec.ofNat 32 k) 0#32 = 1#1
    ∧ IntOp.cmpi .sle (BitVec.ofNat 32 k) 511#32 = 1#1 := by decide +kernel

/-- Window 9 gives a pixel the row of the code its number names. -/
theorem win9_read (n : Fin 32768) (k : Fin 512) (hk : wval S32768 (V (Proc.devRef .tc main_v73)) (ix1 n) = BitVec.ofNat 32 k) (o : Fin 64) :
    val S32768x64 (after win9 V (Proc.devRef .tc main_v74)) (ix2 n o) = val S512x64 (V (Proc.devRef .tc main_arg5)) (ix2 k o) := by
  simp only [val, wval, win9, TRef.nullary, TRef.unary, TRef.binary, TRef.ternary, TRef.toBuf, TRef.ofBuf, cast_eq] at hk ⊢
  after_results_simp
  try dsimp only [Matrix.cons_val]
  try after_results_simp
  pointwise
  obtain ⟨h1, h2, h3⟩ := number_facts k
  rw [Finset.univ_unique, Finset.fold_singleton, hk, h1]
  have hs : ∀ a b : BitVec 32, Scalar.select (0#1) a b = b := fun _ _ => rfl
  rw [hs, h2, h3]
  refine Eq.trans (if_pos (by decide)) ?_
  refine Routing.gather_row _ rfl rfl rfl rfl rfl _ _ _ _ _ ?_ (by decide)
  pointwise
  rw [hk, h1, hs]

end Cert.ReferenceIdeal.Windows

end
-- ==== Proof.RefValue.lean ====
/- What the reference program computes, layer by layer. -/
module

public import proofs.«01_k».proof.Proof.RefRead
public import proofs.«01_k».proof.Proof.RefRead2
public import proofs.«01_k».proof.Proof.RefRead3
public import proofs.«01_k».proof.Proof.RefRead4
public import Idealize.ShloMosaic.Lib.Pointwise

@[expose] public section

set_option maxRecDepth 8192

noncomputable section

namespace Cert.ReferenceIdeal.Windows

open Cert.ReferenceIdeal Cert.ReferenceIdeal.Gen Cert.Conv Idealize.ShloMosaic Idealize.ShloMosaic.TcCoe Idealize.SL.Sem Idealize.ShloMosaic.StableHlo

variable (V : Valuation τ sig (Elt Ideal))

/-- The scaled input. -/
def xR : Img 3 512 := im4 (normArr reducesTo_S2x3x512x512_S_d0_1_2_3 h_S_ bcast_S_S2x3x512x512 (V (Proc.devRef .tc main_arg0)))

/-- The first layer. -/
def hR : Img 64 256 := relu (down (xR V) (im4 (val S64x3x4x4 (V (Proc.devRef .tc main_arg1)))) (im1 (val S64 (V (Proc.devRef .tc main_arg2)))))

/-- The encoded image. -/
def zR : Img 64 128 := down (hR V) (im4 (val S64x64x4x4 (V (Proc.devRef .tc main_arg3)))) (im1 (val S64 (V (Proc.devRef .tc main_arg4))))

/-- The codes. -/
def cR : Fin 512 → Fin 64 → EReal := im2 (val S512x64 (V (Proc.devRef .tc main_arg5)))

/-- The image of the codes that `κ` names. -/
def qR (κ : Fin 2 → Fin 128 → Fin 128 → Fin 512) : Img 64 128 := fun b o i j => cR V (κ b i j) o

/-- The decoded image of a quantized one. -/
def outR (q : Img 64 128) : Img 3 512 := fun b o i j =>
  Ideal.tanh (up (m := 512) (relu (up (m := 256) q (im4 (val S64x64x4x4 (V (Proc.devRef .tc main_arg6)))) (im1 (val S64 (V (Proc.devRef .tc main_arg7)))))) (im4 (val S64x3x4x4 (V (Proc.devRef .tc main_arg8)))) (im1 (val S3 (V (Proc.devRef .tc main_arg9)))) b o i j)

theorem hR_eq (b : Fin 2) (o : Fin 64) (i j : Fin 256) : val S2x64x256x256 (buf3 V (Proc.devRef .tc main_v32)) (ix4 b o i j) = hR V b o i j := by
  have k_main_arg1_2 : val S64x3x4x4 ((buf2 V) (Proc.devRef .tc main_arg1)) = val S64x3x4x4 (V (Proc.devRef .tc main_arg1)) := ((win1_keep _ main_arg1 (by decide)).trans <| (win0_keep _ main_arg1 (by decide)))
  have k_main_arg2_2 : val S64 ((buf2 V) (Proc.devRef .tc main_arg2)) = val S64 (V (Proc.devRef .tc main_arg2)) := ((win1_keep _ main_arg2 (by decide)).trans <| (win0_keep _ main_arg2 (by decide)))
  refine (win2_read (buf2 V) b o i j).trans ?_
  rw [k_main_arg1_2, k_main_arg2_2]
  refine congrArg (fun t => max (t + _) 0) (Finset.sum_congr rfl fun c _ => Finset.sum_congr rfl fun d _ => Finset.sum_congr rfl fun e _ => congrArg _ ?_)
  exact (win1_read (buf1 V) b c d e i j).trans (win0_pad V b c _ _)

theorem zR_eq (b : Fin 2) (o : Fin 64) (i j : Fin 128) : val S2x128x128x64 (buf7 V (Proc.devRef .tc main_v57)) (ix4 b i j o) = zR V b o i j := by
  have k_main_arg3_5 : val S64x64x4x4 ((buf5 V) (Proc.devRef .tc main_arg3)) = val S64x64x4x4 (V (Proc.devRef .tc main_arg3)) := ((win4_keep _ main_arg3 (by decide)).trans <| (win3_keep _ main_arg3 (by decide)).trans <| (win2_keep _ main_arg3 (by decide)).trans <| (win1_keep _ main_arg3 (by decide)).trans <| (win0_keep _ main_arg3 (by decide)))
  have k_main_arg4_5 : val S64 ((buf5 V) (Proc.devRef .tc main_arg4)) = val S64 (V (Proc.devRef .tc main_arg4)) := ((win4_keep _ main_arg4 (by decide)).trans <| (win3_keep _ main_arg4 (by decide)).trans <| (win2_keep _ main_arg4 (by decide)).trans <| (win1_keep _ main_arg4 (by decide)).trans <| (win0_keep _ main_arg4 (by decide)))
  have hh : im4 (val S2x64x256x256 (buf3 V (Proc.devRef .tc main_v32))) = hR V := by
    funext b o i j; exact hR_eq V b o i j
  refine (win6_read (buf5 V) b o i j).trans ?_
  rw [k_main_arg3_5, k_main_arg4_5]
  refine congrArg (fun t => t + _) (Finset.sum_congr rfl fun c _ => Finset.sum_congr rfl fun d _ => Finset.sum_congr rfl fun e _ => congrArg _ ?_)
  refine (win4_read (buf4 V) b c d e i j).trans ((win3_pad (buf3 V) b c _ _).trans ?_)
  rw [hh]

theorem dR_eq (b : Fin 2) (i j : Fin 128) (k : Fin 512) :
    val S32768x512 (buf8 V (Proc.devRef .tc main_v72)) (ix2 ⟨(b * 128 + i) * 128 + j, by omega⟩ k) = dist (zR V) (cR V) b i j k := by
  have k_main_arg5_7 : val S512x64 ((buf7 V) (Proc.devRef .tc main_arg5)) = val S512x64 (V (Proc.devRef .tc main_arg5)) := ((win6_keep _ main_arg5 (by decide)).trans <| (win5_keep _ main_arg5 (by decide)).trans <| (win4_keep _ main_arg5 (by decide)).trans <| (win3_keep _ main_arg5 (by decide)).trans <| (win2_keep _ main_arg5 (by decide)).trans <| (win1_keep _ main_arg5 (by decide)).trans <| (win0_keep _ main_arg5 (by decide)))
  have hz : ∀ o, val S32768x64 (buf7 V (Proc.devRef .tc main_v58)) (ix2 ⟨(b * 128 + i) * 128 + j, by omega⟩ o) = zR V b o i j := fun o =>
    (win6_flat (buf6 V) b o i j).trans (zR_eq V b o i j)
  refine (win7_read (buf7 V) _ k).trans ?_
  simp only [hz, k_main_arg5_7]
  rfl

/-- What the reference computes: the numbers of the first nearest codes, the loss, and the decoded image. -/
theorem ref_value : ∃ κ : Fin 2 → Fin 128 → Fin 128 → Fin 512,
    (∀ b i j, FirstMin (dist (zR V) (cR V) b i j) (κ b i j))
    ∧ (∀ b i j, wval S2x128x128 (buf20 V (Proc.devRef .tc main_v76)) (ix3 b i j) = BitVec.ofNat 32 (κ b i j))
    ∧ val S_ (buf20 V (Proc.devRef .tc main_v86)) ix0 = lossOf (sqSum (qR V κ) (zR V))
    ∧ ∀ b o i j, val S2x3x512x512 (buf20 V (Proc.devRef .tc main_v144)) (ix4 b o i j)
        = outR V (fun b o i j => zR V b o i j + (qR V κ b o i j - zR V b o i j)) b o i j := by
  have h8 : ∀ (b : Fin 2) (i j : Fin 128), ∃ k : Fin 512, FirstMin (dist (zR V) (cR V) b i j) k
      ∧ wval S32768 (buf9 V (Proc.devRef .tc main_v73)) (ix1 ⟨(b * 128 + i) * 128 + j, by omega⟩) = BitVec.ofNat 32 k := fun b i j => by
    obtain ⟨k, hk, h⟩ := win8_read (buf8 V) ⟨(b * 128 + i) * 128 + j, by omega⟩
    refine ⟨k, ?_, h⟩
    have e : (fun k => val S32768x512 (buf8 V (Proc.devRef .tc main_v72)) (ix2 ⟨(b * 128 + i) * 128 + j, by omega⟩ k)) = dist (zR V) (cR V) b i j :=
      funext fun k => dR_eq V b i j k
    exact e ▸ hk
  choose κ h1 h2 using h8
  have hq : ∀ b o i j, val S2x128x128x64 (buf11 V (Proc.devRef .tc main_v75)) (ix4 b i j o) = qR V κ b o i j := fun b o i j => by
    have k_main_arg5_9 : val S512x64 ((buf9 V) (Proc.devRef .tc main_arg5)) = val S512x64 (V (Proc.devRef .tc main_arg5)) := ((win8_keep _ main_arg5 (by decide)).trans <| (win7_keep _ main_arg5 (by decide)).trans <| (win6_keep _ main_arg5 (by decide)).trans <| (win5_keep _ main_arg5 (by decide)).trans <| (win4_keep _ main_arg5 (by decide)).trans <| (win3_keep _ main_arg5 (by decide)).trans <| (win2_keep _ main_arg5 (by decide)).trans <| (win1_keep _ main_arg5 (by decide)).trans <| (win0_keep _ main_arg5 (by decide)))
    refine (win10_q (buf10 V) b o i j).trans ((win9_read (buf9 V) _ (κ b i j) (h2 b i j) o).trans ?_)
    rw [k_main_arg5_9]; rfl
  refine ⟨κ, h1, fun b i j => ?_, ?_, fun b o i j => ?_⟩
  · have k1 : wval S2x128x128 (buf20 V (Proc.devRef .tc main_v76)) = wval S2x128x128 (buf11 V (Proc.devRef .tc main_v76)) := ((win19_keep _ main_v76 (by decide)).trans <| (win18_keep _ main_v76 (by decide)).trans <| (win17_keep _ main_v76 (by decide)).trans <| (win16_keep _ main_v76 (by decide)).trans <| (win15_keep _ main_v76 (by decide)).trans <| (win14_keep _ main_v76 (by decide)).trans <| (win13_keep _ main_v76 (by decide)).trans <| (win12_keep _ main_v76 (by decide)).trans <| (win11_keep _ main_v76 (by decide)))
    have k2 : wval S32768 (buf10 V (Proc.devRef .tc main_v73)) = wval S32768 (buf9 V (Proc.devRef .tc main_v73)) := (win9_keep _ main_v73 (by decide))
    rw [k1]
    refine (win10_p (buf10 V) b i j).trans ?_
    rw [k2]
    exact h2 b i j
  · have k1 : val S_ (buf20 V (Proc.devRef .tc main_v86)) = val S_ (buf12 V (Proc.devRef .tc main_v86)) := ((win19_keep _ main_v86 (by decide)).trans <| (win18_keep _ main_v86 (by decide)).trans <| (win17_keep _ main_v86 (by decide)).trans <| (win16_keep _ main_v86 (by decide)).trans <| (win15_keep _ main_v86 (by decide)).trans <| (win14_keep _ main_v86 (by decide)).trans <| (win13_keep _ main_v86 (by decide)).trans <| (win12_keep _ main_v86 (by decide)))
    have k2 : val S2x128x128x64 (buf11 V (Proc.devRef .tc main_v57)) = val S2x128x128x64 (buf7 V (Proc.devRef .tc main_v57)) := ((win10_keep _ main_v57 (by decide)).trans <| (win9_keep _ main_v57 (by decide)).trans <| (win8_keep _ main_v57 (by decide)).trans <| (win7_keep _ main_v57 (by decide)))
    rw [k1]
    refine (win11_read (buf11 V)).trans ?_
    rw [k2]
    refine congrArg lossOf (congrArg₂ sqSum ?_ ?_) <;> funext b o i j
    · exact hq b o i j
    · exact zR_eq V b o i j
  · have k2 : val S2x128x128x64 (buf12 V (Proc.devRef .tc main_v57)) = val S2x128x128x64 (buf7 V (Proc.devRef .tc main_v57)) := ((win11_keep _ main_v57 (by decide)).trans <| (win10_keep _ main_v57 (by decide)).trans <| (win9_keep _ main_v57 (by decide)).trans <| (win8_keep _ main_v57 (by decide)).trans <| (win7_keep _ main_v57 (by decide)))
    have k3 : val S2x128x128x64 (buf12 V (Proc.devRef .tc main_v75)) = val S2x128x128x64 (buf11 V (Proc.devRef .tc main_v75)) := (win11_keep _ main_v75 (by decide))
    have k4 : val S64x64x4x4 (buf16 V (Proc.devRef .tc main_v91)) = val S64x64x4x4 (buf14 V (Proc.devRef .tc main_v91)) := ((win15_keep _ main_v91 (by decide)).trans <| (win14_keep _ main_v91 (by decide)))
    have k5 : val S3x64x4x4 (buf19 V (Proc.devRef .tc main_v119)) = val S3x64x4x4 (buf18 V (Proc.devRef .tc main_v119)) := (win18_keep _ main_v119 (by decide))
    have k_main_arg6_13 : val S64x64x4x4 ((buf13 V) (Proc.devRef .tc main_arg6)) = val S64x64x4x4 (V (Proc.devRef .tc main_arg6)) := ((win12_keep _ main_arg6 (by decide)).trans <| (win11_keep _ main_arg6 (by decide)).trans <| (win10_keep _ main_arg6 (by decide)).trans <| (win9_keep _ main_arg6 (by decide)).trans <| (win8_keep _ main_arg6 (by decide)).trans <| (win7_keep _ main_arg6 (by decide)).trans <| (win6_keep _ main_arg6 (by decide)).trans <| (win5_keep _ main_arg6 (by decide)).trans <| (win4_keep _ main_arg6 (by decide)).trans <| (win3_keep _ main_arg6 (by decide)).trans <| (win2_keep _ main_arg6 (by decide)).trans <| (win1_keep _ main_arg6 (by decide)).trans <| (win0_keep _ main_arg6 (by decide)))
    have k_main_arg7_16 : val S64 ((buf16 V) (Proc.devRef .tc main_arg7)) = val S64 (V (Proc.devRef .tc main_arg7)) := ((win15_keep _ main_arg7 (by decide)).trans <| (win14_keep _ main_arg7 (by decide)).trans <| (win13_keep _ main_arg7 (by decide)).trans <| (win12_keep _ main_arg7 (by decide)).trans <| (win11_keep _ main_arg7 (by decide)).trans <| (win10_keep _ main_arg7 (by decide)).trans <| (win9_keep _ main_arg7 (by decide)).trans <| (win8_keep _ main_arg7 (by decide)).trans <| (win7_keep _ main_arg7 (by decide)).trans <| (win6_keep _ main_arg7 (by decide)).trans <| (win5_keep _ main_arg7 (by decide)).trans <| (win4_keep _ main_arg7 (by decide)).trans <| (win3_keep _ main_arg7 (by decide)).trans <| (win2_keep _ main_arg7 (by decide)).trans <| (win1_keep _ main_arg7 (by decide)).trans <| (win0_keep _ main_arg7 (by decide)))
    have k_main_arg8_17 : val S64x3x4x4 ((buf17 V) (Proc.devRef .tc main_arg8)) = val S64x3x4x4 (V (Proc.devRef .tc main_arg8)) := ((win16_keep _ main_arg8 (by decide)).trans <| (win15_keep _ main_arg8 (by decide)).trans <| (win14_keep _ main_arg8 (by decide)).trans <| (win13_keep _ main_arg8 (by decide)).trans <| (win12_keep _ main_arg8 (by decide)).trans <| (win11_keep _ main_arg8 (by decide)).trans <| (win10_keep _ main_arg8 (by decide)).trans <| (win9_keep _ main_arg8 (by decide)).trans <| (win8_keep _ main_arg8 (by decide)).trans <| (win7_keep _ main_arg8 (by decide)).trans <| (win6_keep _ main_arg8 (by decide)).trans <| (win5_keep _ main_arg8 (by decide)).trans <| (win4_keep _ main_arg8 (by decide)).trans <| (win3_keep _ main_arg8 (by decide)).trans <| (win2_keep _ main_arg8 (by decide)).trans <| (win1_keep _ main_arg8 (by decide)).trans <| (win0_keep _ main_arg8 (by decide)))
    have k_main_arg9_19 : val S3 ((buf19 V) (Proc.devRef .tc main_arg9)) = val S3 (V (Proc.devRef .tc main_arg9)) := ((win18_keep _ main_arg9 (by decide)).trans <| (win17_keep _ main_arg9 (by decide)).trans <| (win16_keep _ main_arg9 (by decide)).trans <| (win15_keep _ main_arg9 (by decide)).trans <| (win14_keep _ main_arg9 (by decide)).trans <| (win13_keep _ main_arg9 (by decide)).trans <| (win12_keep _ main_arg9 (by decide)).trans <| (win11_keep _ main_arg9 (by decide)).trans <| (win10_keep _ main_arg9 (by decide)).trans <| (win9_keep _ main_arg9 (by decide)).trans <| (win8_keep _ main_arg9 (by decide)).trans <| (win7_keep _ main_arg9 (by decide)).trans <| (win6_keep _ main_arg9 (by decide)).trans <| (win5_keep _ main_arg9 (by decide)).trans <| (win4_keep _ main_arg9 (by decide)).trans <| (win3_keep _ main_arg9 (by decide)).trans <| (win2_keep _ main_arg9 (by decide)).trans <| (win1_keep _ main_arg9 (by decide)).trans <| (win0_keep _ main_arg9 (by decide)))
    have hst : im4 (val S2x64x128x128 (buf13 V (Proc.devRef .tc main_v89))) = fun b o i j => zR V b o i j + (qR V κ b o i j - zR V b o i j) := by
      funext b o i j
      refine (win12_read (buf12 V) b o i j).trans ?_
      rw [k2, k3, hq, zR_eq]
    have hh2 : im4 (val S2x64x256x256 (buf17 V (Proc.devRef .tc main_v117))) = relu (up (m := 256) (fun b o i j => zR V b o i j + (qR V κ b o i j - zR V b o i j)) (im4 (val S64x64x4x4 (V (Proc.devRef .tc main_arg6)))) (im1 (val S64 (V (Proc.devRef .tc main_arg7))))) := by
      funext b o i j
      refine (win16_read (buf16 V) b o i j).trans ?_
      rw [k4, k_main_arg7_16]
      refine congrArg (fun t => max (t + _) 0) (Finset.sum_congr rfl fun c _ => Finset.sum_congr rfl fun d _ => Finset.sum_congr rfl fun e _ => congr (congrArg _ ?_) ?_)
      · refine (win13_w (buf13 V) o c d e).trans ?_
        rw [k_main_arg6_13]
      · refine (win15_read (buf14 V) b c d e i j).trans ((win13_dil (buf13 V) b c _ _).trans ?_)
        rw [hst]
    refine (win19_read (buf19 V) b o i j).trans ?_
    rw [k5, k_main_arg9_19]
    refine congrArg (fun t => Ideal.tanh (t + _)) (Finset.sum_congr rfl fun c _ => Finset.sum_congr rfl fun d _ => Finset.sum_congr rfl fun e _ => congr (congrArg _ ?_) ?_)
    · refine (win17_w (buf17 V) o c d e).trans ?_
      rw [k_main_arg8_17]
    · refine (win18_read (buf18 V) b c d e i j).trans ((win17_dil (buf17 V) b c _ _).trans ?_)
      rw [hh2]

end Cert.ReferenceIdeal.Windows

end
-- ==== Proof.Region0.lean ====
/- What the first convolution's call leaves in its result, as a function of its operands. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Layer

open Cert.KernelIdeal Cert.KernelIdeal.Gen Cert.Conv Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Rows times columns plus a bias, the positive part: the first convolution over gathered windows. -/
def G0 (a : S131072x108.Idx → EReal) (w : S108x64.Idx → EReal) (b : S1x64.Idx → EReal) : S131072x64.Idx → EReal := fun i =>
  max ((∑ k : Fin 108, a (ix2 (i 0) k) * w (ix2 k (i 1))) + b (ix2 0 (i 1))) 0

theorem idx0 : ∀ t : Fin cfg0.N, win0_0.index t = ![(grid0.coords t 0).val, 0] ∧ win0_1.index t = ![0, 0]
    ∧ win0_2.index t = ![0, 0] ∧ win0_3.index t = ![(grid0.coords t 0).val, 0] :=
  (by decide +kernel : ∀ t : Fin grid0.N, _)

/-- At a point of the grid, each entry of the stored block is the whole result's entry there. -/
theorem point0 (c : Dev nD) (t : Fin cfg0.N) (y) : k0_pay1 (iblk0 V c 0 t) (iblk0 V c 1 t) (iblk0 V c 2 t) y
    = G0 (val S131072x108 (V c main_v22)) (val S108x64 (V c main_v34)) (val S1x64 (V c main_v35)) (((cfg0.win 3).blk t).view.emb y) := by
  simp only [G0, val]
  pointwise [k0_pay1]
  blk_point [iblk0, idx0 t]

/-- The result of the first call. -/
theorem final0 (c : Dev nD) : (dat0 V c).arrAt 3 cfg0.N
    = G0 (val S131072x108 (V c main_v22)) (val S108x64 (V c main_v34)) (val S1x64 (V c main_v35)) := by
  refine (dat0 V c).arrAt_eq_of_covers 3 _ (by decide +kernel) fun t _ y => ?_
  blk_simp
  rw [after0_3]; frame_out
  exact point0 V c t y

end Cert.KernelIdeal.Layer

end
-- ==== Proof.Region1.lean ====
/- What the second convolution's call leaves in its result, as a function of its operands. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen Cert.Conv Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row offset of each of the sixteen taps. -/
def off2 : ℕ → ℕ := fun k => ![0, 1, 1, 2, 130, 131, 131, 132, 130, 131, 131, 132, 260, 261, 261, 262] (Fin.ofNat 16 k)

/-- Channel offset of each of the sixteen taps. -/
def chan2 : ℕ → ℕ := fun k => ![192, 128, 192, 128, 64, 0, 64, 0, 192, 128, 192, 128, 64, 0, 64, 0] (Fin.ofNat 16 k)

theorem off2_le (k : ℕ) : off2 k ≤ 262 := by
  have : ∀ k : Fin 16, ![0, 1, 1, 2, 130, 131, 131, 132, 130, 131, 131, 132, 260, 261, 261, 262] k ≤ 262 := by decide
  exact this _

theorem chan2_le (k : ℕ) : chan2 k ≤ 192 := by
  have : ∀ k : Fin 16, ![192, 128, 192, 128, 64, 0, 64, 0, 192, 128, 192, 128, 64, 0, 64, 0] k ≤ 192 := by decide
  exact this _

theorem off1_eq : ∀ t : Fin cfg1.N, k1_off1 (grid1.coords t) = ![(grid1.coords t 0).val, (grid1.coords t 1).val * 2080, 0] :=
  (by decide +kernel : ∀ t : Fin grid1.N, _)

theorem idx1 : ∀ t : Fin cfg1.N, win1_0.index t = ![0, 0] ∧ win1_1.index t = ![0, 0]
    ∧ win1_2.index t = ![(grid1.coords t 0).val, (grid1.coords t 1).val, 0] :=
  (by decide +kernel : ∀ t : Fin grid1.N, _)

/-- The rows the call brings in at a point: a stretch of the bordered image. -/
theorem rows1 (c : Dev nD) (t : Fin cfg1.N) (h1 h2) (x : Fin 2344) (k : Fin 256) :
    ReadAs.same.apply
                      (View.read (Elt Idealize.ShloMosaic.Ideal)
                        (((View.whole main_v41).slice (Rect.unit (k1_off1 (grid1.coords t)) ![1, 2344, 256] h1)).reshape
                          S2344x256 h2)
                        (V c main_v41)) (ix2 x k) = val S2x17160x256 (V c main_v41)
        (ix3 (grid1.coords t 0) ⟨(grid1.coords t 1).val * 2080 + x.val, by
          have h : (grid1.coords t 1).val < 8 := (grid1.coords t 1).isLt
          omega⟩ k) := by
  have e : ReadAs.same.apply
                      (View.read (Elt Idealize.ShloMosaic.Ideal)
                        (((View.whole main_v41).slice (Rect.unit (k1_off1 (grid1.coords t)) ![1, 2344, 256] h1)).reshape
                          S2344x256 h2)
                        (V c main_v41)) (ix2 x k)
      = shapeCast S2344x256 (fun i : S1x2344x256.Idx => val S2x17160x256 (V c main_v41) ((Rect.unit (s := S2x17160x256) (k1_off1 (grid1.coords t)) ![1, 2344, 256] h1).emb i)) h2 (ix2 x k) := rfl
  rw [e]
  pointwise
  refine congrArg (val S2x17160x256 (V c main_v41)) ?_
  funext a
  refine Fin.ext ?_
  rw [ValueKit.rect_emb_unit_val]
  rw [congrFun (off1_eq t) a]
  match a with
  | ⟨0, _⟩ => rfl
  | ⟨1, _⟩ => rfl
  | ⟨2, _⟩ => exact Nat.zero_add _

/-- The second convolution: sixteen taps of 64 channels each, gathered from the bordered image's rows, times columns, plus a bias. -/
def G1 (xp : S2x17160x256.Idx → EReal) (w : S1024x64.Idx → EReal) (b : S1x64.Idx → EReal) : S2x16640x64.Idx → EReal := fun i =>
  (∑ q : Fin 1024, xp (ix3 (i 0) ⟨(i 1).val + off2 (q.val / 64), by
      have h : (i 1).val < 16640 := (i 1).isLt
      have := off2_le (q.val / 64); omega⟩ ⟨chan2 (q.val / 64) + q.val % 64, by
      have := chan2_le (q.val / 64); omega⟩) * w (ix2 q (i 2))) + b (ix2 0 (i 2))

/-- The operands' blocks at a point: the whole weights and the whole bias. -/
theorem blk1 (c : Dev nD) (t : Fin cfg1.N) : iblk1 V c 0 t = val S1024x64 (V c main_v44) ∧ iblk1 V c 1 t = val S1x64 (V c main_v45) := by
  refine ⟨?_, ?_⟩
  · funext y
    blk_simp [iblk1]
    simp only [val]
    blk_ext [idx1 t]
  · funext y
    blk_simp [iblk1]
    simp only [val]
    blk_ext [idx1 t]

/-- A buffer filled whole reads as what filled it. -/
theorem canon_fill {S : Shape} {e : EltTy} (X : S.Idx → Elt Ideal e) : View.canon (Val := Elt Ideal) [⟨Rect.whole S, X⟩] = X := by
  funext y
  have h := View.canon_cons_emb (Val := Elt Ideal) (Rect.whole S) X [] y
  rwa [Rect.emb_whole_apply] at h

/-- A load of a stretch of rows and columns from a buffer just filled. -/
theorem tap (X : Vec Ideal S2344x256 .bf16) (a0 a1 : ℕ) (h1 : ∀ a, ![a0, a1] a + S2080x64.size a ≤ S2344x256.size a)
    (h3 : S2080x64.ShapeCasts S2080x64) (z : S2080x64.Idx) (n : Fin 2344) (m : Fin 256) (hn : n.val = a0 + (z 0).val) (hm : m.val = a1 + (z 1).val) :
    shapeCast S2080x64 ((View.whole cc1_scratch0 : View sig .tc .vmem S2344x256 .bf16).readCov (Val := Elt Ideal) [⟨Rect.whole S2344x256, X⟩]
      (Rect.unit (s := S2344x256) ![a0, a1] S2080x64.size h1).toLoadRect) h3 z = X (ix2 n m) := by
  rw [View.readCov_eq_canon']
  pointwise
  refine (congrFun (canon_fill (S := S2344x256) (e := .bf16) X) _).trans ?_
  refine congrArg X ?_
  funext a
  refine Fin.ext ?_
  match a with
  | ⟨0, _⟩ => exact hn.symm
  | ⟨1, _⟩ => exact hm.symm

/-- The buffer of rows at a point. -/
def rowsBuf (c : Dev nD) (t : Fin cfg1.N) : Vec Ideal S2344x256 .bf16 := fun y =>
  val S2x17160x256 (V c main_v41) (ix3 (grid1.coords t 0) ⟨(grid1.coords t 1).val * 2080 + (y 0).val, by
          have h : (grid1.coords t 1).val < 8 := (grid1.coords t 1).isLt
          have h' : (y 0).val < 2344 := (y 0).isLt
          omega⟩ (y 1))

theorem rowsBuf_eq (c : Dev nD) (t : Fin cfg1.N) (h1 h2) :
    ReadAs.same.apply
                      (View.read (Elt Idealize.ShloMosaic.Ideal)
                        (((View.whole main_v41).slice (Rect.unit (k1_off1 (grid1.coords t)) ![1, 2344, 256] h1)).reshape
                          S2344x256 h2)
                        (V c main_v41)) = rowsBuf V c t := by
  funext y
  obtain ⟨x, k, rfl⟩ : ∃ (x : Fin 2344) (k : Fin 256), y = ix2 x k := ⟨y 0, y 1, eq_ix2 y⟩
  exact rows1 V c t h1 h2 x k

/-- The sixteen taps side by side. -/
def cat1 (X : Vec Ideal S2344x256 .bf16) : Vec Ideal S2080x1024 .bf16 := fun y =>
  X (ix2 ⟨(y 0).val + off2 ((y 1).val / 64), by have h : (y 0).val < 2080 := (y 0).isLt; have := off2_le ((y 1).val / 64); omega⟩
    ⟨chan2 ((y 1).val / 64) + (y 1).val % 64, by have := chan2_le ((y 1).val / 64); omega⟩)

/-- The taps of the rows brought in. -/
theorem rowsBuf_at (c : Dev nD) (t : Fin cfg1.N) (h1 h2) (r : Fin 2080) (q : Fin 1024) :
    cat1 (ReadAs.same.apply
                      (View.read (Elt Idealize.ShloMosaic.Ideal)
                        (((View.whole main_v41).slice (Rect.unit (k1_off1 (grid1.coords t)) ![1, 2344, 256] h1)).reshape
                          S2344x256 h2)
                        (V c main_v41))) (ix2 r q) = cat1 (rowsBuf V c t) (ix2 r q) :=
  congrArg (fun X => cat1 X (ix2 r q)) (rowsBuf_eq V c t h1 h2)

/-- The load of tap `k`, read at the columns it is stored to. -/
theorem tapAt (X : Vec Ideal S2344x256 .bf16) (k a0 a1 : ℕ) (hk0 : off2 k = a0) (hk1 : chan2 k = a1) (h1 : ∀ a, ![a0, a1] a + S2080x64.size a ≤ S2344x256.size a)
    (h3 : S2080x64.ShapeCasts S2080x64) (z : S2080x64.Idx) (r : Fin 2080) (q : Fin 1024) (hr : r.val = (z 0).val) (hq : q.val = 64 * k + (z 1).val) (hz : (z 1).val < 64) :
    shapeCast S2080x64 ((View.whole cc1_scratch0 : View sig .tc .vmem S2344x256 .bf16).readCov (Val := Elt Ideal) [⟨Rect.whole S2344x256, X⟩]
      (Rect.unit (s := S2344x256) ![a0, a1] S2080x64.size h1).toLoadRect) h3 z = cat1 X (ix2 r q) := by
  have hd : q.val / 64 = k := by omega
  refine tap X a0 a1 h1 h3 z _ _ ?_ ?_
  · show r.val + off2 (q.val / 64) = _
    rw [hd, hk0, hr, Nat.add_comm]
  · show chan2 (q.val / 64) + q.val % 64 = _
    rw [hd, hk1]; omega

theorem out1 (c : Dev nD) (t : Fin cfg1.N) :
    outsAt1 V c t = k1_pay17 (cat1 (rowsBuf V c t)) (val S1024x64 (V c main_v44)) (val S1x64 (V c main_v45)) := by
  unfold outsAt1
  frame_out
  obtain ⟨e0, e1⟩ := blk1 V c t
  rw [e0, e1]
  have key : ∀ C : Vec Ideal S2080x1024 .bf16, C = cat1 (rowsBuf V c t) → k1_pay17 C (val S1024x64 (V c main_v44)) (val S1x64 (V c main_v45))
      = k1_pay17 (F := Ideal) (cat1 (rowsBuf V c t)) (val S1024x64 (V c main_v44)) (val S1x64 (V c main_v45)) := fun C h => by rw [h]
  refine key _ ?_
  rw [View.readCov_eq_canon']
  funext y
  obtain ⟨r, q, rfl⟩ : ∃ (r : Fin 2080) (q : Fin 1024), y = ix2 r q := ⟨y 0, y 1, eq_ix2 y⟩
  beta_reduce
  have hi : (Rect.unit (s := S2080x1024) ![0, 0] ![2080, 1024] inb_S2080x1024_S2080x1024_0_0).idx (ix2 r q) = (ix2 r q : S2080x1024.Idx) := by
    funext a
    refine Fin.ext ?_
    match a with
    | ⟨0, _⟩ => exact (Rect.idx_unit_val ..).trans (Nat.zero_add _)
    | ⟨1, _⟩ => exact (Rect.idx_unit_val ..).trans (Nat.zero_add _)
  rw [hi]
  canon_tiles z h
  case piece0 => exact (tapAt _ 15 _ _ rfl rfl _ _ z r q h0 h1 z1_lt).trans (rowsBuf_at V c t _ _ r q)
  case piece1 => exact (tapAt _ 14 _ _ rfl rfl _ _ z r q h0 h1 z1_lt).trans (rowsBuf_at V c t _ _ r q)
  case piece2 => exact (tapAt _ 13 _ _ rfl rfl _ _ z r q h0 h1 z1_lt).trans (rowsBuf_at V c t _ _ r q)
  case piece3 => exact (tapAt _ 12 _ _ rfl rfl _ _ z r q h0 h1 z1_lt).trans (rowsBuf_at V c t _ _ r q)
  case piece4 => exact (tapAt _ 11 _ _ rfl rfl _ _ z r q h0 h1 z1_lt).trans (rowsBuf_at V c t _ _ r q)
  case piece5 => exact (tapAt _ 10 _ _ rfl rfl _ _ z r q h0 h1 z1_lt).trans (rowsBuf_at V c t _ _ r q)
  case piece6 => exact (tapAt _ 9 _ _ rfl rfl _ _ z r q h0 h1 z1_lt).trans (rowsBuf_at V c t _ _ r q)
  case piece7 => exact (tapAt _ 8 _ _ rfl rfl _ _ z r q h0 h1 z1_lt).trans (rowsBuf_at V c t _ _ r q)
  case piece8 => exact (tapAt _ 7 _ _ rfl rfl _ _ z r q h0 h1 z1_lt).trans (rowsBuf_at V c t _ _ r q)
  case piece9 => exact (tapAt _ 6 _ _ rfl rfl _ _ z r q h0 h1 z1_lt).trans (rowsBuf_at V c t _ _ r q)
  case piece10 => exact (tapAt _ 5 _ _ rfl rfl _ _ z r q h0 h1 z1_lt).trans (rowsBuf_at V c t _ _ r q)
  case piece11 => exact (tapAt _ 4 _ _ rfl rfl _ _ z r q h0 h1 z1_lt).trans (rowsBuf_at V c t _ _ r q)
  case piece12 => exact (tapAt _ 3 _ _ rfl rfl _ _ z r q h0 h1 z1_lt).trans (rowsBuf_at V c t _ _ r q)
  case piece13 => exact (tapAt _ 2 _ _ rfl rfl _ _ z r q h0 h1 z1_lt).trans (rowsBuf_at V c t _ _ r q)
  case piece14 => exact (tapAt _ 1 _ _ rfl rfl _ _ z r q h0 h1 z1_lt).trans (rowsBuf_at V c t _ _ r q)
  case piece15 => exact (tapAt _ 0 _ _ rfl rfl _ _ z r q h0 (h1.trans (Nat.zero_add _).symm) z1_lt).trans (rowsBuf_at V c t _ _ r q)

/-- The result of the second call. -/
theorem final1 (c : Dev nD) : (dat1 V c).arrAt 2 cfg1.N
    = G1 (val S2x17160x256 (V c main_v41)) (val S1024x64 (V c main_v44)) (val S1x64 (V c main_v45)) := by
  refine (dat1 V c).arrAt_eq_of_covers 2 _ (by decide +kernel) fun t _ y => ?_
  blk_simp
  rw [after1_2, out1]
  obtain ⟨i, r, o, rfl⟩ : ∃ (i : Fin 1) (r : Fin 2080) (o : Fin 64), y = ix3 i r o := ⟨y 0, y 1, y 2, eq_ix3 y⟩
  have ht : (grid1.coords t 1).val < 8 := (grid1.coords t 1).isLt
  have hi : (((View.whole main_v46).slice (win1_2.rect t)).emb (ix3 i r o) : S2x16640x64.Idx)
      = ix3 (grid1.coords t 0) ⟨(grid1.coords t 1).val * 2080 + r.val, by omega⟩ o := by
    have : i.val = 0 := by omega
    blk_ext [idx1 t]
  refine Eq.trans ?_ (congrArg (G1 (val S2x17160x256 (V c main_v41)) (val S1024x64 (V c main_v44)) (val S1x64 (V c main_v45))) hi).symm
  pointwise [k1_pay17]
  refine congrArg (· + _) (Finset.sum_congr rfl fun q _ => congrArg (· * _) ?_)
  simp only [cat1, rowsBuf]
  refine congrArg (val S2x17160x256 (V c main_v41)) ?_
  funext a
  match a with
  | ⟨0, _⟩ => rfl
  | ⟨1, _⟩ => exact Fin.ext (Nat.add_assoc _ _ _).symm
  | ⟨2, _⟩ => rfl

end Cert.KernelIdeal.Layer
end
-- ==== Proof.Host0.lean ====
/- What the host leaves for the first call: the scaled image, its bordered halves and their nine shifts. -/
module

public import proofs.«01_k».proof.Proof.Gen.KernelIdeal.Frame
public import proofs.«01_k».proof.Proof.Spec
public import Idealize.ShloMosaic.Lib.Pointwise
public import proofs.«01_k».proof.Proof.HostLib

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

/-- The scaled image. -/
theorem norm_read : val S2x3x512x512 ((after hostOps0_1 (after hostOps0 V)) (Proc.devRef .tc main_v6))
    = normArr reducesTo_S2x3x512x512_S_d0_1_2_3 h_S_ bcast_S_S2x3x512x512 (V (Proc.devRef .tc main_arg0)) := by
  simp only [val, wval, hostOps0, hostOps0_1, TRef.nullary, TRef.unary, TRef.binary, TRef.ternary, TRef.toBuf, TRef.ofBuf, cast_eq]
  after_results_simp
  try dsimp only [Matrix.cons_val]
  try after_results_simp
  try dsimp only [Matrix.cons_val]
  try after_results_simp
  rfl

/-- The bordered image of two by two patches. -/
theorem patch_read (b : Fin 2) (I J : Fin 258) (q : Fin 12) :
    val S2x258x258x12 ((after hostOps0_3 (after hostOps0_2 V)) (Proc.devRef .tc main_v10)) (ix4 b I J q)
      = pad1 (im4 (val S2x3x512x512 (V (Proc.devRef .tc main_v6)))) b ⟨q.val / 4, by omega⟩ (2 * I.val + q.val / 2 % 2 - 1) (2 * J.val + q.val % 2 - 1) := by
  simp only [val, wval, hostOps0_2, hostOps0_3, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  unfold pad1
  by_cases h : (1 ≤ I.val ∧ I.val - 1 < 256) ∧ 1 ≤ J.val ∧ J.val - 1 < 256
  · have h' : (1 ≤ 2 * I.val + q.val / 2 % 2 - 1 ∧ 2 * I.val + q.val / 2 % 2 - 1 - 1 < 512) ∧ (1 ≤ 2 * J.val + q.val % 2 - 1 ∧ 2 * J.val + q.val % 2 - 1 - 1 < 512) := by omega
    refine (dif_pos h).trans (Eq.trans ?_ (dif_pos h').symm)
    exact congrArg _ (ix4_congr rfl rfl (by dsimp only; omega) (by dsimp only; omega))
  · have h' : ¬((1 ≤ 2 * I.val + q.val / 2 % 2 - 1 ∧ 2 * I.val + q.val / 2 % 2 - 1 - 1 < 512) ∧ (1 ≤ 2 * J.val + q.val % 2 - 1 ∧ 2 * J.val + q.val % 2 - 1 - 1 < 512)) := by omega
    refine (dif_neg h).trans (Eq.trans ?_ (dif_neg h').symm)
    show (((0#32 : BitVec 32).toInt : ℝ) : EReal) = 0
    simp

/-- The nine shifts side by side. -/
theorem taps_read (n : Fin 131072) (g : Fin 9) (r : Fin 12) :
    val S131072x108 (after hostOps0_4 V (Proc.devRef .tc main_v22)) (ix2 n ⟨g.val * 12 + r.val, by omega⟩)
      = val S2x258x258x12 (V (Proc.devRef .tc main_v10)) (ix4 ⟨n.val / 65536, by omega⟩ ⟨n.val / 256 % 256 + g.val / 3, by omega⟩ ⟨n.val % 256 + g.val % 3, by omega⟩ r) := by
  simp only [val, wval, hostOps0_4, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  obtain ⟨g, hg⟩ := g
  interval_cases g
  all_goals
    (repeat first | refine (dif_pos (by dsimp only; omega)).trans ?_ | refine (dif_neg (by dsimp only; omega)).trans ?_)
    after_results_simp
    pointwise
  all_goals exact congrArg _ (ix4_congr (by first | rfl | (dsimp only; omega)) (by first | rfl | (dsimp only; omega)) (by first | rfl | (dsimp only; omega)) (by first | rfl | (dsimp only; omega)))

end Cert.KernelIdeal.Layer
end
-- ==== Proof.Host0w.lean ====
/- Filters and bias of the first call. -/
module

public import proofs.«01_k».proof.Proof.Gen.KernelIdeal.Frame
public import proofs.«01_k».proof.Proof.Spec
public import Idealize.ShloMosaic.Lib.Pointwise
public import proofs.«01_k».proof.Proof.HostLib
public import Idealize.ShloMosaic.Lib.Routing.Ops

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

/-- The filters with a row of zeros after them. -/
theorem rows_read (k : Fin 49) (o : Fin 64) :
    val S49x64 (after hostOps0_4 V (Proc.devRef .tc main_v26)) (ix2 k o)
      = if h : k.val < 48 then val S64x3x4x4 (V (Proc.devRef .tc main_arg1)) (ix4 o ⟨k.val % 3, by omega⟩ ⟨k.val / 12, by omega⟩ ⟨k.val / 3 % 4, by omega⟩) else 0 := by
  simp only [val, wval, hostOps0_4, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem bias0_read (z : Fin 1) (o : Fin 64) : val S1x64 (after hostOps0_4 V (Proc.devRef .tc main_v35)) (ix2 z o) = val S64 (V (Proc.devRef .tc main_arg2)) (ix1 o) := by
  simp only [val, wval, hostOps0_4, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

/-- The row of the filters that a column of the nine shifts meets; 48 is the row of zeros. -/
def rowOf (k : Fin 108) : Fin 49 :=
  let d := 2 * (k.val / 36) + k.val / 2 % 2
  let e := 2 * (k.val / 12 % 3) + k.val % 2
  if 1 ≤ d ∧ d ≤ 4 ∧ 1 ≤ e ∧ e ≤ 4 then Fin.ofNat 49 (((d - 1) * 4 + (e - 1)) * 3 + k.val % 12 / 4) else 48

theorem rowOf_word (k : Fin 108) :
    Scalar.select (IntOp.cmpi .slt (lit0 k) 0#32) (IntOp.addi (lit0 k) 49#32) (lit0 k) = BitVec.ofNat 32 (rowOf k).val := by
  revert k
  decide +kernel

theorem gather_rowOf (X : FVec Ideal S49x64 .f32) (w : IVec S108x1 32) (k : Fin 108) (o : Fin 64)
    (h : w (ix2 k 0) = BitVec.ofNat 32 (rowOf k).val) :
    (truncf .bf16 (Host.gather gather_S49x64_S108x1_S108x64_1_0_n_n_0_1_164 X w : FVec Ideal S108x64 .f32) bitsLt_bf16_f32 : FVec Ideal S108x64 .bf16) (ix2 k o) = X (ix2 (rowOf k) o) :=
  Routing.gather_row gather_S49x64_S108x1_S108x64_1_0_n_n_0_1_164 rfl rfl rfl rfl rfl X w k o (rowOf k) h (by norm_num)

/-- The gathered filters. -/
theorem w0_read (hc : V (Proc.devRef .tc main_c) = fun i => lit0 (S108.rowMajor i)) (k : Fin 108) (o : Fin 64) :
    val S108x64 (after hostOps0_4 V (Proc.devRef .tc main_v34)) (ix2 k o) = val S49x64 (after hostOps0_4 V (Proc.devRef .tc main_v26)) (ix2 (rowOf k) o) := by
  simp only [val, wval, hostOps0_4, TRef.nullary, TRef.unary, TRef.binary, TRef.ternary, TRef.toBuf, TRef.ofBuf, cast_eq]
  after_results_simp
  try dsimp only [Matrix.cons_val]
  try after_results_simp
  try dsimp only [Matrix.cons_val]
  try after_results_simp
  refine gather_rowOf _ _ k o ?_
  refine Eq.trans ?_ (rowOf_word k)
  have hk : S108.rowMajor (ix1 k) = k := by
    exact Fin.ext (Shape.rowMajor_val_one (ix1 k))
  have hv : V (Proc.devRef .tc main_c) (ix1 k) = lit0 k := by
    rw [hc]
    exact congrArg lit0 hk
  pointwise
  rw [hv]

end Cert.KernelIdeal.Layer
end
-- ==== Proof.Host1.lean ====
/- What the host leaves for the second and third calls. -/
module

public import proofs.«01_k».proof.Proof.Gen.KernelIdeal.Frame
public import proofs.«01_k».proof.Proof.Spec
public import Idealize.ShloMosaic.Lib.Pointwise
public import proofs.«01_k».proof.Proof.HostLib

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

/-- The first layer's answer in two by two patches. -/
theorem hpatch_read (b : Fin 2) (Y : Fin 128) (X : Fin 128) (q : Fin 256) :
    val S2x128x128x256 (after hostOps1 V (Proc.devRef .tc main_v39)) (ix4 b Y X q)
      = val S131072x64 (V (Proc.devRef .tc main_v36)) (ix2 ⟨b.val * 65536 + (2 * Y.val + q.val / 128) * 256 + (2 * X.val + q.val / 64 % 2), by omega⟩ ⟨q.val % 64, by omega⟩) := by
  simp only [val, wval, hostOps1, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  exact congrArg _ (ix2_congr (by dsimp only; omega) rfl)

theorem zero7_read : wval S_ (after hostOps1 V (Proc.devRef .tc main_c_7)) = fun _ => 0#32 := by
  simp only [val, wval, hostOps1, TRef.nullary, TRef.unary, TRef.binary, TRef.ternary, TRef.toBuf, TRef.ofBuf, cast_eq]
  after_results_simp
  try dsimp only [Matrix.cons_val]
  try after_results_simp
  try dsimp only [Matrix.cons_val]
  try after_results_simp
  rfl

/-- The first layer's answer as an image. -/
def himg (a : S131072x64.Idx → EReal) : Img 64 256 := fun b c i j => a (ix2 ⟨b.val * 65536 + i.val * 256 + j.val, by omega⟩ c)

theorem border1_read (hz : wval S_ (V (Proc.devRef .tc main_c_7)) = fun _ => 0#32) (b : Fin 2) (Y : Fin 132) (X : Fin 130) (q : Fin 256) :
    val S2x132x130x256 (after hostOps1_1 V (Proc.devRef .tc main_v40)) (ix4 b Y X q)
      = if h : (1 ≤ Y.val ∧ Y.val - 1 < 128) ∧ (1 ≤ X.val ∧ X.val - 1 < 128) then
          val S2x128x128x256 (V (Proc.devRef .tc main_v39)) (ix4 b ⟨Y.val - 1, h.1.2⟩ ⟨X.val - 1, h.2.2⟩ q) else 0 := by
  simp only [val, wval, hostOps1_1, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : (1 ≤ Y.val ∧ Y.val - 1 < 128) ∧ (1 ≤ X.val ∧ X.val - 1 < 128)
  · refine (dif_pos h).trans (Eq.trans ?_ (dif_pos h).symm)
    rfl
  · refine (dif_neg h).trans (Eq.trans ?_ (dif_neg h).symm)
    refine (congrArg (fun w : BitVec 32 => ((w.toInt : ℝ) : EReal)) (congrFun hz (Shape.Idx.first h_S_))).trans ?_
    simp

/-- The first layer's answer, bordered, in two by two patches. -/
theorem hpad_read (b : Fin 2) (Y : Fin 132) (X : Fin 130) (q : Fin 256) :
    val S2x132x130x256 ((after hostOps1_1 (after hostOps1 V)) (Proc.devRef .tc main_v40)) (ix4 b Y X q)
      = pad1 (himg (val S131072x64 (V (Proc.devRef .tc main_v36)))) b ⟨q.val % 64, by omega⟩ (2 * Y.val + q.val / 128 - 1) (2 * X.val + q.val / 64 % 2 - 1) := by
  refine (border1_read _ (zero7_read V) b Y X q).trans ?_
  unfold pad1
  by_cases h : (1 ≤ Y.val ∧ Y.val - 1 < 128) ∧ (1 ≤ X.val ∧ X.val - 1 < 128)
  · have h' : (1 ≤ 2 * Y.val + q.val / 128 - 1 ∧ 2 * Y.val + q.val / 128 - 1 - 1 < 256) ∧ (1 ≤ 2 * X.val + q.val / 64 % 2 - 1 ∧ 2 * X.val + q.val / 64 % 2 - 1 - 1 < 256) := by omega
    refine (dif_pos h).trans (Eq.trans ?_ (dif_pos h').symm)
    refine (hpatch_read V b _ _ q).trans ?_
    unfold himg
    exact congrArg _ (ix2_congr (by dsimp only; omega) rfl)
  · have h' : ¬((1 ≤ 2 * Y.val + q.val / 128 - 1 ∧ 2 * Y.val + q.val / 128 - 1 - 1 < 256) ∧ (1 ≤ 2 * X.val + q.val / 64 % 2 - 1 ∧ 2 * X.val + q.val / 64 % 2 - 1 - 1 < 256)) := by omega
    refine (dif_neg h).trans (Eq.trans ?_ (dif_neg h').symm)
    rfl

theorem hflat_read (b : Fin 2) (p : Fin 17160) (q : Fin 256) :
    val S2x17160x256 (after hostOps1_2 V (Proc.devRef .tc main_v41)) (ix3 b p q)
      = val S2x132x130x256 (V (Proc.devRef .tc main_v40)) (ix4 b ⟨p.val / 130, by omega⟩ ⟨p.val % 130, by omega⟩ q) := by
  simp only [val, wval, hostOps1_2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem w1_read (k : Fin 1024) (o : Fin 64) :
    val S1024x64 (after hostOps1_2 V (Proc.devRef .tc main_v44)) (ix2 k o) = val S64x64x4x4 (V (Proc.devRef .tc main_arg3)) (ix4 o ⟨k.val % 64, by omega⟩ ⟨k.val / 256, by omega⟩ ⟨k.val / 64 % 4, by omega⟩) := by
  simp only [val, wval, hostOps1_2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem bias1_read (z : Fin 1) (o : Fin 64) : val S1x64 (after hostOps1_2 V (Proc.devRef .tc main_v45)) (ix2 z o) = val S64 (V (Proc.devRef .tc main_arg4)) (ix1 o) := by
  simp only [val, wval, hostOps1_2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem lat_read (n : Fin 33280) (o : Fin 64) : val S33280x64 (after hostOps2 V (Proc.devRef .tc main_v47)) (ix2 n o) = val S2x16640x64 (V (Proc.devRef .tc main_v46)) (ix3 ⟨n.val / 16640, by omega⟩ ⟨n.val % 16640, by omega⟩ o) := by
  simp only [val, wval, hostOps2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem csq_read (z : Fin 1) (k : Fin 512) : val S1x512 (after hostOps2 V (Proc.devRef .tc main_v50)) (ix2 z k) = ∑ o : Fin 64, val S512x64 (V (Proc.devRef .tc main_arg5)) (ix2 k o) * val S512x64 (V (Proc.devRef .tc main_arg5)) (ix2 k o) := by
  simp only [val, wval, hostOps2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

end Cert.KernelIdeal.Layer
end
-- ==== Proof.MathEnc.lean ====
/- The strided convolutions from the sums the kernel takes. -/
module

public import proofs.«01_k».proof.Proof.Host0w
public import proofs.«01_k».proof.Proof.Region1
public import proofs.«01_k».proof.Proof.Region0
public import proofs.«01_k».proof.Proof.HostLib

@[expose] public section

set_option maxRecDepth 16384

noncomputable section

namespace Cert.KernelIdeal.Layer

open Cert.KernelIdeal Cert.KernelIdeal.Gen Cert.Conv Idealize.ShloMosaic Idealize.ShloMosaic.TcCoe Idealize.SL.Sem

/-- The column of the nine shifts that holds a tap of the filter. -/
def colOf (t : Fin 3 × Fin 4 × Fin 4) : Fin 108 :=
  Fin.ofNat 108 (((t.2.1.val + 1) / 2 * 3 + (t.2.2.val + 1) / 2) * 12 + t.1.val * 4 + (t.2.1.val + 1) % 2 * 2 + (t.2.2.val + 1) % 2)

theorem colOf_injective : Function.Injective colOf := by decide +kernel

theorem colOf_row : ∀ t : Fin 3 × Fin 4 × Fin 4, (rowOf (colOf t)).val = (t.2.1.val * 4 + t.2.2.val) * 3 + t.1.val := by decide +kernel

theorem colOf_place : ∀ t : Fin 3 × Fin 4 × Fin 4, (colOf t).val % 12 / 4 = t.1.val ∧ 2 * ((colOf t).val / 12 / 3) + (colOf t).val % 12 / 2 % 2 = t.2.1.val + 1
    ∧ 2 * ((colOf t).val / 12 % 3) + (colOf t).val % 12 % 2 = t.2.2.val + 1 := by decide +kernel

theorem rowOf_rest : ∀ k : Fin 108, (∀ t, colOf t ≠ k) → rowOf k = 48 := by decide +kernel

/-- The sum over the 108 columns of the nine shifts is the sum over the filter's taps. -/
theorem sum_taps (f : Fin 108 → EReal) (g : Fin 3 → Fin 4 → Fin 4 → EReal) (h0 : ∀ k, rowOf k = 48 → f k = 0)
    (h : ∀ t : Fin 3 × Fin 4 × Fin 4, g t.1 t.2.1 t.2.2 = f (colOf t)) : ∑ k, f k = ∑ c, ∑ d, ∑ e, g c d e := by
  have e1 : ∑ c, ∑ d, ∑ e, g c d e = ∑ t : Fin 3 × Fin 4 × Fin 4, g t.1 t.2.1 t.2.2 := by
    rw [Fintype.sum_prod_type]
    refine Finset.sum_congr rfl fun c _ => ?_
    rw [Fintype.sum_prod_type]
  rw [e1]
  exact (Fintype.sum_of_injective colOf colOf_injective _ f (fun k hk => h0 k (rowOf_rest k fun t ht => hk ⟨t, ht⟩)) h).symm

/-- The row of the second filters that holds a tap. -/
def rowOf1 (t : Fin 64 × Fin 4 × Fin 4) : Fin 1024 := ⟨(t.2.1.val * 4 + t.2.2.val) * 64 + t.1.val, by omega⟩

theorem rowOf1_bijective : Function.Bijective rowOf1 := by
  constructor
  · rintro ⟨c, d, e⟩ ⟨c', d', e'⟩ h
    have h' : (d.val * 4 + e.val) * 64 + c.val = (d'.val * 4 + e'.val) * 64 + c'.val := congrArg Fin.val h
    have hc : c = c' := Fin.ext (by omega)
    have hd : d = d' := Fin.ext (by omega)
    have he : e = e' := Fin.ext (by omega)
    rw [hc, hd, he]
  · intro k
    exact ⟨(⟨k.val % 64, by omega⟩, ⟨k.val / 256, by omega⟩, ⟨k.val / 64 % 4, by omega⟩), Fin.ext (by show (k.val / 256 * 4 + k.val / 64 % 4) * 64 + k.val % 64 = k.val; omega)⟩

/-- The sum over the 1024 rows is the sum over the filter's taps. -/
theorem sum_rows1 (f : Fin 1024 → EReal) (g : Fin 64 → Fin 4 → Fin 4 → EReal)
    (h : ∀ t : Fin 64 × Fin 4 × Fin 4, g t.1 t.2.1 t.2.2 = f (rowOf1 t)) : ∑ k, f k = ∑ c, ∑ d, ∑ e, g c d e := by
  have e1 : ∑ c, ∑ d, ∑ e, g c d e = ∑ t : Fin 64 × Fin 4 × Fin 4, g t.1 t.2.1 t.2.2 := by
    rw [Fintype.sum_prod_type]
    refine Finset.sum_congr rfl fun c _ => ?_
    rw [Fintype.sum_prod_type]
  rw [e1]
  exact (Fintype.sum_bijective rowOf1 rowOf1_bijective _ f h).symm

/-- Where a tap of the second filters is read: the shift of the row and of the column, and the place in the patch. -/
theorem off2_place : ∀ d e : Fin 4, off2 (d.val * 4 + e.val) = (d.val + 1) / 2 * 130 + (e.val + 1) / 2
    ∧ chan2 (d.val * 4 + e.val) = (d.val + 1) % 2 * 128 + (e.val + 1) % 2 * 64 := by decide +kernel

/-- The second convolution at a pixel from a patched and bordered image. -/
theorem enc2_pixel (x : Img 64 256) (xp : S2x17160x256.Idx → EReal) (w : S1024x64.Idx → EReal) (f : Filt 64 64) (b1 : S1x64.Idx → EReal) (bias : Fin 64 → EReal)
    (hx : ∀ (b : Fin 2) (Y : Fin 132) (X : Fin 130) (q : Fin 256), xp (ix3 b ⟨Y.val * 130 + X.val, by omega⟩ q)
      = pad1 x b ⟨q.val % 64, by omega⟩ (2 * Y.val + q.val / 128 - 1) (2 * X.val + q.val / 64 % 2 - 1))
    (hw : ∀ (k : Fin 1024) (o : Fin 64), w (ix2 k o) = f o ⟨k.val % 64, by omega⟩ ⟨k.val / 256, by omega⟩ ⟨k.val / 64 % 4, by omega⟩)
    (hb : ∀ o, b1 (ix2 0 o) = bias o) (b : Fin 2) (i j : Fin 128) (o : Fin 64) :
    G1 xp w b1 (ix3 b ⟨i.val * 130 + j.val, by omega⟩ o) = down (m := 128) x f bias b o i j := by
  refine congrArg₂ (· + ·) ?_ (hb o)
  refine sum_rows1 _ (fun c d e => f o c d e * pad1 x b c (2 * i.val + d.val) (2 * j.val + e.val)) ?_
  rintro ⟨c, d, e⟩
  have hq : (rowOf1 (c, d, e)).val = (d.val * 4 + e.val) * 64 + c.val := rfl
  generalize rowOf1 (c, d, e) = q at hq
  obtain ⟨ho, hc⟩ := off2_place d e
  have hdiv : q.val / 64 = d.val * 4 + e.val := by omega
  have hmod : q.val % 64 = c.val := by omega
  rw [mul_comm]
  refine congrArg₂ (· * ·) ?_ ?_
  · have e1 := hx b ⟨i.val + (d.val + 1) / 2, by omega⟩ ⟨j.val + (e.val + 1) / 2, by omega⟩ ⟨(d.val + 1) % 2 * 128 + (e.val + 1) % 2 * 64 + c.val, by omega⟩
    refine Eq.trans ?_ (Eq.trans e1.symm ?_)
    · have hc' : (⟨((d.val + 1) % 2 * 128 + (e.val + 1) % 2 * 64 + c.val) % 64, by omega⟩ : Fin 64) = c := Fin.ext (by show ((d.val + 1) % 2 * 128 + (e.val + 1) % 2 * 64 + c.val) % 64 = c.val; omega)
      show pad1 x b c _ _ = pad1 x b ⟨((d.val + 1) % 2 * 128 + (e.val + 1) % 2 * 64 + c.val) % 64, _⟩ _ _
      rw [hc']
      refine congrArg₂ (pad1 x b c) ?_ ?_
      · dsimp only; omega
      · dsimp only; omega
    · refine congrArg xp (ix3_congr rfl ?_ ?_)
      · show (i.val + (d.val + 1) / 2) * 130 + (j.val + (e.val + 1) / 2) = i.val * 130 + j.val + off2 (q.val / 64)
        rw [hdiv, ho]; omega
      · show (d.val + 1) % 2 * 128 + (e.val + 1) % 2 * 64 + c.val = chan2 (q.val / 64) + q.val % 64
        rw [hdiv, hc, hmod]
  · refine Eq.trans ?_ (hw q o).symm
    have e1 : (⟨q.val % 64, by omega⟩ : Fin 64) = c := Fin.ext hmod
    have e2 : (⟨q.val / 256, by omega⟩ : Fin 4) = d := Fin.ext (by show q.val / 256 = d.val; omega)
    have e3 : (⟨q.val / 64 % 4, by omega⟩ : Fin 4) = e := Fin.ext (by show q.val / 64 % 4 = e.val; omega)
    rw [e1, e2, e3]

/-- The first convolution at a pixel from the nine shifts. -/
theorem enc1_pixel (x : Img 3 512) (a : S131072x108.Idx → EReal) (w : S108x64.Idx → EReal) (f : Filt 64 3) (b0 : S1x64.Idx → EReal) (bias : Fin 64 → EReal)
    (ha : ∀ (n : Fin 131072) (k : Fin 108), a (ix2 n k) = pad1 x ⟨n.val / 65536, by omega⟩ ⟨k.val % 12 / 4, by omega⟩
      (2 * (n.val / 256 % 256 + k.val / 12 / 3) + k.val % 12 / 2 % 2 - 1) (2 * (n.val % 256 + k.val / 12 % 3) + k.val % 12 % 2 - 1))
    (hw : ∀ (k : Fin 108) (o : Fin 64), w (ix2 k o) = if h : (rowOf k).val < 48 then f o ⟨(rowOf k).val % 3, by omega⟩ ⟨(rowOf k).val / 12, by omega⟩ ⟨(rowOf k).val / 3 % 4, by omega⟩ else 0)
    (hb : ∀ o, b0 (ix2 0 o) = bias o) (b : Fin 2) (i j : Fin 256) (o : Fin 64) :
    G0 a w b0 (ix2 ⟨b.val * 65536 + i.val * 256 + j.val, by omega⟩ o) = relu (down (m := 256) x f bias) b o i j := by
  refine congrArg (max · (0 : EReal)) ?_
  refine congrArg₂ (· + ·) ?_ (hb o)
  refine sum_taps _ (fun c d e => f o c d e * pad1 x b c (2 * i.val + d.val) (2 * j.val + e.val)) ?_ ?_
  · intro k hk
    refine (congrArg _ ((hw k o).trans (dif_neg (by rw [hk]; decide)))).trans (mul_zero _)
  rintro ⟨c, d, e⟩
  have hr := colOf_row (c, d, e)
  obtain ⟨h1, h2, h3⟩ := colOf_place (c, d, e)
  generalize colOf (c, d, e) = k at hr h1 h2 h3
  dsimp only at hr h1 h2 h3
  rw [mul_comm]
  refine congrArg₂ (· * ·) ?_ ?_
  · refine Eq.trans ?_ (ha ⟨b.val * 65536 + i.val * 256 + j.val, by omega⟩ k).symm
    have eb : (⟨(b.val * 65536 + i.val * 256 + j.val) / 65536, by omega⟩ : Fin 2) = b := Fin.ext (by show (b.val * 65536 + i.val * 256 + j.val) / 65536 = b.val; omega)
    have ec : (⟨k.val % 12 / 4, by omega⟩ : Fin 3) = c := Fin.ext h1
    show pad1 x b c _ _ = pad1 x ⟨(b.val * 65536 + i.val * 256 + j.val) / 65536, _⟩ ⟨k.val % 12 / 4, _⟩ _ _
    rw [eb, ec]
    refine congrArg₂ (pad1 x b c) ?_ ?_
    · dsimp only; omega
    · dsimp only; omega
  · have hlt : (rowOf k).val < 48 := by omega
    refine Eq.trans ?_ ((hw k o).trans (dif_pos hlt)).symm
    clear h1 h2 h3
    have h3 : (rowOf k).val / 3 = d.val * 4 + e.val := by omega
    have e1 : (⟨(rowOf k).val % 3, by omega⟩ : Fin 3) = c := Fin.ext (by show (rowOf k).val % 3 = c.val; omega)
    have e2 : (⟨(rowOf k).val / 12, by omega⟩ : Fin 4) = d := Fin.ext (by show (rowOf k).val / 12 = d.val; omega)
    have e3 : (⟨(rowOf k).val / 3 % 4, by omega⟩ : Fin 4) = e := Fin.ext (by show (rowOf k).val / 3 % 4 = e.val; rw [h3]; omega)
    rw [e1, e2, e3]

end Cert.KernelIdeal.Layer
end
-- ==== Proof.KerEnc.lean ====
/- The encoder and the search for codes, from the arguments to the contents after the third call. -/
module

public import proofs.«01_k».proof.Proof.Region0
public import proofs.«01_k».proof.Proof.Region1
public import proofs.«01_k».proof.Proof.Region2
public import proofs.«01_k».proof.Proof.Host0
public import proofs.«01_k».proof.Proof.Host0w
public import proofs.«01_k».proof.Proof.Host1
public import proofs.«01_k».proof.Proof.MathEnc
public import proofs.«01_k».proof.Proof.MathVq

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The scaled input. -/
def xK : Img 3 512 := im4 (normArr reducesTo_S2x3x512x512_S_d0_1_2_3 h_S_ bcast_S_S2x3x512x512 (m ((c : Thread nD τ).loc main_arg0)))

/-- The first layer's filters. -/
abbrev f1K : Filt 64 3 := im4 (val S64x3x4x4 (m ((c : Thread nD τ).loc main_arg1)))
/-- The first layer's biases. -/
abbrev b1K : Fin 64 → EReal := im1 (val S64 (m ((c : Thread nD τ).loc main_arg2)))
/-- The second layer's filters. -/
abbrev f2K : Filt 64 64 := im4 (val S64x64x4x4 (m ((c : Thread nD τ).loc main_arg3)))
/-- The second layer's biases. -/
abbrev b2K : Fin 64 → EReal := im1 (val S64 (m ((c : Thread nD τ).loc main_arg4)))

/-- The first layer. -/
def hK : Img 64 256 := relu (down (xK m c) (f1K m c) (b1K m c))

/-- The encoded image. -/
def zK : Img 64 128 := down (hK m c) (f2K m c) (b2K m c)

/-- The codes. -/
def cK : Fin 512 → Fin 64 → EReal := im2 (val S512x64 (m ((c : Thread nD τ).loc main_arg5)))

/-- The first call's windows. -/
theorem taps_at (n : Fin 131072) (k : Fin 108) : val S131072x108 (W5 m ρ c (Proc.devRef .tc main_v22)) (ix2 n k)
    = pad1 (xK m c) ⟨n.val / 65536, by omega⟩ ⟨k.val % 12 / 4, by omega⟩
      (2 * (n.val / 256 % 256 + k.val / 12 / 3) + k.val % 12 / 2 % 2 - 1) (2 * (n.val % 256 + k.val / 12 % 3) + k.val % 12 % 2 - 1) := by
  have h1 := taps_read (W4 m ρ c) n ⟨k.val / 12, by omega⟩ ⟨k.val % 12, by omega⟩
  have h2 := patch_read (W2 m ρ c) ⟨n.val / 65536, by omega⟩ ⟨n.val / 256 % 256 + k.val / 12 / 3, by omega⟩ ⟨n.val % 256 + k.val / 12 % 3, by omega⟩ ⟨k.val % 12, by omega⟩
  have h3 : val S2x3x512x512 (W2 m ρ c (Proc.devRef .tc main_v6)) = _ := norm_read (W0 m ρ c)
  refine (congrArg (val S131072x108 (W5 m ρ c (Proc.devRef .tc main_v22))) (ix2_congr (i' := n) (j' := ⟨k.val / 12 * 12 + k.val % 12, by omega⟩) rfl (by dsimp only; omega))).trans ?_
  refine h1.trans (h2.trans ?_)
  exact congrArg (fun a : S2x3x512x512.Idx → EReal => pad1 (im4 a) ⟨n.val / 65536, by omega⟩ ⟨k.val % 12 / 4, by omega⟩
      (2 * (n.val / 256 % 256 + k.val / 12 / 3) + k.val % 12 / 2 % 2 - 1) (2 * (n.val % 256 + k.val / 12 % 3) + k.val % 12 % 2 - 1)) h3

/-- The table of rows is in place where the first call's filters are gathered. -/
theorem table_at : W4 m ρ c (Proc.devRef .tc main_c) = fun i => lit0 (S108.rowMajor i) := by
  refine (W4_of m ρ c main_c (by decide)).trans <| (W3_of m ρ c main_c (by decide)).trans <| (W2_of m ρ c main_c (by decide)).trans ?_
  show after hostOps0 (W0 m ρ c) (Proc.devRef .tc main_c) = _
  simp only [hostOps0, TRef.nullary, TRef.unary, TRef.binary, TRef.ternary, TRef.toBuf, TRef.ofBuf, cast_eq]
  after_results_simp
  rfl

/-- The first call's filters. -/
theorem filt1_at (k : Fin 108) (o : Fin 64) : val S108x64 (W5 m ρ c (Proc.devRef .tc main_v34)) (ix2 k o)
    = if h : (rowOf k).val < 48 then f1K m c o ⟨(rowOf k).val % 3, by omega⟩ ⟨(rowOf k).val / 12, by omega⟩ ⟨(rowOf k).val / 3 % 4, by omega⟩ else 0 := by
  refine (w0_read (W4 m ρ c) (table_at m ρ c) k o).trans ((rows_read (W4 m ρ c) (rowOf k) o).trans ?_)
  rw [W4_args m ρ c main_arg1 (by decide)]

/-- The first layer, as the first call leaves it. -/
theorem layer1_at : himg (val S131072x64 (W6 m ρ c (Proc.devRef .tc main_v36))) = hK m c := by
  funext b o i j
  have h := (W6_arr m ρ c 3).trans (final0 (V5 m ρ) c)
  refine (congrFun h (ix2 ⟨b.val * 65536 + i.val * 256 + j.val, by omega⟩ o)).trans ?_
  exact enc1_pixel (xK m c) _ _ (f1K m c) _ (b1K m c) (taps_at m ρ c) (filt1_at m ρ c)
    (fun o => (bias0_read (W4 m ρ c) 0 o).trans (by rw [W4_args m ρ c main_arg2 (by decide)])) b i j o

/-- The second call's input. -/
theorem in2_at (b : Fin 2) (Y : Fin 132) (X : Fin 130) (q : Fin 256) : val S2x17160x256 (W9 m ρ c (Proc.devRef .tc main_v41)) (ix3 b ⟨Y.val * 130 + X.val, by omega⟩ q)
    = pad1 (hK m c) b ⟨q.val % 64, by omega⟩ (2 * Y.val + q.val / 128 - 1) (2 * X.val + q.val / 64 % 2 - 1) := by
  refine (hflat_read (W8 m ρ c) b ⟨Y.val * 130 + X.val, by omega⟩ q).trans ?_
  refine (congrArg (val S2x132x130x256 (W8 m ρ c (Proc.devRef .tc main_v40))) (ix4_congr (i' := b) (j' := Y) (k' := X) (l' := q) rfl (by dsimp only; omega) (by dsimp only; omega) rfl)).trans ?_
  refine (hpad_read (W6 m ρ c) b Y X q).trans ?_
  rw [layer1_at]

/-- The encoded image, as the second call leaves it. -/
theorem layer2_at (b : Fin 2) (i j : Fin 128) (o : Fin 64) :
    val S2x16640x64 (W10 m ρ c (Proc.devRef .tc main_v46)) (ix3 b ⟨i.val * 130 + j.val, by omega⟩ o) = zK m c b o i j := by
  have h := (W10_arr m ρ c 2).trans (final1 (V9 m ρ) c)
  refine (congrFun h (ix3 b ⟨i.val * 130 + j.val, by omega⟩ o)).trans ?_
  exact enc2_pixel (hK m c) _ _ (f2K m c) _ (b2K m c) (in2_at m ρ c)
    (fun k o => (w1_read (W8 m ρ c) k o).trans (by rw [W8_args m ρ c main_arg3 (by decide)]))
    (fun o => (bias1_read (W8 m ρ c) 0 o).trans (by rw [W8_args m ρ c main_arg4 (by decide)])) b i j o

/-- The encoded image, as the third call takes it. -/
theorem lat_at (b : Fin 2) (i j : Fin 128) (o : Fin 64) :
    val S33280x64 (W11 m ρ c (Proc.devRef .tc main_v47)) (ix2 (pix b i j) o) = zK m c b o i j := by
  refine (lat_read (W10 m ρ c) (pix b i j) o).trans ?_
  refine (congrArg (val S2x16640x64 (W10 m ρ c (Proc.devRef .tc main_v46))) (ix3_congr (i' := b) (j' := ⟨i.val * 130 + j.val, by omega⟩) (k' := o)
    (by dsimp only [pix]; omega) (by dsimp only [pix]; omega) rfl)).trans ?_
  exact layer2_at m ρ c b i j o

/-- The codes' squared lengths, as the third call takes them. -/
theorem csq_at (k : Fin 512) : val S1x512 (W11 m ρ c (Proc.devRef .tc main_v50)) (ix2 0 k) = ∑ o : Fin 64, cK m c k o * cK m c k o := by
  refine (csq_read (W10 m ρ c) 0 k).trans ?_
  rw [W10_args m ρ c main_arg5 (by decide)]
  rfl

/-- The codes, as the third call takes them. -/
theorem codes_at (k : Fin 512) (o : Fin 64) : val S512x64 (W11 m ρ c (Proc.devRef .tc main_arg5)) (ix2 k o) = cK m c k o := by
  rw [W11_args m ρ c main_arg5 (by decide)]
  rfl

end Cert.KernelIdeal.Layer
end
-- ==== Proof.Host3.lean ====
/- What the host leaves after the third call and for the fourth. -/
module

public import proofs.«01_k».proof.Proof.Gen.KernelIdeal.Frame
public import proofs.«01_k».proof.Proof.Spec
public import Idealize.ShloMosaic.Lib.Pointwise
public import proofs.«01_k».proof.Proof.HostLib

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

theorem puz_read (b : Fin 2) (i j : Fin 128) : wval S2x128x128 (after hostOps3 V (Proc.devRef .tc main_v53)) (ix3 b i j)
    = wval S16x1x2080 (V (Proc.devRef .tc main_v51_1)) (ix3 ⟨b.val * 8 + i.val / 16, by omega⟩ 0 ⟨i.val % 16 * 130 + j.val, by omega⟩) := by
  simp only [val, wval, hostOps3, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem loss_read : val S_ (after hostOps3 V (Proc.devRef .tc main_v58)) ix0
    = Ideal.div (Ideal.ofBits .f32 0x3FA00000#32 * ∑ t : Fin 16, val S16x1x2080 (V (Proc.devRef .tc main_v51_2)) (ix3 t 0 0)) (Ideal.ofBits .f32 0x4A000000#32) := by
  simp only [val, wval, hostOps3, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem q_read (b : Fin 2) (Y : Fin 128) (X : Fin 130) (o : Fin 64) :
    val S2x128x130x64 (after hostOps3 V (Proc.devRef .tc main_v59)) (ix4 b Y X o) = val S33280x64 (V (Proc.devRef .tc main_v51_0)) (ix2 ⟨(b.val * 128 + Y.val) * 130 + X.val, by omega⟩ o) := by
  simp only [val, wval, hostOps3, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  exact congrArg _ (ix2_congr (by dsimp only; omega) rfl)

theorem zero12_read : wval S_ (after hostOps3 V (Proc.devRef .tc main_c_12)) = fun _ => 0#32 := by
  simp only [val, wval, hostOps3, TRef.nullary, TRef.unary, TRef.binary, TRef.ternary, TRef.toBuf, TRef.ofBuf, cast_eq]
  after_results_simp
  try dsimp only [Matrix.cons_val]
  try after_results_simp
  try dsimp only [Matrix.cons_val]
  try after_results_simp
  rfl

theorem border3_read (hz : wval S_ (V (Proc.devRef .tc main_c_12)) = fun _ => 0#32) (b : Fin 2) (Y : Fin 132) (X : Fin 130) (o : Fin 64) :
    val S2x132x130x64 (after hostOps3_1 V (Proc.devRef .tc main_v60)) (ix4 b Y X o)
      = if h : 2 ≤ Y.val ∧ Y.val - 2 < 128 then val S2x128x130x64 (V (Proc.devRef .tc main_v59)) (ix4 b ⟨Y.val - 2, h.2⟩ X o) else 0 := by
  simp only [val, wval, hostOps3_1, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : 2 ≤ Y.val ∧ Y.val - 2 < 128
  · refine (dif_pos h).trans (Eq.trans ?_ (dif_pos h).symm)
    rfl
  · refine (dif_neg h).trans (Eq.trans ?_ (dif_neg h).symm)
    refine (congrArg (fun w : BitVec 32 => ((w.toInt : ℝ) : EReal)) (congrFun hz (Shape.Idx.first h_S_))).trans ?_
    simp

/-- The looked-up rows with two rows of zeros above and below. -/
theorem qpad_read (b : Fin 2) (Y : Fin 132) (X : Fin 130) (o : Fin 64) :
    val S2x132x130x64 ((after hostOps3_1 (after hostOps3 V)) (Proc.devRef .tc main_v60)) (ix4 b Y X o)
      = if h : 2 ≤ Y.val ∧ Y.val - 2 < 128 then val S33280x64 (V (Proc.devRef .tc main_v51_0)) (ix2 ⟨(b.val * 128 + (Y.val - 2)) * 130 + X.val, by omega⟩ o) else 0 := by
  refine (border3_read _ (zero12_read V) b Y X o).trans ?_
  by_cases h : 2 ≤ Y.val ∧ Y.val - 2 < 128
  · refine (dif_pos h).trans (Eq.trans ?_ (dif_pos h).symm)
    exact q_read V b _ X o
  · refine (dif_neg h).trans (Eq.trans ?_ (dif_neg h).symm)
    rfl

theorem qflat_read (b : Fin 2) (p : Fin 17160) (o : Fin 64) :
    val S2x17160x64 (after hostOps3_2 V (Proc.devRef .tc main_v61)) (ix3 b p o)
      = val S2x132x130x64 (V (Proc.devRef .tc main_v60)) (ix4 b ⟨p.val / 130, by omega⟩ ⟨p.val % 130, by omega⟩ o) := by
  simp only [val, wval, hostOps3_2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem w3_read (k : Fin 64) (n : Fin 1024) :
    val S64x1024 (after hostOps3_2 V (Proc.devRef .tc main_v64)) (ix2 k n) = val S64x64x4x4 (V (Proc.devRef .tc main_arg6)) (ix4 k ⟨n.val % 64, by omega⟩ ⟨n.val / 256, by omega⟩ ⟨n.val / 64 % 4, by omega⟩) := by
  simp only [val, wval, hostOps3_2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem bias3_read (z : Fin 1) (o : Fin 64) : val S1x64 (after hostOps3_2 V (Proc.devRef .tc main_v65)) (ix2 z o) = val S64 (V (Proc.devRef .tc main_arg7)) (ix1 o) := by
  simp only [val, wval, hostOps3_2, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

end Cert.KernelIdeal.Layer
end
-- ==== Proof.KerVq.lean ====
/- The search for codes: the places, the loss and the image of the codes, as the kernel leaves them. -/
module

public import proofs.«01_k».proof.Proof.KerEnc
public import proofs.«01_k».proof.Proof.Host3

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

variable (hz : ∀ b o i j, IsReal (zK m c b o i j))
  (κ : Fin 2 → Fin 128 → Fin 128 → Fin 512) (hκ : ∀ b i j, FirstMin (Cert.Conv.dist (zK m c) (cK m c) b i j) (κ b i j))

/-- The image of the codes that `κ` names. -/
def qK : Img 64 128 := fun b o i j => cK m c (κ b i j) o

include hz hκ in
/-- The place the third call finds for a pixel. -/
theorem place_at (b : Fin 2) (i j : Fin 128) :
    kplace (val S33280x64 (W11 m ρ c (Proc.devRef .tc main_v47))) (val S512x64 (W11 m ρ c (Proc.devRef .tc main_arg5))) (val S1x512 (W11 m ρ c (Proc.devRef .tc main_v50))) (pix b i j) = κ b i j :=
  kplace_eq (zK m c) (cK m c) _ _ _ hz (codes_at m ρ c) (csq_at m ρ c) (lat_at m ρ c) κ hκ b i j

include hz hκ in
/-- The second result: the places. -/
theorem puzzles_at (b : Fin 2) (i j : Fin 128) : wval S2x128x128 (W13 m ρ c (Proc.devRef .tc main_v53)) (ix3 b i j) = BitVec.ofNat 32 (κ b i j) := by
  refine (puz_read (W12 m ρ c) b i j).trans ?_
  have h := (W12_arr m ρ c 4).trans (final2_4 (V11 m ρ) c)
  refine (congrFun h (ix3 ⟨b.val * 8 + i.val / 16, by omega⟩ 0 ⟨i.val % 16 * 130 + j.val, by omega⟩)).trans ?_
  rw [← place_at m ρ c hz κ hκ b i j]
  refine congrArg (fun n : Fin 33280 => BitVec.ofNat 32 (kplace (val S33280x64 (W11 m ρ c (Proc.devRef .tc main_v47))) (val S512x64 (W11 m ρ c (Proc.devRef .tc main_arg5))) (val S1x512 (W11 m ρ c (Proc.devRef .tc main_v50))) n).val) (Fin.ext ?_)
  show (b.val * 8 + i.val / 16) * 2080 + (i.val % 16 * 130 + j.val) = (b.val * 128 + i.val) * 130 + j.val
  omega

include hz hκ in
/-- The third result: the loss. -/
theorem loss_at : val S_ (W13 m ρ c (Proc.devRef .tc main_v58)) ix0 = lossOf (sqSum (qK m c κ) (zK m c)) := by
  refine (loss_read (W12 m ρ c)).trans ?_
  have h : val S16x1x2080 (W12 m ρ c (Proc.devRef .tc main_v51_2)) = G2s (val S33280x64 (W11 m ρ c (Proc.devRef .tc main_v47))) (val S512x64 (W11 m ρ c (Proc.devRef .tc main_arg5))) (val S1x512 (W11 m ρ c (Proc.devRef .tc main_v50))) :=
    (W12_arr m ρ c 5).trans (final2_5 (V11 m ρ) c)
  have hs : ∑ t : Fin 16, val S16x1x2080 (W12 m ρ c (Proc.devRef .tc main_v51_2)) (ix3 t 0 0) = sqSum (qK m c κ) (zK m c) := by
    rw [h]
    exact sum_G2s (zK m c) (qK m c κ) _ _ _ (lat_at m ρ c) fun b i j o =>
      (congrArg (fun k => val S512x64 (W11 m ρ c (Proc.devRef .tc main_arg5)) (ix2 k o)) (place_at m ρ c hz κ hκ b i j)).trans (codes_at m ρ c _ o)
  rw [hs]
  exact loss_eq _

include hz hκ in
/-- The bordered image of the codes, as the fourth call takes it. -/
theorem in3_at (b : Fin 2) (Y : Fin 132) (X : Fin 130) (k : Fin 64) : val S2x17160x64 (W15 m ρ c (Proc.devRef .tc main_v61)) (ix3 b ⟨Y.val * 130 + X.val, by omega⟩ k)
    = if h : (2 ≤ Y.val ∧ Y.val - 2 < 128) ∧ X.val < 128 then qK m c κ b k ⟨Y.val - 2, h.1.2⟩ ⟨X.val, h.2⟩ else 0 := by
  refine (qflat_read (W14 m ρ c) b ⟨Y.val * 130 + X.val, by omega⟩ k).trans ?_
  refine (congrArg (val S2x132x130x64 (W14 m ρ c (Proc.devRef .tc main_v60))) (ix4_congr (i' := b) (j' := Y) (k' := X) (l' := k) rfl (by dsimp only; omega) (by dsimp only; omega) rfl)).trans ?_
  refine (qpad_read (W12 m ρ c) b Y X k).trans ?_
  by_cases hY : 2 ≤ Y.val ∧ Y.val - 2 < 128
  swap
  · exact (dif_neg hY).trans (Eq.symm (dif_neg (fun h => hY h.1)))
  refine (dif_pos hY).trans ?_
  have h := (W12_arr m ρ c 3).trans (final2_3 (V11 m ρ) c)
  refine (congrFun h (ix2 ⟨(b.val * 128 + (Y.val - 2)) * 130 + X.val, by omega⟩ k)).trans ?_
  have hm : ((b.val * 128 + (Y.val - 2)) * 130 + X.val) % 130 = X.val := by omega
  by_cases hX : X.val < 128
  · refine (if_pos (hm.trans_lt hX)).trans (Eq.trans ?_ (dif_pos ⟨hY, hX⟩).symm)
    refine Eq.trans ?_ (codes_at m ρ c (κ b ⟨Y.val - 2, hY.2⟩ ⟨X.val, hX⟩) k)
    exact congrArg (fun k' => val S512x64 (W11 m ρ c (Proc.devRef .tc main_arg5)) (ix2 k' k)) (place_at m ρ c hz κ hκ b ⟨Y.val - 2, hY.2⟩ ⟨X.val, hX⟩)
  · exact (if_neg fun h => hX (hm.symm.trans_lt h)).trans (Eq.symm (dif_neg (fun h => hX h.2)))

/-- The places stay as they are to the end. -/
theorem puzzles_keep : W52 m ρ c (Proc.devRef .tc main_v53) = W13 m ρ c (Proc.devRef .tc main_v53) :=
  (W52_of m ρ c main_v53 (by decide)).trans <| (W51_of m ρ c main_v53 (by decide)).trans <| (W50_of m ρ c main_v53 (by decide)).trans <| (W49_of m ρ c main_v53 (by decide)).trans <| (W48_of m ρ c main_v53 (by decide)).trans <| (W47_of m ρ c main_v53 (by decide)).trans <| (W46_of m ρ c main_v53 (by decide)).trans <| (W45_of m ρ c main_v53 (by decide)).trans <| (W44_of m ρ c main_v53 (by decide)).trans <| (W43_of m ρ c main_v53 (by decide)).trans <| (W42_of m ρ c main_v53 (by decide)).trans <| (W41_of m ρ c main_v53 (by decide)).trans <| (W40_of m ρ c main_v53 (by decide)).trans <| (W39_of m ρ c main_v53 (by decide)).trans <| (W38_of m ρ c main_v53 (by decide)).trans <| (W37_of m ρ c main_v53 (by decide)).trans <| (W36_of m ρ c main_v53 (by decide)).trans <| (W35_of m ρ c main_v53 (by decide)).trans <| (W34_of m ρ c main_v53 (by decide)).trans <| (W33_of m ρ c main_v53 (by decide)).trans <| (W32_of m ρ c main_v53 (by decide)).trans <| (W31_of m ρ c main_v53 (by decide)).trans <| (W30_of m ρ c main_v53 (by decide)).trans <| (W29_of m ρ c main_v53 (by decide)).trans <| (W28_of m ρ c main_v53 (by decide)).trans <| (W27_of m ρ c main_v53 (by decide)).trans <| (W26_of m ρ c main_v53 (by decide)).trans <| (W25_of m ρ c main_v53 (by decide)).trans <| (W24_of m ρ c main_v53 (by decide)).trans <| (W23_of m ρ c main_v53 (by decide)).trans <| (W22_of m ρ c main_v53 (by decide)).trans <| (W21_of m ρ c main_v53 (by decide)).trans <| (W20_of m ρ c main_v53 (by decide)).trans <| (W19_of m ρ c main_v53 (by decide)).trans <| (W18_of m ρ c main_v53 (by decide)).trans <| (W17_of m ρ c main_v53 (by decide)).trans <| (W16_of m ρ c main_v53 (by decide)).trans <| (W15_of m ρ c main_v53 (by decide)).trans <| (W14_of m ρ c main_v53 (by decide))

/-- The loss stays as it is to the end. -/
theorem loss_keep : W52 m ρ c (Proc.devRef .tc main_v58) = W13 m ρ c (Proc.devRef .tc main_v58) :=
  (W52_of m ρ c main_v58 (by decide)).trans <| (W51_of m ρ c main_v58 (by decide)).trans <| (W50_of m ρ c main_v58 (by decide)).trans <| (W49_of m ρ c main_v58 (by decide)).trans <| (W48_of m ρ c main_v58 (by decide)).trans <| (W47_of m ρ c main_v58 (by decide)).trans <| (W46_of m ρ c main_v58 (by decide)).trans <| (W45_of m ρ c main_v58 (by decide)).trans <| (W44_of m ρ c main_v58 (by decide)).trans <| (W43_of m ρ c main_v58 (by decide)).trans <| (W42_of m ρ c main_v58 (by decide)).trans <| (W41_of m ρ c main_v58 (by decide)).trans <| (W40_of m ρ c main_v58 (by decide)).trans <| (W39_of m ρ c main_v58 (by decide)).trans <| (W38_of m ρ c main_v58 (by decide)).trans <| (W37_of m ρ c main_v58 (by decide)).trans <| (W36_of m ρ c main_v58 (by decide)).trans <| (W35_of m ρ c main_v58 (by decide)).trans <| (W34_of m ρ c main_v58 (by decide)).trans <| (W33_of m ρ c main_v58 (by decide)).trans <| (W32_of m ρ c main_v58 (by decide)).trans <| (W31_of m ρ c main_v58 (by decide)).trans <| (W30_of m ρ c main_v58 (by decide)).trans <| (W29_of m ρ c main_v58 (by decide)).trans <| (W28_of m ρ c main_v58 (by decide)).trans <| (W27_of m ρ c main_v58 (by decide)).trans <| (W26_of m ρ c main_v58 (by decide)).trans <| (W25_of m ρ c main_v58 (by decide)).trans <| (W24_of m ρ c main_v58 (by decide)).trans <| (W23_of m ρ c main_v58 (by decide)).trans <| (W22_of m ρ c main_v58 (by decide)).trans <| (W21_of m ρ c main_v58 (by decide)).trans <| (W20_of m ρ c main_v58 (by decide)).trans <| (W19_of m ρ c main_v58 (by decide)).trans <| (W18_of m ρ c main_v58 (by decide)).trans <| (W17_of m ρ c main_v58 (by decide)).trans <| (W16_of m ρ c main_v58 (by decide)).trans <| (W15_of m ρ c main_v58 (by decide)).trans <| (W14_of m ρ c main_v58 (by decide))

end Cert.KernelIdeal.Layer
end
-- ==== Proof.Region3.lean ====
/- What the first transposed convolution's call leaves in its result, as a function of its operands. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen Cert.Conv Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx3 : ∀ t : Fin cfg3.N, win3_0.index t = ![(grid3.coords t 0).val, 0, 0] ∧ win3_1.index t = ![0, 0] ∧ win3_2.index t = ![0, 0]
    ∧ win3_3.index t = ![(grid3.coords t 0).val, (grid3.coords t 1).val, 0] ∧ t.val % 10 = (grid3.coords t 1).val :=
  (by decide +kernel : ∀ t : Fin grid3.N, _)

theorem off3_eq : ∀ t : Fin cfg3.N, (1 ≤ t.val % 10 ∧ t.val % 10 ≤ 8) → k3_off1 (grid3.coords t) = ![0, ((grid3.coords t 1).val - 1) * 2080, 0] :=
  (by decide +kernel : ∀ t : Fin grid3.N, _)

/-- The operands' blocks at a point: one image's rows, the whole weights and the whole bias. -/
theorem blk3_0 (c : Dev nD) (t : Fin cfg3.N) : iblk3 V c 0 t = (fun y : S1x17160x64.Idx => val S2x17160x64 (V c main_v61) (ix3 (grid3.coords t 0) (y 1) (y 2))) := by
  funext y
  blk_simp [iblk3]
  simp only [val]
  refine congrArg (V c main_v61) ?_
  have h0 : (y 0).val = 0 := by have h : (y 0).val < 1 := (y 0).isLt; omega
  blk_ext [idx3 t]

theorem blk3_1 (c : Dev nD) (t : Fin cfg3.N) : iblk3 V c 1 t = val S64x1024 (V c main_v64) := by
  funext y
  blk_simp [iblk3]
  simp only [val]
  blk_ext [idx3 t]

theorem blk3_2 (c : Dev nD) (t : Fin cfg3.N) : iblk3 V c 2 t = val S1x64 (V c main_v65) := by
  funext y
  blk_simp [iblk3]
  simp only [val]
  blk_ext [idx3 t]

/-- A load of a stretch of rows and columns of the product buffer. -/
def Tap (P : Vec Ideal S2472x1024 .f32) (a0 a1 : ℕ) : Vec Ideal S2080x64 .f32 := fun z =>
  P (ix2 (Fin.ofNat 2472 (a0 + (z 0).val)) (Fin.ofNat 1024 (a1 + (z 1).val)))

theorem tap3 (P : Vec Ideal S2472x1024 .f32) (a0 a1 : ℕ) (h' : ∀ a, ![0, 0] a + ![2472, 1024] a ≤ S2472x1024.size a) (h : ∀ a, ![a0, a1] a + ![2080, 64] a ≤ S2472x1024.size a) :
    (View.whole cc3_scratch0 : View sig .tc .vmem S2472x1024 .f32).readCov (Val := Elt Ideal) [⟨Rect.unit (s := S2472x1024) ![0, 0] ![2472, 1024] h', P⟩]
      (Rect.unit (s := S2472x1024) ![a0, a1] ![2080, 64] h).toLoadRect = Tap P a0 a1 := by
  rw [View.readCov_eq_canon']
  funext z
  have g0 : a0 + 2080 ≤ 2472 := h 0
  have g1 : a1 + 64 ≤ 1024 := h 1
  have hz0 : (z 0).val < 2080 := (z 0).isLt
  have hz1 : (z 1).val < 64 := (z 1).isLt
  have e := View.canon_cons_emb (Val := Elt Ideal) (Rect.unit (s := S2472x1024) ![0, 0] ![2472, 1024] h') P [] (ix2 (Fin.ofNat 2472 (a0 + (z 0).val)) (Fin.ofNat 1024 (a1 + (z 1).val)))
  refine Eq.trans (congrArg (View.canon (Val := Elt Ideal) [⟨Rect.unit (s := S2472x1024) ![0, 0] ![2472, 1024] h', P⟩]) ?_) e
  funext a
  refine Fin.ext ?_
  rw [ValueKit.rect_emb_unit_val]
  match a with
  | ⟨0, _⟩ =>
    refine (Rect.idx_unit_val ..).trans ?_
    show a0 + (z 0).val = 0 + (a0 + (z 0).val) % 2472
    omega
  | ⟨1, _⟩ =>
    refine (Rect.idx_unit_val ..).trans ?_
    show a1 + (z 1).val = 0 + (a1 + (z 1).val) % 1024
    omega

/-- The four phases, interleaved and bordered, before the row is named. -/
theorem pay2_at' (A B C D : FVec Ideal S2080x64 .f32) (b : Vec Ideal S1x64 .f32) (i : Fin 1) (rr : Fin 8256) (o : Fin 64) (nn : Fin 2080)
    (hnn : rr.val / 258 / 2 * 130 + (rr.val % 258 - 1) / 2 = nn.val) :
    k3_pay2 A B C D b (ix3 i rr o) = if 1 ≤ rr.val % 258 ∧ rr.val % 258 ≤ 256 then
      (if rr.val / 258 % 2 = 0 then (if (rr.val % 258 - 1) % 2 = 0 then A (ix2 nn o) else B (ix2 nn o))
       else (if (rr.val % 258 - 1) % 2 = 0 then C (ix2 nn o) else max (D (ix2 nn o) + b (ix2 0 o)) 0))
      else 0 := by
  pointwise [k3_pay2]
  have hz : (((0#32 : BitVec 32).toInt : ℝ) : EReal) = 0 := by simp
  have hr : rr.val < 8256 := rr.isLt
  have ho : o.val < 64 := o.isLt
  have key : ∀ (X : FVec Ideal S2080x64 .f32) (x y : ℕ) (hx : x < 2080) (hy : y < 64), x = nn.val → y = o.val →
      X (ix2 ⟨x, hx⟩ ⟨y, hy⟩ : S2080x64.Idx) = X (ix2 nn o) := by
    intro X x y hx hy e1 e2
    have e3 : (⟨x, hx⟩ : Fin 2080) = nn := Fin.ext e1
    have e4 : (⟨y, hy⟩ : Fin 64) = o := Fin.ext e2
    rw [e3, e4]
  have key' : ∀ (y : ℕ) (hy : y < 64), y = o.val → b (ix2 0 ⟨y, hy⟩ : S1x64.Idx) = b (ix2 0 o) := by
    intro y hy e2
    have e4 : (⟨y, hy⟩ : Fin 64) = o := Fin.ext e2
    rw [e4]
  have hA := key A
  have hB := key B
  have hC := key C
  have hD := key D
  clear key
  by_cases h1 : rr.val % 258 < 257
  · refine (dif_pos h1).trans ?_
    by_cases h2 : rr.val % 258 < 1
    · have h0 : ¬(1 ≤ rr.val % 258 ∧ rr.val % 258 ≤ 256) := by omega
      refine (dif_pos h2).trans ?_
      refine Eq.trans ?_ (if_neg h0).symm
      exact hz
    · have h0 : (1 ≤ rr.val % 258 ∧ rr.val % 258 ≤ 256) := by omega
      refine (dif_neg h2).trans ?_
      refine Eq.trans ?_ (if_pos h0).symm
      by_cases h3 : rr.val / 258 % 2 = 0
      · refine Eq.trans ?_ (if_pos h3).symm
        by_cases h4 : (rr.val % 258 - 1) % 2 = 0
        · have h5 : rr.val / 258 % 2 * 128 + (rr.val % 258 - 1) % 2 * 64 + o.val < 64 := by omega
          refine Eq.trans ?_ (if_pos h4).symm
          refine (dif_pos h5).trans ?_
          refine hA _ _ _ _ hnn ?_
          omega
        · have h5 : ¬rr.val / 258 % 2 * 128 + (rr.val % 258 - 1) % 2 * 64 + o.val < 64 := by omega
          have h6 : rr.val / 258 % 2 * 128 + (rr.val % 258 - 1) % 2 * 64 + o.val - 64 < 64 := by omega
          refine Eq.trans ?_ (if_neg h4).symm
          refine (dif_neg h5).trans ?_
          refine (dif_pos h6).trans ?_
          refine hB _ _ _ _ hnn ?_
          omega
      · refine Eq.trans ?_ (if_neg h3).symm
        have h5 : ¬rr.val / 258 % 2 * 128 + (rr.val % 258 - 1) % 2 * 64 + o.val < 64 := by omega
        have h6 : ¬rr.val / 258 % 2 * 128 + (rr.val % 258 - 1) % 2 * 64 + o.val - 64 < 64 := by omega
        by_cases h4 : (rr.val % 258 - 1) % 2 = 0
        · have h7 : rr.val / 258 % 2 * 128 + (rr.val % 258 - 1) % 2 * 64 + o.val - 64 - 64 < 64 := by omega
          refine Eq.trans ?_ (if_pos h4).symm
          refine (dif_neg h5).trans ?_
          refine (dif_neg h6).trans ?_
          refine (dif_pos h7).trans ?_
          refine hC _ _ _ _ hnn ?_
          omega
        · have h7 : ¬rr.val / 258 % 2 * 128 + (rr.val % 258 - 1) % 2 * 64 + o.val - 64 - 64 < 64 := by omega
          refine Eq.trans ?_ (if_neg h4).symm
          refine (dif_neg h5).trans ?_
          refine (dif_neg h6).trans ?_
          refine (dif_neg h7).trans ?_
          have e1 : rr.val / 258 % 2 * 128 + (rr.val % 258 - 1) % 2 * 64 + o.val - 64 - 64 - 64 = o.val := by omega
          exact congrArg₂ max (congrArg₂ (· + ·) (hD _ _ _ _ hnn e1) (key' _ _ e1)) rfl
  · have h0 : ¬(1 ≤ rr.val % 258 ∧ rr.val % 258 ≤ 256) := by omega
    refine (dif_neg h1).trans ?_
    refine Eq.trans ?_ (if_neg h0).symm
    exact hz

theorem pay4_at (A B C D : Vec Ideal S2080x64 .f32) (b : Vec Ideal S1x64 .f32) (n : Fin 2080) (o : Fin 64) :
    k3_pay4 A B C D b (ix2 n o) = max (A (ix2 n o) + B (ix2 n o) + C (ix2 n o) + D (ix2 n o) + b (ix2 0 o)) 0 := by
  pointwise [k3_pay4]

theorem pay56_at (A B C D : Vec Ideal S2080x64 .f32) (b : Vec Ideal S1x64 .f32) (n : Fin 2080) (o : Fin 64) :
    k3_pay6 (k3_pay5 A B) C D b (ix2 n o) = max (A (ix2 n o) + B (ix2 n o) + C (ix2 n o) + D (ix2 n o) + b (ix2 0 o)) 0 := by
  pointwise [k3_pay5, k3_pay6]

theorem pay7_at (A B C D : Vec Ideal S2080x64 .f32) (b : Vec Ideal S1x64 .f32) (n : Fin 2080) (o : Fin 64) :
    k3_pay7 A B C D b (ix2 n o) = max (A (ix2 n o) + B (ix2 n o) + C (ix2 n o) + D (ix2 n o) + b (ix2 0 o)) 0 := by
  pointwise [k3_pay7]

theorem pay8_at (A B C D : Vec Ideal S2080x64 .f32) (n : Fin 2080) (o : Fin 64) :
    k3_pay8 A B C D (ix2 n o) = A (ix2 n o) + B (ix2 n o) + C (ix2 n o) + D (ix2 n o) := by
  pointwise [k3_pay8]

/-- The block a computing point leaves, from its product buffer. -/
def outP (P : Vec Ideal S2472x1024 .f32) (b : Vec Ideal S1x64 .f32) : Vec Ideal S1x8256x64 .bf16 :=
  (k3_pay2 (F := Ideal) (k3_pay4 (Tap P 260 320) (Tap P 259 448) (Tap P 130 832) (Tap P 129 960) b) (k3_pay6 (k3_pay5 (Tap P 261 256) (Tap P 260 384)) (Tap P 131 768) (Tap P 130 896) b) (k3_pay7 (Tap P 390 64) (Tap P 389 192) (Tap P 260 576) (Tap P 259 704) b) (k3_pay8 (Tap P 391 0) (Tap P 390 128) (Tap P 261 512) (Tap P 260 640)) b)

/-- The product buffer of image `bi` at block `j`. -/
def Pv (qp : S2x17160x64.Idx → EReal) (w : S64x1024.Idx → EReal) (bi : Fin 2) (j : ℕ) : Vec Ideal S2472x1024 .f32 := fun y =>
  ∑ k : Fin 64, qp (ix3 bi (Fin.ofNat 17160 ((j - 1) * 2080 + (y 0).val)) k) * w (ix2 k (y 1))

/-- The products a computing point forms. -/
theorem pay3_eq (qp : Vec Ideal S2x17160x64 .bf16) (w : Vec Ideal S64x1024 .bf16) (t : Fin cfg3.N) (h : 1 ≤ t.val % 10 ∧ t.val % 10 ≤ 8) (h') :
    k3_pay3 (F := Ideal) (View.ld (fun y : S1x17160x64.Idx => qp (ix3 (grid3.coords t 0) (y 1) (y 2)))
        (Rect.unit (s := S1x17160x64) (k3_off1 (grid3.coords t)) ![1, 2472, 64] h')) w
      = Pv qp w (grid3.coords t 0) (grid3.coords t 1).val := by
  funext y
  obtain ⟨m, q, rfl⟩ : ∃ (m : Fin 2472) (q : Fin 1024), y = ix2 m q := ⟨y 0, y 1, eq_ix2 y⟩
  have ht : t.val % 10 = (grid3.coords t 1).val := (idx3 t).2.2.2.2
  generalize hX : View.ld (fun y : S1x17160x64.Idx => qp (ix3 (grid3.coords t 0) (y 1) (y 2)))
        (Rect.unit (s := S1x17160x64) (k3_off1 (grid3.coords t)) ![1, 2472, 64] h') = X
  pointwise [k3_pay3]
  subst hX
  refine Finset.sum_congr rfl fun k _ => congrArg (· * _) ?_
  refine congrArg qp ?_
  have hm : m.val < 2472 := m.isLt
  funext a
  match a with
  | ⟨0, _⟩ => rfl
  | ⟨1, _⟩ =>
    refine Fin.ext ?_
    refine (Rect.idx_unit_val ..).trans ?_
    rw [congrFun (off3_eq t h) 1]
    show ((grid3.coords t 1).val - 1) * 2080 + m.val = (((grid3.coords t 1).val - 1) * 2080 + m.val) % 17160
    omega
  | ⟨2, _⟩ =>
    refine Fin.ext ?_
    refine (Rect.idx_unit_val ..).trans ?_
    rw [congrFun (off3_eq t h) 2]
    exact Nat.zero_add _

theorem out3B (c : Dev nD) (t : Fin cfg3.N) (h : 1 ≤ t.val % 10 ∧ t.val % 10 ≤ 8) :
    outsAt3 V c t.val t.isLt = outP (Pv (val S2x17160x64 (V c main_v61)) (val S64x1024 (V c main_v64)) (grid3.coords t 0) (grid3.coords t 1).val) (val S1x64 (V c main_v65)) := by
  rw [outsAt3_B V c t (fun h' => h' h) h]
  frame_out
  rw [blk3_0, blk3_1, blk3_2]
  have hp := pay3_eq (val S2x17160x64 (V c main_v61)) (val S64x1024 (V c main_v64)) t h (k3_off1_inb (grid3.coords t) ((hcond3_1 t).mpr h))
  generalize hP : Pv (val S2x17160x64 (V c main_v61)) (val S64x1024 (V c main_v64)) (grid3.coords t 0) (grid3.coords t 1).val = P at hp ⊢
  have key : ∀ (P' : Vec Ideal S2472x1024 .f32) (b : Vec Ideal S1x64 .f32) (A0 A1 A2 A3 B0 B1 B2 B3 C0 C1 C2 C3 D0 D1 D2 D3 : Vec Ideal S2080x64 .f32), P' = P → A0 = (Tap P' 260 320) → A1 = (Tap P' 259 448) → A2 = (Tap P' 130 832) → A3 = (Tap P' 129 960) → B0 = (Tap P' 261 256) → B1 = (Tap P' 260 384) → B2 = (Tap P' 131 768) → B3 = (Tap P' 130 896) → C0 = (Tap P' 390 64) → C1 = (Tap P' 389 192) → C2 = (Tap P' 260 576) → C3 = (Tap P' 259 704) → D0 = (Tap P' 391 0) → D1 = (Tap P' 390 128) → D2 = (Tap P' 261 512) → D3 = (Tap P' 260 640) →
      (k3_pay2 (F := Ideal) (k3_pay4 A0 A1 A2 A3 b) (k3_pay6 (k3_pay5 B0 B1) B2 B3 b) (k3_pay7 C0 C1 C2 C3 b) (k3_pay8 D0 D1 D2 D3) b) = outP P b := by
    intro P' b A0 A1 A2 A3 B0 B1 B2 B3 C0 C1 C2 C3 D0 D1 D2 D3 e hA0 hA1 hA2 hA3 hB0 hB1 hB2 hB3 hC0 hC1 hC2 hC3 hD0 hD1 hD2 hD3
    subst e
    rw [outP, hA0, hA1, hA2, hA3, hB0, hB1, hB2, hB3, hC0, hC1, hC2, hC3, hD0, hD1, hD2, hD3]
  refine key _ _ _ _ _ _ _ _ _ _ _ _ _ _ _ _ _ _ hp ?_ ?_ ?_ ?_ ?_ ?_ ?_ ?_ ?_ ?_ ?_ ?_ ?_ ?_ ?_ ?_
  all_goals exact tap3 _ _ _ _ _

theorem out3A (c : Dev nD) (t : Fin cfg3.N) (h : ¬(1 ≤ t.val % 10 ∧ t.val % 10 ≤ 8)) :
    outsAt3 V c t.val t.isLt = fun _ => 0 := by
  rw [outsAt3_A V c t h h]
  frame_out
  funext y
  obtain ⟨i, r, o, rfl⟩ : ∃ (i : Fin 1) (r : Fin 8256) (o : Fin 64), y = ix3 i r o := ⟨y 0, y 1, y 2, eq_ix3 y⟩
  pointwise [k3_pay1]

/-- One tap of the first transposed convolution at output phase `(r, s)`: 64 channels against the columns of tap `(i, j)`. -/
def tm (qp : S2x17160x64.Idx → EReal) (w : S64x1024.Idx → EReal) (bi : Fin 2) (n r s i j : ℕ) (o : Fin 64) : EReal :=
  ∑ k : Fin 64, qp (ix3 bi (Fin.ofNat 17160 (n + ((2 + r - i) * 130 + s - j))) k) * w (ix2 k (Fin.ofNat 1024 (((1 - r + 2 * i) * 4 + (1 - s + 2 * j)) * 64 + o.val)))

/-- The first transposed convolution, rectified, bordered and laid out by rows. -/
def G3 (qp : S2x17160x64.Idx → EReal) (w : S64x1024.Idx → EReal) (b : S1x64.Idx → EReal) : S2x82560x64.Idx → EReal := fun i =>
  if 32 ≤ (i 1).val / 258 ∧ (i 1).val / 258 < 288 ∧ 1 ≤ (i 1).val % 258 ∧ (i 1).val % 258 ≤ 256 then
    max (tm qp w (i 0) (((i 1).val / 258 - 32) / 2 * 130 + ((i 1).val % 258 - 1) / 2) ((i 1).val / 258 % 2) (((i 1).val % 258 - 1) % 2) 0 0 (i 2)
      + tm qp w (i 0) (((i 1).val / 258 - 32) / 2 * 130 + ((i 1).val % 258 - 1) / 2) ((i 1).val / 258 % 2) (((i 1).val % 258 - 1) % 2) 0 1 (i 2)
      + tm qp w (i 0) (((i 1).val / 258 - 32) / 2 * 130 + ((i 1).val % 258 - 1) / 2) ((i 1).val / 258 % 2) (((i 1).val % 258 - 1) % 2) 1 0 (i 2)
      + tm qp w (i 0) (((i 1).val / 258 - 32) / 2 * 130 + ((i 1).val % 258 - 1) / 2) ((i 1).val / 258 % 2) (((i 1).val % 258 - 1) % 2) 1 1 (i 2)
      + b (ix2 0 (i 2))) 0
  else 0

theorem tap_tm (qp : S2x17160x64.Idx → EReal) (w : S64x1024.Idx → EReal) (bi : Fin 2) (jb : ℕ) (a0 a1 r s i j : ℕ) (n : Fin 2080) (o : Fin 64)
    (h0 : (2 + r - i) * 130 + s - j = a0) (h1 : ((1 - r + 2 * i) * 4 + (1 - s + 2 * j)) * 64 = a1) (g0 : a0 + 2080 ≤ 2472) (g1 : a1 + 64 ≤ 1024) :
    Tap (Pv qp w bi jb) a0 a1 (ix2 n o) = tm qp w bi ((jb - 1) * 2080 + n.val) r s i j o := by
  have hn : n.val < 2080 := n.isLt
  unfold Tap Pv tm
  refine Finset.sum_congr rfl fun k _ => congrArg₂ (· * ·) (congrArg (fun z => qp (ix3 bi z k)) (Fin.ext ?_)) (congrArg (fun z => w (ix2 k z)) (Fin.ext ?_))
  · show ((jb - 1) * 2080 + (a0 + n.val) % 2472) % 17160 = ((jb - 1) * 2080 + n.val + ((2 + r - i) * 130 + s - j)) % 17160
    rw [h0]
    omega
  · show (a1 + o.val) % 1024 = (((1 - r + 2 * i) * 4 + (1 - s + 2 * j)) * 64 + o.val) % 1024
    rw [h1]

/-- A point's block read in the whole result. -/
theorem block3 (qp : S2x17160x64.Idx → EReal) (w : S64x1024.Idx → EReal) (b : S1x64.Idx → EReal) (bi : Fin 2) (jb : ℕ) (hjb : jb < 10) (tv : ℕ) (htv : tv % 10 = jb)
    (i : Fin 1) (rr : Fin 8256) (o : Fin 64) (n : Fin 82560) (hn : n.val = jb * 8256 + rr.val) :
    (if (1 ≤ tv % 10 ∧ tv % 10 ≤ 8) then outP (Pv qp w bi jb) b else fun _ => (0 : EReal)) (ix3 i rr o) = G3 qp w b (ix3 bi n o) := by
  have hr : rr.val < 8256 := rr.isLt
  show _ = (if 32 ≤ n.val / 258 ∧ n.val / 258 < 288 ∧ 1 ≤ n.val % 258 ∧ n.val % 258 ≤ 256 then
    max (tm qp w bi ((n.val / 258 - 32) / 2 * 130 + (n.val % 258 - 1) / 2) (n.val / 258 % 2) ((n.val % 258 - 1) % 2) 0 0 o
      + tm qp w bi ((n.val / 258 - 32) / 2 * 130 + (n.val % 258 - 1) / 2) (n.val / 258 % 2) ((n.val % 258 - 1) % 2) 0 1 o
      + tm qp w bi ((n.val / 258 - 32) / 2 * 130 + (n.val % 258 - 1) / 2) (n.val / 258 % 2) ((n.val % 258 - 1) % 2) 1 0 o
      + tm qp w bi ((n.val / 258 - 32) / 2 * 130 + (n.val % 258 - 1) / 2) (n.val / 258 % 2) ((n.val % 258 - 1) % 2) 1 1 o
      + b (ix2 0 o)) 0
    else 0)
  have e1 : n.val / 258 = 32 * jb + rr.val / 258 := by omega
  have e2 : n.val % 258 = rr.val % 258 := by omega
  rw [e1, e2]
  obtain ⟨nn, hnn⟩ : ∃ nn : Fin 2080, rr.val / 258 / 2 * 130 + (rr.val % 258 - 1) / 2 = nn.val := ⟨⟨_, by omega⟩, rfl⟩
  by_cases h1 : 1 ≤ tv % 10 ∧ tv % 10 ≤ 8
  · rw [if_pos h1, outP, pay2_at' _ _ _ _ _ i rr o nn hnn]
    by_cases h2 : 1 ≤ rr.val % 258 ∧ rr.val % 258 ≤ 256
    · have h8 : 32 ≤ 32 * jb + rr.val / 258 ∧ 32 * jb + rr.val / 258 < 288 ∧ 1 ≤ rr.val % 258 ∧ rr.val % 258 ≤ 256 := by omega
      rw [if_pos h2, if_pos h8]
      clear h8
      have e3 : (32 * jb + rr.val / 258 - 32) / 2 * 130 + (rr.val % 258 - 1) / 2 = (jb - 1) * 2080 + (rr.val / 258 / 2 * 130 + (rr.val % 258 - 1) / 2) := by omega
      have e4 : (32 * jb + rr.val / 258) % 2 = rr.val / 258 % 2 := by omega
      rw [e3, e4, hnn]
      by_cases h3 : rr.val / 258 % 2 = 0
      · by_cases h4 : (rr.val % 258 - 1) % 2 = 0
        · have h6 := h3
          have h7 := h4
          rw [if_pos h3, if_pos h4, h6, h7, pay4_at,
            tap_tm qp w _ _ 260 320 0 0 0 0 nn o rfl rfl (by decide) (by decide),
            tap_tm qp w _ _ 259 448 0 0 0 1 nn o rfl rfl (by decide) (by decide),
            tap_tm qp w _ _ 130 832 0 0 1 0 nn o rfl rfl (by decide) (by decide),
            tap_tm qp w _ _ 129 960 0 0 1 1 nn o rfl rfl (by decide) (by decide)]
        · have h6 := h3
          have h7 : (rr.val % 258 - 1) % 2 = 1 := by omega
          rw [if_pos h3, if_neg h4, h6, h7, pay56_at,
            tap_tm qp w _ _ 261 256 0 1 0 0 nn o rfl rfl (by decide) (by decide),
            tap_tm qp w _ _ 260 384 0 1 0 1 nn o rfl rfl (by decide) (by decide),
            tap_tm qp w _ _ 131 768 0 1 1 0 nn o rfl rfl (by decide) (by decide),
            tap_tm qp w _ _ 130 896 0 1 1 1 nn o rfl rfl (by decide) (by decide)]
      · by_cases h4 : (rr.val % 258 - 1) % 2 = 0
        · have h6 : rr.val / 258 % 2 = 1 := by omega
          have h7 := h4
          rw [if_neg h3, if_pos h4, h6, h7, pay7_at,
            tap_tm qp w _ _ 390 64 1 0 0 0 nn o rfl rfl (by decide) (by decide),
            tap_tm qp w _ _ 389 192 1 0 0 1 nn o rfl rfl (by decide) (by decide),
            tap_tm qp w _ _ 260 576 1 0 1 0 nn o rfl rfl (by decide) (by decide),
            tap_tm qp w _ _ 259 704 1 0 1 1 nn o rfl rfl (by decide) (by decide)]
        · have h6 : rr.val / 258 % 2 = 1 := by omega
          have h7 : (rr.val % 258 - 1) % 2 = 1 := by omega
          rw [if_neg h3, if_neg h4, h6, h7, pay8_at,
            tap_tm qp w _ _ 391 0 1 1 0 0 nn o rfl rfl (by decide) (by decide),
            tap_tm qp w _ _ 390 128 1 1 0 1 nn o rfl rfl (by decide) (by decide),
            tap_tm qp w _ _ 261 512 1 1 1 0 nn o rfl rfl (by decide) (by decide),
            tap_tm qp w _ _ 260 640 1 1 1 1 nn o rfl rfl (by decide) (by decide)]
    · have h8 : ¬(32 ≤ 32 * jb + rr.val / 258 ∧ 32 * jb + rr.val / 258 < 288 ∧ 1 ≤ rr.val % 258 ∧ rr.val % 258 ≤ 256) := by omega
      rw [if_neg h2, if_neg h8]
  · have h8 : ¬(32 ≤ 32 * jb + rr.val / 258 ∧ 32 * jb + rr.val / 258 < 288 ∧ 1 ≤ rr.val % 258 ∧ rr.val % 258 ≤ 256) := by omega
    rw [if_neg h1, if_neg h8]

/-- The result of the fourth call. -/
theorem final3 (c : Dev nD) : (dat3 V c).arrAt 3 cfg3.N
    = G3 (val S2x17160x64 (V c main_v61)) (val S64x1024 (V c main_v64)) (val S1x64 (V c main_v65)) := by
  refine (dat3 V c).arrAt_eq_of_covers 3 _ (by decide +kernel) fun t _ y => ?_
  blk_simp
  rw [after3_3]
  have hout : outsAt3 V c t.val t.isLt = if (1 ≤ t.val % 10 ∧ t.val % 10 ≤ 8) then outP (Pv (val S2x17160x64 (V c main_v61)) (val S64x1024 (V c main_v64)) (grid3.coords t 0) (grid3.coords t 1).val) (val S1x64 (V c main_v65)) else fun _ => 0 := by
    split
    · exact out3B V c t ‹_›
    · exact out3A V c t ‹_›
  rw [hout]
  clear hout
  obtain ⟨i, rr, o, rfl⟩ : ∃ (i : Fin 1) (rr : Fin 8256) (o : Fin 64), y = ix3 i rr o := ⟨y 0, y 1, y 2, eq_ix3 y⟩
  have ht : (grid3.coords t 1).val < 10 := (grid3.coords t 1).isLt
  have ht' : t.val % 10 = (grid3.coords t 1).val := (idx3 t).2.2.2.2
  have hr : rr.val < 8256 := rr.isLt
  have hi : (((View.whole main_v66).slice (win3_3.rect t)).emb (ix3 i rr o) : S2x82560x64.Idx)
      = ix3 (grid3.coords t 0) ⟨(grid3.coords t 1).val * 8256 + rr.val, by omega⟩ o := by
    have : i.val = 0 := by omega
    blk_ext [idx3 t]
  refine Eq.trans ?_ (congrArg (G3 (val S2x17160x64 (V c main_v61)) (val S64x1024 (V c main_v64)) (val S1x64 (V c main_v65))) hi).symm
  generalize val S2x17160x64 (V c main_v61) = qp
  generalize val S64x1024 (V c main_v64) = w
  generalize val S1x64 (V c main_v65) = b
  refine block3 qp w b (grid3.coords t 0) (grid3.coords t 1).val ht t.val ht' i rr o _ rfl

end Cert.KernelIdeal.Layer
end
-- ==== Proof.Region4.lean ====
/- What the last call leaves in its result, as a function of its operands. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.KernelIdeal.Layer

open Cert.KernelIdeal Cert.KernelIdeal.Gen Cert.Conv Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row offset of each of the nine taps. -/
def off4 : ℕ → ℕ := fun g => g / 3 * 258 + g % 3 + 6

theorem off4_eq : ∀ t : Fin cfg4.N, k4_off1 (grid4.coords t) = ![(grid4.coords t 0).val, (grid4.coords t 1).val * 4128 + 7992, 0] :=
  (by decide +kernel : ∀ t : Fin grid4.N, _)

theorem idx4 : ∀ t : Fin cfg4.N, win4_0.index t = ![0, 0] ∧ win4_1.index t = ![0, 0]
    ∧ win4_2.index t = ![(grid4.coords t 0).val, 0, (grid4.coords t 1).val, 0] :=
  (by decide +kernel : ∀ t : Fin grid4.N, _)

/-- The last transposed convolution, by output phase: nine taps of 64 channels each, gathered from the bordered image's rows, times columns, plus a bias, squashed. -/
def G4 (hp : S2x82560x64.Idx → EReal) (w : S576x32.Idx → EReal) (b : S1x32.Idx → EReal) : S2x3x512x512.Idx → EReal := fun i =>
  Ideal.tanh ((∑ q : Fin 576, hp (ix3 (i 0) ⟨((i 2).val / 2 + 31 + q.val / 64 / 3) * 258 + ((i 3).val / 2 + q.val / 64 % 3), by
      have h : (i 2).val < 512 := (i 2).isLt
      have h' : (i 3).val < 512 := (i 3).isLt
      omega⟩ ⟨q.val % 64, by omega⟩) * w (ix2 q ⟨((i 2).val % 2 * 2 + (i 3).val % 2) * 8 + (i 1).val, by
        have h : (i 1).val < 3 := (i 1).isLt
        omega⟩)) + b (ix2 0 ⟨((i 2).val % 2 * 2 + (i 3).val % 2) * 8 + (i 1).val, by
        have h : (i 1).val < 3 := (i 1).isLt
        omega⟩))

/-- The operands' blocks at a point: the whole weights and the whole bias. -/
theorem blk4 (c : Dev nD) (t : Fin cfg4.N) : iblk4 V c 0 t = val S576x32 (V c main_v145) ∧ iblk4 V c 1 t = val S1x32 (V c main_v150) := by
  refine ⟨?_, ?_⟩
  · funext y
    blk_simp [iblk4]
    simp only [val]
    blk_ext [idx4 t]
  · funext y
    blk_simp [iblk4]
    simp only [val]
    blk_ext [idx4 t]

/-- A buffer filled whole reads as what filled it. -/
theorem canon_fill4 {S : Shape} {e : EltTy} (X : S.Idx → Elt Ideal e) : View.canon (Val := Elt Ideal) [⟨Rect.whole S, X⟩] = X := by
  funext y
  have h := View.canon_cons_emb (Val := Elt Ideal) (Rect.whole S) X [] y
  rwa [Rect.emb_whole_apply] at h

/-- A load of a stretch of rows from a buffer just filled. -/
theorem tap4 (X : Vec Ideal S4656x64 .bf16) (a0 : ℕ) (h1 : ∀ a, ![a0, 0] a + S4128x64.size a ≤ S4656x64.size a)
    (h3 : S4128x64.ShapeCasts S4128x64) (z : S4128x64.Idx) (n : Fin 4656) (m : Fin 64) (hn : n.val = a0 + (z 0).val) (hm : m.val = (z 1).val) :
    shapeCast S4128x64 ((View.whole cc4_scratch0 : View sig .tc .vmem S4656x64 .bf16).readCov (Val := Elt Ideal) [⟨Rect.whole S4656x64, X⟩]
      (Rect.unit (s := S4656x64) ![a0, 0] S4128x64.size h1).toLoadRect) h3 z = X (ix2 n m) := by
  rw [View.readCov_eq_canon']
  pointwise
  refine (congrFun (canon_fill4 (S := S4656x64) (e := .bf16) X) _).trans ?_
  refine congrArg X ?_
  funext a
  refine Fin.ext ?_
  match a with
  | ⟨0, _⟩ => exact hn.symm
  | ⟨1, _⟩ => exact hm.symm

/-- The buffer of rows at a point. -/
def rowsBuf4 (c : Dev nD) (t : Fin cfg4.N) : Vec Ideal S4656x64 .bf16 := fun y =>
  val S2x82560x64 (V c main_v66) (ix3 (grid4.coords t 0) ⟨(grid4.coords t 1).val * 4128 + 7992 + (y 0).val, by
          have h : (grid4.coords t 1).val < 16 := (grid4.coords t 1).isLt
          have h' : (y 0).val < 4656 := (y 0).isLt
          omega⟩ (y 1))

theorem rowsBuf4_eq (c : Dev nD) (t : Fin cfg4.N) (h1 h2) :
    ReadAs.same.apply
                      (View.read (Elt Idealize.ShloMosaic.Ideal)
                        (((View.whole main_v66).slice (Rect.unit (k4_off1 (grid4.coords t)) ![1, 4656, 64] h1)).reshape
                          S4656x64 h2)
                        (V c main_v66)) = rowsBuf4 V c t := by
  funext y
  obtain ⟨x, k, rfl⟩ : ∃ (x : Fin 4656) (k : Fin 64), y = ix2 x k := ⟨y 0, y 1, eq_ix2 y⟩
  have e : ReadAs.same.apply
                      (View.read (Elt Idealize.ShloMosaic.Ideal)
                        (((View.whole main_v66).slice (Rect.unit (k4_off1 (grid4.coords t)) ![1, 4656, 64] h1)).reshape
                          S4656x64 h2)
                        (V c main_v66)) (ix2 x k)
      = shapeCast S4656x64 (fun i : S1x4656x64.Idx => val S2x82560x64 (V c main_v66) ((Rect.unit (s := S2x82560x64) (k4_off1 (grid4.coords t)) ![1, 4656, 64] h1).emb i)) h2 (ix2 x k) := rfl
  rw [e]
  pointwise
  refine congrArg (val S2x82560x64 (V c main_v66)) ?_
  funext a
  refine Fin.ext ?_
  rw [ValueKit.rect_emb_unit_val]
  rw [congrFun (off4_eq t) a]
  match a with
  | ⟨0, _⟩ => rfl
  | ⟨1, _⟩ => rfl
  | ⟨2, _⟩ => exact Nat.zero_add _

/-- The nine taps side by side. -/
def cat4 (X : Vec Ideal S4656x64 .bf16) : Vec Ideal S4128x576 .bf16 := fun y =>
  X (ix2 ⟨(y 0).val + off4 ((y 1).val / 64), by
      have h : (y 0).val < 4128 := (y 0).isLt
      have h' : (y 1).val < 576 := (y 1).isLt
      unfold off4; omega⟩ ⟨(y 1).val % 64, by omega⟩)

/-- The taps of the rows brought in. -/
theorem rowsBuf4_at (c : Dev nD) (t : Fin cfg4.N) (h1 h2) (r : Fin 4128) (q : Fin 576) :
    cat4 (ReadAs.same.apply
                      (View.read (Elt Idealize.ShloMosaic.Ideal)
                        (((View.whole main_v66).slice (Rect.unit (k4_off1 (grid4.coords t)) ![1, 4656, 64] h1)).reshape
                          S4656x64 h2)
                        (V c main_v66))) (ix2 r q) = cat4 (rowsBuf4 V c t) (ix2 r q) :=
  congrArg (fun X => cat4 X (ix2 r q)) (rowsBuf4_eq V c t h1 h2)

/-- The load of tap `k`, read at the columns it is stored to. -/
theorem tapAt4 (X : Vec Ideal S4656x64 .bf16) (k a0 : ℕ) (hk0 : off4 k = a0) (h1 : ∀ a, ![a0, 0] a + S4128x64.size a ≤ S4656x64.size a)
    (h3 : S4128x64.ShapeCasts S4128x64) (z : S4128x64.Idx) (r : Fin 4128) (q : Fin 576) (hr : r.val = (z 0).val) (hq : q.val = 64 * k + (z 1).val) (hz : (z 1).val < 64) :
    shapeCast S4128x64 ((View.whole cc4_scratch0 : View sig .tc .vmem S4656x64 .bf16).readCov (Val := Elt Ideal) [⟨Rect.whole S4656x64, X⟩]
      (Rect.unit (s := S4656x64) ![a0, 0] S4128x64.size h1).toLoadRect) h3 z = cat4 X (ix2 r q) := by
  have hd : q.val / 64 = k := by omega
  refine tap4 X a0 h1 h3 z _ _ ?_ ?_
  · show r.val + off4 (q.val / 64) = _
    rw [hd, hk0, hr, Nat.add_comm]
  · show q.val % 64 = _
    omega

theorem out4 (c : Dev nD) (t : Fin cfg4.N) :
    outsAt4 V c t = k4_pay1 (k4_pay11 (cat4 (rowsBuf4 V c t)) (val S576x32 (V c main_v145)) (val S1x32 (V c main_v150))) := by
  unfold outsAt4
  frame_out
  obtain ⟨e0, e1⟩ := blk4 V c t
  rw [e0, e1]
  have key : ∀ C : Vec Ideal S4128x576 .bf16, C = cat4 (rowsBuf4 V c t) → k4_pay1 (k4_pay11 C (val S576x32 (V c main_v145)) (val S1x32 (V c main_v150)))
      = k4_pay1 (F := Ideal) (k4_pay11 (cat4 (rowsBuf4 V c t)) (val S576x32 (V c main_v145)) (val S1x32 (V c main_v150))) := fun C h => by rw [h]
  refine key _ ?_
  rw [View.readCov_eq_canon']
  funext y
  obtain ⟨r, q, rfl⟩ : ∃ (r : Fin 4128) (q : Fin 576), y = ix2 r q := ⟨y 0, y 1, eq_ix2 y⟩
  beta_reduce
  have hi : (Rect.unit (s := S4128x576) ![0, 0] ![4128, 576] inb_S4128x576_S4128x576_0_0).idx (ix2 r q) = (ix2 r q : S4128x576.Idx) := by
    funext a
    refine Fin.ext ?_
    match a with
    | ⟨0, _⟩ => exact (Rect.idx_unit_val ..).trans (Nat.zero_add _)
    | ⟨1, _⟩ => exact (Rect.idx_unit_val ..).trans (Nat.zero_add _)
  rw [hi]
  canon_tiles z h
  case piece0 => exact (tapAt4 _ 8 _ rfl _ _ z r q h0 h1 z1_lt).trans (rowsBuf4_at V c t _ _ r q)
  case piece1 => exact (tapAt4 _ 7 _ rfl _ _ z r q h0 h1 z1_lt).trans (rowsBuf4_at V c t _ _ r q)
  case piece2 => exact (tapAt4 _ 6 _ rfl _ _ z r q h0 h1 z1_lt).trans (rowsBuf4_at V c t _ _ r q)
  case piece3 => exact (tapAt4 _ 5 _ rfl _ _ z r q h0 h1 z1_lt).trans (rowsBuf4_at V c t _ _ r q)
  case piece4 => exact (tapAt4 _ 4 _ rfl _ _ z r q h0 h1 z1_lt).trans (rowsBuf4_at V c t _ _ r q)
  case piece5 => exact (tapAt4 _ 3 _ rfl _ _ z r q h0 h1 z1_lt).trans (rowsBuf4_at V c t _ _ r q)
  case piece6 => exact (tapAt4 _ 2 _ rfl _ _ z r q h0 h1 z1_lt).trans (rowsBuf4_at V c t _ _ r q)
  case piece7 => exact (tapAt4 _ 1 _ rfl _ _ z r q h0 h1 z1_lt).trans (rowsBuf4_at V c t _ _ r q)
  case piece8 => exact (tapAt4 _ 0 _ rfl _ _ z r q h0 (h1.trans (Nat.zero_add _).symm) z1_lt).trans (rowsBuf4_at V c t _ _ r q)

/-- The result of the last call. -/
theorem final4 (c : Dev nD) : (dat4 V c).arrAt 2 cfg4.N
    = G4 (val S2x82560x64 (V c main_v66)) (val S576x32 (V c main_v145)) (val S1x32 (V c main_v150)) := by
  refine (dat4 V c).arrAt_eq_of_covers 2 _ (by decide +kernel) fun t _ y => ?_
  blk_simp
  rw [after4_2, out4]
  obtain ⟨i, oc, R, C, rfl⟩ : ∃ (i : Fin 1) (oc : Fin 3) (R : Fin 32) (C : Fin 512), y = ix4 i oc R C := ⟨y 0, y 1, y 2, y 3, eq_ix4 y⟩
  have ht : (grid4.coords t 1).val < 16 := (grid4.coords t 1).isLt
  have hi : (((View.whole main_v151).slice (win4_2.rect t)).emb (ix4 i oc R C) : S2x3x512x512.Idx)
      = ix4 (grid4.coords t 0) oc ⟨(grid4.coords t 1).val * 32 + R.val, by omega⟩ C := by
    have : i.val = 0 := by omega
    blk_ext [idx4 t]
  refine Eq.trans ?_ (congrArg (G4 (val S2x82560x64 (V c main_v66)) (val S576x32 (V c main_v145)) (val S1x32 (V c main_v150))) hi).symm
  generalize hX : cat4 (rowsBuf4 V c t) = X
  pointwise [k4_pay11, k4_pay1]
  subst hX
  simp only [G4, cat4, rowsBuf4, off4]
  refine congrArg Ideal.tanh (congrArg₂ (· + ·) (Finset.sum_congr rfl fun q _ => congrArg₂ (· * ·) (congrArg (val S2x82560x64 (V c main_v66)) ?_) (congrArg (val S576x32 (V c main_v145)) ?_)) (congrArg (val S1x32 (V c main_v150)) ?_))
  · funext a
    match a with
    | ⟨0, _⟩ => rfl
    | ⟨1, _⟩ =>
      refine Fin.ext ?_
      show (grid4.coords t 1).val * 4128 + 7992 + (R.val / 2 * 258 + C.val / 2 + (q.val / 64 / 3 * 258 + q.val / 64 % 3 + 6))
        = (((grid4.coords t 1).val * 32 + R.val) / 2 + 31 + q.val / 64 / 3) * 258 + (C.val / 2 + q.val / 64 % 3)
      omega
    | ⟨2, _⟩ => rfl
  · refine congrArg (ix2 q) (Fin.ext ?_)
    show R.val % 2 * 16 + C.val % 2 * 8 + oc.val = (((grid4.coords t 1).val * 32 + R.val) % 2 * 2 + C.val % 2) * 8 + oc.val
    omega
  · refine congrArg (ix2 0) (Fin.ext ?_)
    show R.val % 2 * 16 + C.val % 2 * 8 + oc.val = (((grid4.coords t 1).val * 32 + R.val) % 2 * 2 + C.val % 2) * 8 + oc.val
    omega

end Cert.KernelIdeal.Layer
end
-- ==== Proof.Host4a.lean ====
/- The blocks of the last call's filters, neighbours 0 to 2. -/
module

public import proofs.«01_k».proof.Proof.Gen.KernelIdeal.Frame
public import proofs.«01_k».proof.Proof.Spec
public import Idealize.ShloMosaic.Lib.Pointwise
public import proofs.«01_k».proof.Proof.HostLib

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

/-- The contents after every stretch that makes a block of the last call's filters. -/
abbrev blocks (V : Valuation τ sig (Elt Ideal)) : Valuation τ sig (Elt Ideal) := (after hostOps4_31 (after hostOps4_30 (after hostOps4_29 (after hostOps4_28 (after hostOps4_27 (after hostOps4_26 (after hostOps4_25 (after hostOps4_24 (after hostOps4_23 (after hostOps4_22 (after hostOps4_21 (after hostOps4_20 (after hostOps4_19 (after hostOps4_18 (after hostOps4_17 (after hostOps4_16 (after hostOps4_15 (after hostOps4_14 (after hostOps4_13 (after hostOps4_12 (after hostOps4_11 (after hostOps4_10 (after hostOps4_9 (after hostOps4_8 (after hostOps4_7 (after hostOps4_6 (after hostOps4_5 (after hostOps4_4 (after hostOps4_3 (after hostOps4_2 (after hostOps4_1 (after hostOps4 V))))))))))))))))))))))))))))))))

set_option maxHeartbeats 4000000 in
/-- Block 0 of neighbour 0: tap (3, 3) of the filters, with zeros for the absent colours. -/
theorem blk_0_0 (r : Fin 64) (o : Fin 8) : val S64x8 (blocks V (Proc.devRef .tc main_v69)) (ix2 r o)
    = if h : o.val < 3 then val S64x3x4x4 (V (Proc.devRef .tc main_arg8)) (ix4 r ⟨o.val, h⟩ 3 3) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 1 of neighbour 0 is zero. -/
theorem blk_0_1 (r : Fin 64) (o : Fin 8) : val S64x8 (blocks V (Proc.devRef .tc main_v70)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 2 of neighbour 0 is zero. -/
theorem blk_0_2 (r : Fin 64) (o : Fin 8) : val S64x8 (blocks V (Proc.devRef .tc main_v71)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 3 of neighbour 0 is zero. -/
theorem blk_0_3 (r : Fin 64) (o : Fin 8) : val S64x8 (blocks V (Proc.devRef .tc main_v72)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 0 of neighbour 1: tap (3, 1) of the filters, with zeros for the absent colours. -/
theorem blk_1_0 (r : Fin 64) (o : Fin 8) : val S64x8 (blocks V (Proc.devRef .tc main_v75)) (ix2 r o)
    = if h : o.val < 3 then val S64x3x4x4 (V (Proc.devRef .tc main_arg8)) (ix4 r ⟨o.val, h⟩ 3 1) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 1 of neighbour 1: tap (3, 2) of the filters, with zeros for the absent colours. -/
theorem blk_1_1 (r : Fin 64) (o : Fin 8) : val S64x8 (blocks V (Proc.devRef .tc main_v78)) (ix2 r o)
    = if h : o.val < 3 then val S64x3x4x4 (V (Proc.devRef .tc main_arg8)) (ix4 r ⟨o.val, h⟩ 3 2) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 2 of neighbour 1 is zero. -/
theorem blk_1_2 (r : Fin 64) (o : Fin 8) : val S64x8 (blocks V (Proc.devRef .tc main_v79)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 3 of neighbour 1 is zero. -/
theorem blk_1_3 (r : Fin 64) (o : Fin 8) : val S64x8 (blocks V (Proc.devRef .tc main_v80)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 0 of neighbour 2 is zero. -/
theorem blk_2_0 (r : Fin 64) (o : Fin 8) : val S64x8 (blocks V (Proc.devRef .tc main_v81)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 1 of neighbour 2: tap (3, 0) of the filters, with zeros for the absent colours. -/
theorem blk_2_1 (r : Fin 64) (o : Fin 8) : val S64x8 (blocks V (Proc.devRef .tc main_v84)) (ix2 r o)
    = if h : o.val < 3 then val S64x3x4x4 (V (Proc.devRef .tc main_arg8)) (ix4 r ⟨o.val, h⟩ 3 0) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 2 of neighbour 2 is zero. -/
theorem blk_2_2 (r : Fin 64) (o : Fin 8) : val S64x8 (blocks V (Proc.devRef .tc main_v85)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 3 of neighbour 2 is zero. -/
theorem blk_2_3 (r : Fin 64) (o : Fin 8) : val S64x8 (blocks V (Proc.devRef .tc main_v86)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

end Cert.KernelIdeal.Layer
end
-- ==== Proof.Host4b.lean ====
/- The blocks of the last call's filters, neighbours 3 to 5. -/
module

public import proofs.«01_k».proof.Proof.Gen.KernelIdeal.Frame
public import proofs.«01_k».proof.Proof.Spec
public import Idealize.ShloMosaic.Lib.Pointwise
public import proofs.«01_k».proof.Proof.HostLib
public import proofs.«01_k».proof.Proof.Host4a

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

set_option maxHeartbeats 4000000 in
/-- Block 0 of neighbour 3: tap (1, 3) of the filters, with zeros for the absent colours. -/
theorem blk_3_0 (r : Fin 64) (o : Fin 8) : val S64x8 (blocks V (Proc.devRef .tc main_v89)) (ix2 r o)
    = if h : o.val < 3 then val S64x3x4x4 (V (Proc.devRef .tc main_arg8)) (ix4 r ⟨o.val, h⟩ 1 3) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 1 of neighbour 3 is zero. -/
theorem blk_3_1 (r : Fin 64) (o : Fin 8) : val S64x8 (blocks V (Proc.devRef .tc main_v90)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 2 of neighbour 3: tap (2, 3) of the filters, with zeros for the absent colours. -/
theorem blk_3_2 (r : Fin 64) (o : Fin 8) : val S64x8 (blocks V (Proc.devRef .tc main_v93)) (ix2 r o)
    = if h : o.val < 3 then val S64x3x4x4 (V (Proc.devRef .tc main_arg8)) (ix4 r ⟨o.val, h⟩ 2 3) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 3 of neighbour 3 is zero. -/
theorem blk_3_3 (r : Fin 64) (o : Fin 8) : val S64x8 (blocks V (Proc.devRef .tc main_v94)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 0 of neighbour 4: tap (1, 1) of the filters, with zeros for the absent colours. -/
theorem blk_4_0 (r : Fin 64) (o : Fin 8) : val S64x8 (blocks V (Proc.devRef .tc main_v97)) (ix2 r o)
    = if h : o.val < 3 then val S64x3x4x4 (V (Proc.devRef .tc main_arg8)) (ix4 r ⟨o.val, h⟩ 1 1) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 1 of neighbour 4: tap (1, 2) of the filters, with zeros for the absent colours. -/
theorem blk_4_1 (r : Fin 64) (o : Fin 8) : val S64x8 (blocks V (Proc.devRef .tc main_v100)) (ix2 r o)
    = if h : o.val < 3 then val S64x3x4x4 (V (Proc.devRef .tc main_arg8)) (ix4 r ⟨o.val, h⟩ 1 2) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 2 of neighbour 4: tap (2, 1) of the filters, with zeros for the absent colours. -/
theorem blk_4_2 (r : Fin 64) (o : Fin 8) : val S64x8 (blocks V (Proc.devRef .tc main_v103)) (ix2 r o)
    = if h : o.val < 3 then val S64x3x4x4 (V (Proc.devRef .tc main_arg8)) (ix4 r ⟨o.val, h⟩ 2 1) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 3 of neighbour 4: tap (2, 2) of the filters, with zeros for the absent colours. -/
theorem blk_4_3 (r : Fin 64) (o : Fin 8) : val S64x8 (blocks V (Proc.devRef .tc main_v106)) (ix2 r o)
    = if h : o.val < 3 then val S64x3x4x4 (V (Proc.devRef .tc main_arg8)) (ix4 r ⟨o.val, h⟩ 2 2) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 0 of neighbour 5 is zero. -/
theorem blk_5_0 (r : Fin 64) (o : Fin 8) : val S64x8 (blocks V (Proc.devRef .tc main_v107)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 1 of neighbour 5: tap (1, 0) of the filters, with zeros for the absent colours. -/
theorem blk_5_1 (r : Fin 64) (o : Fin 8) : val S64x8 (blocks V (Proc.devRef .tc main_v110)) (ix2 r o)
    = if h : o.val < 3 then val S64x3x4x4 (V (Proc.devRef .tc main_arg8)) (ix4 r ⟨o.val, h⟩ 1 0) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 2 of neighbour 5 is zero. -/
theorem blk_5_2 (r : Fin 64) (o : Fin 8) : val S64x8 (blocks V (Proc.devRef .tc main_v111)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 3 of neighbour 5: tap (2, 0) of the filters, with zeros for the absent colours. -/
theorem blk_5_3 (r : Fin 64) (o : Fin 8) : val S64x8 (blocks V (Proc.devRef .tc main_v114)) (ix2 r o)
    = if h : o.val < 3 then val S64x3x4x4 (V (Proc.devRef .tc main_arg8)) (ix4 r ⟨o.val, h⟩ 2 0) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

end Cert.KernelIdeal.Layer
end
-- ==== Proof.Host4c.lean ====
/- The blocks of the last call's filters, neighbours 6 to 8. -/
module

public import proofs.«01_k».proof.Proof.Gen.KernelIdeal.Frame
public import proofs.«01_k».proof.Proof.Spec
public import Idealize.ShloMosaic.Lib.Pointwise
public import proofs.«01_k».proof.Proof.HostLib
public import proofs.«01_k».proof.Proof.Host4a

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

set_option maxHeartbeats 4000000 in
/-- Block 0 of neighbour 6 is zero. -/
theorem blk_6_0 (r : Fin 64) (o : Fin 8) : val S64x8 (blocks V (Proc.devRef .tc main_v115)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 1 of neighbour 6 is zero. -/
theorem blk_6_1 (r : Fin 64) (o : Fin 8) : val S64x8 (blocks V (Proc.devRef .tc main_v116)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 2 of neighbour 6: tap (0, 3) of the filters, with zeros for the absent colours. -/
theorem blk_6_2 (r : Fin 64) (o : Fin 8) : val S64x8 (blocks V (Proc.devRef .tc main_v119)) (ix2 r o)
    = if h : o.val < 3 then val S64x3x4x4 (V (Proc.devRef .tc main_arg8)) (ix4 r ⟨o.val, h⟩ 0 3) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 3 of neighbour 6 is zero. -/
theorem blk_6_3 (r : Fin 64) (o : Fin 8) : val S64x8 (blocks V (Proc.devRef .tc main_v120)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 0 of neighbour 7 is zero. -/
theorem blk_7_0 (r : Fin 64) (o : Fin 8) : val S64x8 (blocks V (Proc.devRef .tc main_v121)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 1 of neighbour 7 is zero. -/
theorem blk_7_1 (r : Fin 64) (o : Fin 8) : val S64x8 (blocks V (Proc.devRef .tc main_v122)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 2 of neighbour 7: tap (0, 1) of the filters, with zeros for the absent colours. -/
theorem blk_7_2 (r : Fin 64) (o : Fin 8) : val S64x8 (blocks V (Proc.devRef .tc main_v125)) (ix2 r o)
    = if h : o.val < 3 then val S64x3x4x4 (V (Proc.devRef .tc main_arg8)) (ix4 r ⟨o.val, h⟩ 0 1) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 3 of neighbour 7: tap (0, 2) of the filters, with zeros for the absent colours. -/
theorem blk_7_3 (r : Fin 64) (o : Fin 8) : val S64x8 (blocks V (Proc.devRef .tc main_v128)) (ix2 r o)
    = if h : o.val < 3 then val S64x3x4x4 (V (Proc.devRef .tc main_arg8)) (ix4 r ⟨o.val, h⟩ 0 2) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

set_option maxHeartbeats 4000000 in
/-- Block 0 of neighbour 8 is zero. -/
theorem blk_8_0 (r : Fin 64) (o : Fin 8) : val S64x8 (blocks V (Proc.devRef .tc main_v129)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 1 of neighbour 8 is zero. -/
theorem blk_8_1 (r : Fin 64) (o : Fin 8) : val S64x8 (blocks V (Proc.devRef .tc main_v130)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 2 of neighbour 8 is zero. -/
theorem blk_8_2 (r : Fin 64) (o : Fin 8) : val S64x8 (blocks V (Proc.devRef .tc main_v131)) (ix2 r o) = 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

set_option maxHeartbeats 4000000 in
/-- Block 3 of neighbour 8: tap (0, 0) of the filters, with zeros for the absent colours. -/
theorem blk_8_3 (r : Fin 64) (o : Fin 8) : val S64x8 (blocks V (Proc.devRef .tc main_v134)) (ix2 r o)
    = if h : o.val < 3 then val S64x3x4x4 (V (Proc.devRef .tc main_arg8)) (ix4 r ⟨o.val, h⟩ 0 0) else 0 := by
  simp only [val, wval, blocks, hostOps4, hostOps4_1, hostOps4_2, hostOps4_3, hostOps4_4, hostOps4_5, hostOps4_6, hostOps4_7, hostOps4_8, hostOps4_9, hostOps4_10, hostOps4_11, hostOps4_12, hostOps4_13, hostOps4_14, hostOps4_15, hostOps4_16, hostOps4_17, hostOps4_18, hostOps4_19, hostOps4_20, hostOps4_21, hostOps4_22, hostOps4_23, hostOps4_24, hostOps4_25, hostOps4_26, hostOps4_27, hostOps4_28, hostOps4_29, hostOps4_30, hostOps4_31, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    show (((0#32 : BitVec 32).toInt : ℝ) : EReal) = 0
    simp

end Cert.KernelIdeal.Layer
end
-- ==== Proof.Host4d.lean ====
/- How the blocks of the filters of the last call lie side by side, and its bias. -/
module

public import proofs.«01_k».proof.Proof.Gen.KernelIdeal.Frame
public import proofs.«01_k».proof.Proof.Spec
public import Idealize.ShloMosaic.Lib.Pointwise
public import proofs.«01_k».proof.Proof.HostLib

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (V : Valuation τ sig (Elt Ideal))

/-- The blocks by neighbour and by place in the two by two patch. -/
def blockOf : Fin 9 → Fin 4 → S64x8.Idx → EReal := ![![val S64x8 (V (Proc.devRef .tc main_v69)), val S64x8 (V (Proc.devRef .tc main_v70)), val S64x8 (V (Proc.devRef .tc main_v71)), val S64x8 (V (Proc.devRef .tc main_v72))], ![val S64x8 (V (Proc.devRef .tc main_v75)), val S64x8 (V (Proc.devRef .tc main_v78)), val S64x8 (V (Proc.devRef .tc main_v79)), val S64x8 (V (Proc.devRef .tc main_v80))], ![val S64x8 (V (Proc.devRef .tc main_v81)), val S64x8 (V (Proc.devRef .tc main_v84)), val S64x8 (V (Proc.devRef .tc main_v85)), val S64x8 (V (Proc.devRef .tc main_v86))], ![val S64x8 (V (Proc.devRef .tc main_v89)), val S64x8 (V (Proc.devRef .tc main_v90)), val S64x8 (V (Proc.devRef .tc main_v93)), val S64x8 (V (Proc.devRef .tc main_v94))], ![val S64x8 (V (Proc.devRef .tc main_v97)), val S64x8 (V (Proc.devRef .tc main_v100)), val S64x8 (V (Proc.devRef .tc main_v103)), val S64x8 (V (Proc.devRef .tc main_v106))], ![val S64x8 (V (Proc.devRef .tc main_v107)), val S64x8 (V (Proc.devRef .tc main_v110)), val S64x8 (V (Proc.devRef .tc main_v111)), val S64x8 (V (Proc.devRef .tc main_v114))], ![val S64x8 (V (Proc.devRef .tc main_v115)), val S64x8 (V (Proc.devRef .tc main_v116)), val S64x8 (V (Proc.devRef .tc main_v119)), val S64x8 (V (Proc.devRef .tc main_v120))], ![val S64x8 (V (Proc.devRef .tc main_v121)), val S64x8 (V (Proc.devRef .tc main_v122)), val S64x8 (V (Proc.devRef .tc main_v125)), val S64x8 (V (Proc.devRef .tc main_v128))], ![val S64x8 (V (Proc.devRef .tc main_v129)), val S64x8 (V (Proc.devRef .tc main_v130)), val S64x8 (V (Proc.devRef .tc main_v131)), val S64x8 (V (Proc.devRef .tc main_v134))]]

set_option maxHeartbeats 8000000 in
/-- Where each block lies in the last call's filters. -/
theorem cat_read (g : Fin 9) (bb : Fin 4) (r : Fin 64) (o : Fin 8) : val S576x32 (after hostOps4_32 V (Proc.devRef .tc main_v145)) (ix2 ⟨g.val * 64 + r.val, by omega⟩ ⟨bb.val * 8 + o.val, by omega⟩)
    = blockOf V g bb (ix2 r o) := by
  simp only [val, wval, hostOps4_32, TRef.nullary, TRef.unary, TRef.binary, TRef.ternary, TRef.toBuf, TRef.ofBuf, cast_eq]
  after_results_simp
  pointwise
  obtain ⟨g, hg⟩ := g
  obtain ⟨bb, hbb⟩ := bb
  interval_cases g <;> interval_cases bb
  all_goals
    (repeat first | refine (dif_pos (by first | omega | (dsimp only; omega))).trans ?_ | refine (dif_neg (by first | omega | (dsimp only; omega))).trans ?_)
    after_results_simp
    pointwise
    (repeat first | refine (dif_pos (by first | omega | (dsimp only; omega))).trans ?_ | refine (dif_neg (by first | omega | (dsimp only; omega))).trans ?_)
    exact Eq.trans (congrArg _ (ix2_congr (i' := r) (j' := o) (by first | rfl | omega | (dsimp only; omega)) (by first | rfl | omega | (dsimp only; omega)))) rfl

set_option maxHeartbeats 4000000 in
theorem bias4_read (z : Fin 1) (n : Fin 32) :
    val S1x32 (after hostOps4_34 V (Proc.devRef .tc main_v150)) (ix2 z n) = val S8 (V (Proc.devRef .tc main_v146)) (ix1 ⟨n.val % 8, by omega⟩) := by
  simp only [val, wval, hostOps4_34, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise

theorem zero49_read : wval S_ (after hostOps4_32 V (Proc.devRef .tc main_c_49)) = fun _ => 0#32 := by
  simp only [val, wval, hostOps4_32, TRef.nullary, TRef.unary, TRef.binary, TRef.ternary, TRef.toBuf, TRef.ofBuf, cast_eq]
  after_results_simp
  try dsimp only [Matrix.cons_val]
  try after_results_simp
  try dsimp only [Matrix.cons_val]
  try after_results_simp
  rfl

theorem bias4_pad_read (hz : wval S_ (V (Proc.devRef .tc main_c_49)) = fun _ => 0#32) (o : Fin 8) :
    val S8 (after hostOps4_33 V (Proc.devRef .tc main_v146)) (ix1 o) = if h : o.val < 3 then val S3 (V (Proc.devRef .tc main_arg9)) (ix1 ⟨o.val, h⟩) else 0 := by
  simp only [val, wval, hostOps4_33, TRef.nullary, TRef.unary, TRef.binary, TRef.ternary, TRef.toBuf, TRef.ofBuf, cast_eq]
  after_results_simp
  try dsimp only [Matrix.cons_val]
  try after_results_simp
  try dsimp only [Matrix.cons_val]
  try after_results_simp
  pointwise
  by_cases h : o.val < 3
  · refine (dif_pos h).trans (Eq.trans ?_ (dif_pos h).symm)
    rfl
  · refine (dif_neg h).trans (Eq.trans ?_ (dif_neg h).symm)
    refine (congrArg (fun w : BitVec 32 => ((w.toInt : ℝ) : EReal)) (congrFun hz (Shape.Idx.first h_S_))).trans ?_
    simp

end Cert.KernelIdeal.Layer
end
-- ==== Proof.MathDec.lean ====
/- The transposed convolutions from the sums the kernel takes. -/
module

public import proofs.«01_k».proof.Proof.HostLib
public import proofs.«01_k».proof.Proof.Region3
public import proofs.«01_k».proof.Proof.Region4

@[expose] public section

set_option maxRecDepth 16384

noncomputable section

namespace Cert.KernelIdeal.Layer

open Cert.KernelIdeal Cert.KernelIdeal.Gen Cert.Conv Idealize.ShloMosaic Idealize.ShloMosaic.TcCoe Idealize.SL.Sem

/-- An image read `i` rows above row `A` and `j` columns left of column `B`, zero outside it. -/
def cell {C n : ℕ} (x : Img C n) (b : Fin 2) (c : Fin C) (A i B j : ℕ) : EReal :=
  if h : (i ≤ A ∧ A - i < n) ∧ (j ≤ B ∧ B - j < n) then x b c ⟨A - i, h.1.2⟩ ⟨B - j, h.2.2⟩ else 0

theorem dil_cell {C n : ℕ} (x : Img C n) (b : Fin 2) (c : Fin C) (I J A i B j : ℕ) (hI : I + 2 * i = 2 * A + 2) (hJ : J + 2 * j = 2 * B + 2) :
    dil x b c I J = cell x b c A i B j := by
  unfold dil cell
  by_cases h : (i ≤ A ∧ A - i < n) ∧ (j ≤ B ∧ B - j < n)
  · have h' : (2 ≤ I ∧ (I - 2) % 2 = 0 ∧ (I - 2) / 2 < n) ∧ 2 ≤ J ∧ (J - 2) % 2 = 0 ∧ (J - 2) / 2 < n := by omega
    refine (dif_pos h').trans (Eq.trans ?_ (dif_pos h).symm)
    have e1 : (⟨(I - 2) / 2, h'.1.2.2⟩ : Fin n) = ⟨A - i, h.1.2⟩ := Fin.ext (by show (I - 2) / 2 = A - i; omega)
    have e2 : (⟨(J - 2) / 2, h'.2.2.2⟩ : Fin n) = ⟨B - j, h.2.2⟩ := Fin.ext (by show (J - 2) / 2 = B - j; omega)
    rw [e1, e2]
  · have h' : ¬((2 ≤ I ∧ (I - 2) % 2 = 0 ∧ (I - 2) / 2 < n) ∧ 2 ≤ J ∧ (J - 2) % 2 = 0 ∧ (J - 2) / 2 < n) := by omega
    refine (dif_neg h').trans (Eq.trans ?_ (dif_neg h).symm)
    rfl

theorem dil_odd_row {C n : ℕ} (x : Img C n) (b : Fin 2) (c : Fin C) (I J : ℕ) (hI : I % 2 = 1) : dil x b c I J = 0 :=
  dif_neg (by omega)

theorem dil_odd_col {C n : ℕ} (x : Img C n) (b : Fin 2) (c : Fin C) (I J : ℕ) (hJ : J % 2 = 1) : dil x b c I J = 0 :=
  dif_neg (by omega)

/-- Of four taps only the two of the right parity count. -/
theorem sum_parity (r : ℕ) (hr : r < 2) (g : Fin 4 → EReal) (h0 : ∀ u : Fin 4, u.val % 2 ≠ r → g u = 0) :
    ∑ u, g u = g (Fin.ofNat 4 (2 + r)) + g (Fin.ofNat 4 r) := by
  rw [Fin.sum_univ_four]
  interval_cases r
  · rw [h0 1 (by decide), h0 3 (by decide), add_zero, add_zero]
    exact add_comm _ _
  · rw [h0 0 (by decide), h0 2 (by decide), add_zero, zero_add]
    exact add_comm _ _

theorem rev_far (r : ℕ) (hr : r < 2) : (Fin.ofNat 4 (2 + r)).rev = Fin.ofNat 4 (1 - r + 2 * 0) := by
  interval_cases r <;> decide

theorem rev_near (r : ℕ) (hr : r < 2) : (Fin.ofNat 4 r).rev = Fin.ofNat 4 (1 - r + 2 * 1) := by
  interval_cases r <;> decide

/-- One of the four products that make a pixel of the transposed convolution. -/
def tapSum {O C n : ℕ} (x : Img C n) (w : Filt C O) (b : Fin 2) (o : Fin O) (Y X i j : ℕ) : EReal :=
  ∑ c : Fin C, cell x b c (Y / 2 + Y % 2) i (X / 2 + X % 2) j * w c o (Fin.ofNat 4 (1 - Y % 2 + 2 * i)) (Fin.ofNat 4 (1 - X % 2 + 2 * j))

/-- A pixel of the transposed convolution is the sum of four products. -/
theorem up_eq {O C n m : ℕ} (x : Img C n) (w : Filt C O) (bias : Fin O → EReal) (b : Fin 2) (o : Fin O) (Y X : Fin m) :
    up x w bias b o Y X = (tapSum x w b o Y X 0 0 + tapSum x w b o Y X 0 1 + tapSum x w b o Y X 1 0 + tapSum x w b o Y X 1 1) + bias o := by
  have hY : Y.val % 2 < 2 := Nat.mod_lt _ (by decide)
  have hX : X.val % 2 < 2 := Nat.mod_lt _ (by decide)
  refine congrArg (· + bias o) ?_
  unfold tapSum
  rw [← Finset.sum_add_distrib, ← Finset.sum_add_distrib, ← Finset.sum_add_distrib]
  refine Finset.sum_congr rfl fun c _ => ?_
  have hcol : ∀ u : Fin 4, ∑ v : Fin 4, w c o u.rev v.rev * dil x b c (Y.val + u.val) (X.val + v.val)
      = w c o u.rev (Fin.ofNat 4 (2 + X.val % 2)).rev * dil x b c (Y.val + u.val) (X.val + (Fin.ofNat 4 (2 + X.val % 2)).val)
        + w c o u.rev (Fin.ofNat 4 (X.val % 2)).rev * dil x b c (Y.val + u.val) (X.val + (Fin.ofNat 4 (X.val % 2)).val) := by
    intro u
    refine sum_parity (X.val % 2) hX (fun v => w c o u.rev v.rev * dil x b c (Y.val + u.val) (X.val + v.val)) fun v hv => ?_
    show w c o u.rev v.rev * dil x b c (Y.val + u.val) (X.val + v.val) = 0
    rw [dil_odd_col x b c _ _ (by omega), mul_zero]
  simp only [hcol]
  refine (sum_parity (Y.val % 2) hY _ fun u hu => ?_).trans ?_
  · rw [dil_odd_row x b c _ _ (by omega), dil_odd_row x b c _ _ (by omega), mul_zero, mul_zero, add_zero]
  · have ef : (Fin.ofNat 4 (2 + X.val % 2)).val = 2 + X.val % 2 := Nat.mod_eq_of_lt (by omega)
    have en : (Fin.ofNat 4 (X.val % 2)).val = X.val % 2 := Nat.mod_eq_of_lt (by omega)
    have ef' : (Fin.ofNat 4 (2 + Y.val % 2)).val = 2 + Y.val % 2 := Nat.mod_eq_of_lt (by omega)
    have en' : (Fin.ofNat 4 (Y.val % 2)).val = Y.val % 2 := Nat.mod_eq_of_lt (by omega)
    rw [ef, en, ef', en', rev_far _ hX, rev_near _ hX, rev_far _ hY, rev_near _ hY,
      dil_cell x b c (Y.val + (2 + Y.val % 2)) (X.val + (2 + X.val % 2)) (Y.val / 2 + Y.val % 2) 0 (X.val / 2 + X.val % 2) 0 (by omega) (by omega),
      dil_cell x b c (Y.val + (2 + Y.val % 2)) (X.val + X.val % 2) (Y.val / 2 + Y.val % 2) 0 (X.val / 2 + X.val % 2) 1 (by omega) (by omega),
      dil_cell x b c (Y.val + Y.val % 2) (X.val + (2 + X.val % 2)) (Y.val / 2 + Y.val % 2) 1 (X.val / 2 + X.val % 2) 0 (by omega) (by omega),
      dil_cell x b c (Y.val + Y.val % 2) (X.val + X.val % 2) (Y.val / 2 + Y.val % 2) 1 (X.val / 2 + X.val % 2) 1 (by omega) (by omega)]
    rw [← add_assoc, mul_comm (w c o _ _), mul_comm (w c o _ _), mul_comm (w c o _ _), mul_comm (w c o _ _)]

/-- A product of the kernel's first transposed convolution. -/
theorem tm_eq (q : Img 64 128) (qp : S2x17160x64.Idx → EReal) (w : S64x1024.Idx → EReal) (f : Filt 64 64)
    (hq : ∀ (b : Fin 2) (Y : Fin 132) (X : Fin 130) (k : Fin 64), qp (ix3 b ⟨Y.val * 130 + X.val, by omega⟩ k)
      = if h : (2 ≤ Y.val ∧ Y.val - 2 < 128) ∧ X.val < 128 then q b k ⟨Y.val - 2, h.1.2⟩ ⟨X.val, h.2⟩ else 0)
    (hw : ∀ (k : Fin 64) (n : Fin 1024), w (ix2 k n) = f k ⟨n.val % 64, by omega⟩ ⟨n.val / 256, by omega⟩ ⟨n.val / 64 % 4, by omega⟩)
    (b : Fin 2) (o : Fin 64) (Y X : Fin 256) (i j : ℕ) (hi : i < 2) (hj : j < 2) :
    tm qp w b (Y.val / 2 * 130 + X.val / 2) (Y.val % 2) (X.val % 2) i j o = tapSum q f b o Y X i j := by
  have hr : Y.val % 2 < 2 := Nat.mod_lt _ (by decide)
  have hs : X.val % 2 < 2 := Nat.mod_lt _ (by decide)
  unfold tm tapSum
  refine Finset.sum_congr rfl fun k _ => ?_
  refine congrArg₂ (· * ·) ?_ ?_
  · unfold cell
    by_cases hc : j ≤ X.val / 2 + X.val % 2
    · have e := hq b ⟨Y.val / 2 + 2 + Y.val % 2 - i, by omega⟩ ⟨X.val / 2 + X.val % 2 - j, by omega⟩ k
      refine Eq.trans (congrArg qp (ix3_congr rfl ?_ rfl)) (e.trans ?_)
      · show (Y.val / 2 * 130 + X.val / 2 + ((2 + Y.val % 2 - i) * 130 + X.val % 2 - j)) % 17160 = (Y.val / 2 + 2 + Y.val % 2 - i) * 130 + (X.val / 2 + X.val % 2 - j)
        have : (Y.val / 2 + 2 + Y.val % 2 - i) * 130 = Y.val / 2 * 130 + (2 + Y.val % 2 - i) * 130 := by omega
        omega
      · by_cases h : (i ≤ Y.val / 2 + Y.val % 2 ∧ Y.val / 2 + Y.val % 2 - i < 128) ∧ (j ≤ X.val / 2 + X.val % 2 ∧ X.val / 2 + X.val % 2 - j < 128)
        · have h' : (2 ≤ Y.val / 2 + 2 + Y.val % 2 - i ∧ Y.val / 2 + 2 + Y.val % 2 - i - 2 < 128) ∧ X.val / 2 + X.val % 2 - j < 128 := by omega
          refine (dif_pos h').trans (Eq.trans ?_ (dif_pos h).symm)
          have e1 : (⟨Y.val / 2 + 2 + Y.val % 2 - i - 2, h'.1.2⟩ : Fin 128) = ⟨Y.val / 2 + Y.val % 2 - i, h.1.2⟩ := Fin.ext (by dsimp only; omega)
          exact congrArg (fun t => q b k t _) e1
        · have h' : ¬((2 ≤ Y.val / 2 + 2 + Y.val % 2 - i ∧ Y.val / 2 + 2 + Y.val % 2 - i - 2 < 128) ∧ X.val / 2 + X.val % 2 - j < 128) := by omega
          refine (dif_neg h').trans (Eq.trans ?_ (dif_neg h).symm)
          rfl
    · have e := hq b ⟨Y.val / 2 + 1 + Y.val % 2 - i, by omega⟩ ⟨129, by omega⟩ k
      refine Eq.trans (congrArg qp (ix3_congr rfl ?_ rfl)) (e.trans ?_)
      · show (Y.val / 2 * 130 + X.val / 2 + ((2 + Y.val % 2 - i) * 130 + X.val % 2 - j)) % 17160 = (Y.val / 2 + 1 + Y.val % 2 - i) * 130 + 129
        omega
      · have h' : ¬((2 ≤ Y.val / 2 + 1 + Y.val % 2 - i ∧ Y.val / 2 + 1 + Y.val % 2 - i - 2 < 128) ∧ 129 < 128) := by omega
        refine (dif_neg h').trans (Eq.trans ?_ (dif_neg (by omega)).symm)
        rfl
  · refine (hw k _).trans ?_
    have hn : (Fin.ofNat 1024 (((1 - Y.val % 2 + 2 * i) * 4 + (1 - X.val % 2 + 2 * j)) * 64 + o.val)).val
        = ((1 - Y.val % 2 + 2 * i) * 4 + (1 - X.val % 2 + 2 * j)) * 64 + o.val := Nat.mod_eq_of_lt (by omega)
    generalize Fin.ofNat 1024 (((1 - Y.val % 2 + 2 * i) * 4 + (1 - X.val % 2 + 2 * j)) * 64 + o.val) = n at hn
    have e1 : (⟨n.val % 64, by omega⟩ : Fin 64) = o := Fin.ext (by show n.val % 64 = o.val; omega)
    have e2 : (⟨n.val / 256, by omega⟩ : Fin 4) = Fin.ofNat 4 (1 - Y.val % 2 + 2 * i) := Fin.ext (by show n.val / 256 = (1 - Y.val % 2 + 2 * i) % 4; omega)
    have e3 : (⟨n.val / 64 % 4, by omega⟩ : Fin 4) = Fin.ofNat 4 (1 - X.val % 2 + 2 * j) := Fin.ext (by show n.val / 64 % 4 = (1 - X.val % 2 + 2 * j) % 4; omega)
    rw [e1, e2, e3]

/-- The kernel's first transposed convolution, laid out by rows with its border. -/
theorem dec1_pixel (q : Img 64 128) (qp : S2x17160x64.Idx → EReal) (w : S64x1024.Idx → EReal) (f : Filt 64 64) (b3 : S1x64.Idx → EReal) (bias : Fin 64 → EReal)
    (hq : ∀ (b : Fin 2) (Y : Fin 132) (X : Fin 130) (k : Fin 64), qp (ix3 b ⟨Y.val * 130 + X.val, by omega⟩ k)
      = if h : (2 ≤ Y.val ∧ Y.val - 2 < 128) ∧ X.val < 128 then q b k ⟨Y.val - 2, h.1.2⟩ ⟨X.val, h.2⟩ else 0)
    (hw : ∀ (k : Fin 64) (n : Fin 1024), w (ix2 k n) = f k ⟨n.val % 64, by omega⟩ ⟨n.val / 256, by omega⟩ ⟨n.val / 64 % 4, by omega⟩)
    (hb : ∀ o, b3 (ix2 0 o) = bias o) (b : Fin 2) (Y : Fin 320) (X : Fin 258) (o : Fin 64) :
    G3 qp w b3 (ix3 b ⟨Y.val * 258 + X.val, by omega⟩ o)
      = if h : (32 ≤ Y.val ∧ Y.val - 32 < 256) ∧ (1 ≤ X.val ∧ X.val - 1 < 256) then
          relu (up (m := 256) q f bias) b o ⟨Y.val - 32, h.1.2⟩ ⟨X.val - 1, h.2.2⟩ else 0 := by
  have h1 : (Y.val * 258 + X.val) / 258 = Y.val := by omega
  have h2 : (Y.val * 258 + X.val) % 258 = X.val := by omega
  have key : ∀ p : Fin 82560, p.val / 258 = Y.val → p.val % 258 = X.val → G3 qp w b3 (ix3 b p o)
      = if 32 ≤ Y.val ∧ Y.val < 288 ∧ 1 ≤ X.val ∧ X.val ≤ 256 then
          max (tm qp w b ((Y.val - 32) / 2 * 130 + (X.val - 1) / 2) (Y.val % 2) ((X.val - 1) % 2) 0 0 o
            + tm qp w b ((Y.val - 32) / 2 * 130 + (X.val - 1) / 2) (Y.val % 2) ((X.val - 1) % 2) 0 1 o
            + tm qp w b ((Y.val - 32) / 2 * 130 + (X.val - 1) / 2) (Y.val % 2) ((X.val - 1) % 2) 1 0 o
            + tm qp w b ((Y.val - 32) / 2 * 130 + (X.val - 1) / 2) (Y.val % 2) ((X.val - 1) % 2) 1 1 o
            + b3 (ix2 0 o)) 0 else 0 := by
    intro p e1 e2
    rw [← e1, ← e2]
    rfl
  refine (key _ h1 h2).trans ?_
  by_cases h : (32 ≤ Y.val ∧ Y.val - 32 < 256) ∧ (1 ≤ X.val ∧ X.val - 1 < 256)
  · refine (if_pos (by omega)).trans (Eq.trans ?_ (dif_pos h).symm)
    refine congrArg (max · (0 : EReal)) ?_
    refine Eq.trans ?_ (up_eq q f bias b o ⟨Y.val - 32, h.1.2⟩ ⟨X.val - 1, h.2.2⟩).symm
    have hp : Y.val % 2 = (Y.val - 32) % 2 := by omega
    rw [hp, hb]
    have t := fun i j hi hj => tm_eq q qp w f hq hw b o ⟨Y.val - 32, h.1.2⟩ ⟨X.val - 1, h.2.2⟩ i j hi hj
    dsimp only at t ⊢
    rw [t 0 0 (by decide) (by decide), t 0 1 (by decide) (by decide), t 1 0 (by decide) (by decide), t 1 1 (by decide) (by decide)]
  · refine (if_neg (by omega)).trans (Eq.trans ?_ (dif_neg h).symm)
    rfl

/-- The last filters by neighbour and place in the two by two patch. -/
def w9 (f : Filt 64 3) (g : Fin 9) (bb : Fin 4) (c : Fin 64) (o : Fin 8) : EReal :=
  if h : o.val < 3 ∧ (2 * (g.val / 3) ≤ bb.val / 2 + 3 ∧ bb.val / 2 ≤ 2 * (g.val / 3)) ∧ (2 * (g.val % 3) ≤ bb.val % 2 + 3 ∧ bb.val % 2 ≤ 2 * (g.val % 3)) then
    f c ⟨o.val, h.1⟩ (Fin.ofNat 4 (bb.val / 2 + 3 - 2 * (g.val / 3))) (Fin.ofNat 4 (bb.val % 2 + 3 - 2 * (g.val % 3))) else 0

/-- The row of the last filters met by one of the four products. -/
def rowOf4 (r s : Fin 2) (t : Fin 2 × Fin 2 × Fin 64) : Fin 576 :=
  ⟨((r.val + 1 - t.1.val) * 3 + (s.val + 1 - t.2.1.val)) * 64 + t.2.2.val, by omega⟩

theorem rowOf4_injective (r s : Fin 2) : Function.Injective (rowOf4 r s) := by
  rintro ⟨i, j, c⟩ ⟨i', j', c'⟩ h
  have h' : ((r.val + 1 - i.val) * 3 + (s.val + 1 - j.val)) * 64 + c.val = ((r.val + 1 - i'.val) * 3 + (s.val + 1 - j'.val)) * 64 + c'.val := congrArg Fin.val h
  have hc : c = c' := Fin.ext (by omega)
  have hi : i = i' := Fin.ext (by omega)
  have hj : j = j' := Fin.ext (by omega)
  rw [hc, hi, hj]

/-- The sum over the 576 rows is the sum of the four products. -/
theorem sum_rows4 (r s : Fin 2) (F : Fin 576 → EReal) (T : Fin 2 → Fin 2 → Fin 64 → EReal) (h0 : ∀ k, (∀ t, rowOf4 r s t ≠ k) → F k = 0)
    (h : ∀ t : Fin 2 × Fin 2 × Fin 64, T t.1 t.2.1 t.2.2 = F (rowOf4 r s t)) :
    ∑ k, F k = (∑ c, T 0 0 c) + (∑ c, T 0 1 c) + (∑ c, T 1 0 c) + ∑ c, T 1 1 c := by
  have e1 : (∑ c, T 0 0 c) + (∑ c, T 0 1 c) + (∑ c, T 1 0 c) + ∑ c, T 1 1 c = ∑ t : Fin 2 × Fin 2 × Fin 64, T t.1 t.2.1 t.2.2 := by
    rw [Fintype.sum_prod_type]
    simp only [Fintype.sum_prod_type, Fin.sum_univ_two]
    rw [add_assoc ((∑ c, T 0 0 c) + ∑ c, T 0 1 c)]
  rw [e1]
  exact (Fintype.sum_of_injective _ (rowOf4_injective r s) _ F (fun k hk => h0 k fun t ht => hk ⟨t, ht⟩) h).symm

/-- The kernel's last transposed convolution. -/
theorem dec2_pixel (x : Img 64 256) (hp : S2x82560x64.Idx → EReal) (w : S576x32.Idx → EReal) (f : Filt 64 3) (b4 : S1x32.Idx → EReal) (bias : Fin 3 → EReal)
    (hx : ∀ (b : Fin 2) (Y : Fin 320) (X : Fin 258) (c : Fin 64), hp (ix3 b ⟨Y.val * 258 + X.val, by omega⟩ c)
      = if h : (32 ≤ Y.val ∧ Y.val - 32 < 256) ∧ (1 ≤ X.val ∧ X.val - 1 < 256) then x b c ⟨Y.val - 32, h.1.2⟩ ⟨X.val - 1, h.2.2⟩ else 0)
    (hw : ∀ (g : Fin 9) (bb : Fin 4) (c : Fin 64) (o : Fin 8), w (ix2 ⟨g.val * 64 + c.val, by omega⟩ ⟨bb.val * 8 + o.val, by omega⟩) = w9 f g bb c o)
    (hb : ∀ (bb : Fin 4) (o : Fin 3), b4 (ix2 0 ⟨bb.val * 8 + o.val, by omega⟩) = bias o) (b : Fin 2) (o : Fin 3) (Y X : Fin 512) :
    G4 hp w b4 (ix4 b o Y X) = Ideal.tanh (up (m := 512) x f bias b o Y X) := by
  have hY : Y.val % 2 < 2 := Nat.mod_lt _ (by decide)
  have hX : X.val % 2 < 2 := Nat.mod_lt _ (by decide)
  have hw' : ∀ k : Fin 576, w (ix2 k ⟨(Y.val % 2 * 2 + X.val % 2) * 8 + o.val, by omega⟩)
      = w9 f ⟨k.val / 64, by omega⟩ ⟨Y.val % 2 * 2 + X.val % 2, by omega⟩ ⟨k.val % 64, by omega⟩ ⟨o.val, by omega⟩ := by
    intro k
    refine Eq.trans (congrArg w (ix2_congr ?_ rfl)) (hw ⟨k.val / 64, by omega⟩ ⟨Y.val % 2 * 2 + X.val % 2, by omega⟩ ⟨k.val % 64, by omega⟩ ⟨o.val, by omega⟩)
    dsimp only; omega
  refine congrArg Ideal.tanh ?_
  rw [up_eq]
  refine congrArg₂ (· + ·) ?_ (hb ⟨Y.val % 2 * 2 + X.val % 2, by omega⟩ o)
  refine sum_rows4 ⟨Y.val % 2, hY⟩ ⟨X.val % 2, hX⟩ _ (fun i j c => cell x b c (Y.val / 2 + Y.val % 2) i (X.val / 2 + X.val % 2) j
    * f c o (Fin.ofNat 4 (1 - Y.val % 2 + 2 * i.val)) (Fin.ofNat 4 (1 - X.val % 2 + 2 * j.val))) ?_ ?_
  · intro k hk
    refine (congrArg _ ((hw' k).trans (dif_neg ?_))).trans (mul_zero _)
    rintro ⟨_, hd, he⟩
    dsimp only at hd he
    refine hk (⟨Y.val % 2 + 1 - k.val / 64 / 3, by omega⟩, ⟨X.val % 2 + 1 - k.val / 64 % 3, by omega⟩, ⟨k.val % 64, by omega⟩) (Fin.ext ?_)
    show ((Y.val % 2 + 1 - (Y.val % 2 + 1 - k.val / 64 / 3)) * 3 + (X.val % 2 + 1 - (X.val % 2 + 1 - k.val / 64 % 3))) * 64 + k.val % 64 = k.val
    omega
  · rintro ⟨i, j, c⟩
    have hk : (rowOf4 ⟨Y.val % 2, hY⟩ ⟨X.val % 2, hX⟩ (i, j, c)).val = ((Y.val % 2 + 1 - i.val) * 3 + (X.val % 2 + 1 - j.val)) * 64 + c.val := rfl
    generalize rowOf4 ⟨Y.val % 2, hY⟩ ⟨X.val % 2, hX⟩ (i, j, c) = k at hk
    have hg : k.val / 64 = (Y.val % 2 + 1 - i.val) * 3 + (X.val % 2 + 1 - j.val) := by omega
    have hg3 : k.val / 64 / 3 = Y.val % 2 + 1 - i.val := by omega
    have hgm : k.val / 64 % 3 = X.val % 2 + 1 - j.val := by omega
    have hc : k.val % 64 = c.val := by omega
    refine congrArg₂ (· * ·) ?_ ?_
    · refine Eq.trans ?_ (Eq.trans (hx b ⟨Y.val / 2 + 31 + (Y.val % 2 + 1 - i.val), by omega⟩ ⟨X.val / 2 + (X.val % 2 + 1 - j.val), by omega⟩ c).symm (congrArg hp (ix3_congr rfl ?_ ?_)))
      · unfold cell
        by_cases h : (i.val ≤ Y.val / 2 + Y.val % 2 ∧ Y.val / 2 + Y.val % 2 - i.val < 256) ∧ (j.val ≤ X.val / 2 + X.val % 2 ∧ X.val / 2 + X.val % 2 - j.val < 256)
        · have h' : (32 ≤ Y.val / 2 + 31 + (Y.val % 2 + 1 - i.val) ∧ Y.val / 2 + 31 + (Y.val % 2 + 1 - i.val) - 32 < 256)
              ∧ (1 ≤ X.val / 2 + (X.val % 2 + 1 - j.val) ∧ X.val / 2 + (X.val % 2 + 1 - j.val) - 1 < 256) := by omega
          refine (dif_pos h).trans (Eq.trans ?_ (dif_pos h').symm)
          have e1 : (⟨Y.val / 2 + Y.val % 2 - i.val, h.1.2⟩ : Fin 256) = ⟨Y.val / 2 + 31 + (Y.val % 2 + 1 - i.val) - 32, h'.1.2⟩ := Fin.ext (by dsimp only; omega)
          have e2 : (⟨X.val / 2 + X.val % 2 - j.val, h.2.2⟩ : Fin 256) = ⟨X.val / 2 + (X.val % 2 + 1 - j.val) - 1, h'.2.2⟩ := Fin.ext (by dsimp only; omega)
          exact congrArg₂ (x b c) e1 e2
        · have h' : ¬((32 ≤ Y.val / 2 + 31 + (Y.val % 2 + 1 - i.val) ∧ Y.val / 2 + 31 + (Y.val % 2 + 1 - i.val) - 32 < 256)
              ∧ (1 ≤ X.val / 2 + (X.val % 2 + 1 - j.val) ∧ X.val / 2 + (X.val % 2 + 1 - j.val) - 1 < 256)) := by omega
          refine (dif_neg h).trans (Eq.trans ?_ (dif_neg h').symm)
          rfl
      · show (Y.val / 2 + 31 + (Y.val % 2 + 1 - i.val)) * 258 + (X.val / 2 + (X.val % 2 + 1 - j.val)) = (Y.val / 2 + 31 + k.val / 64 / 3) * 258 + (X.val / 2 + k.val / 64 % 3)
        rw [hg3, hgm]
      · exact hc.symm
    · refine Eq.trans ?_ (hw' k).symm
      have hh : o.val < 3 ∧ (2 * (k.val / 64 / 3) ≤ (Y.val % 2 * 2 + X.val % 2) / 2 + 3 ∧ (Y.val % 2 * 2 + X.val % 2) / 2 ≤ 2 * (k.val / 64 / 3))
          ∧ (2 * (k.val / 64 % 3) ≤ (Y.val % 2 * 2 + X.val % 2) % 2 + 3 ∧ (Y.val % 2 * 2 + X.val % 2) % 2 ≤ 2 * (k.val / 64 % 3)) := by omega
      refine Eq.trans ?_ (dif_pos hh).symm
      have ec : (⟨k.val % 64, by omega⟩ : Fin 64) = c := Fin.ext hc
      have ed : (Y.val % 2 * 2 + X.val % 2) / 2 + 3 - 2 * (k.val / 64 / 3) = 1 - Y.val % 2 + 2 * i.val := by omega
      have ee : (Y.val % 2 * 2 + X.val % 2) % 2 + 3 - 2 * (k.val / 64 % 3) = 1 - X.val % 2 + 2 * j.val := by omega
      dsimp only
      rw [ec, ed, ee]

end Cert.KernelIdeal.Layer
end
-- ==== Proof.KerDec.lean ====
/- The decoder, from the image of the codes to the kernel's first result. -/
module

public import proofs.«01_k».proof.Proof.KerEnc
public import proofs.«01_k».proof.Proof.KerVq
public import proofs.«01_k».proof.Proof.Region3
public import proofs.«01_k».proof.Proof.Region4
public import proofs.«01_k».proof.Proof.Host4a
public import proofs.«01_k».proof.Proof.Host4b
public import proofs.«01_k».proof.Proof.Host4c
public import proofs.«01_k».proof.Proof.Host4d
public import proofs.«01_k».proof.Proof.MathDec

@[expose] public section

set_option maxRecDepth 16384

noncomputable section

namespace Cert.KernelIdeal.Layer

open Cert.KernelIdeal Cert.KernelIdeal.Gen Cert.Conv Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The third layer's filters. -/
abbrev f3K : Filt 64 64 := im4 (val S64x64x4x4 (m ((c : Thread nD τ).loc main_arg6)))
/-- The third layer's biases. -/
abbrev b3K : Fin 64 → EReal := im1 (val S64 (m ((c : Thread nD τ).loc main_arg7)))
/-- The last layer's filters. -/
abbrev f4K : Filt 64 3 := im4 (val S64x3x4x4 (m ((c : Thread nD τ).loc main_arg8)))
/-- The last layer's biases. -/
abbrev b4K : Fin 3 → EReal := im1 (val S3 (m ((c : Thread nD τ).loc main_arg9)))

/-- A block that holds a tap of the last layer's filters. -/
theorem w9_some (f : Filt 64 3) (g : Fin 9) (bb : Fin 4) (r : Fin 64) (o : Fin 8) (kh kw : Fin 4)
    (h1 : 2 * (g.val / 3) ≤ bb.val / 2 + 3 ∧ bb.val / 2 ≤ 2 * (g.val / 3)) (h2 : 2 * (g.val % 3) ≤ bb.val % 2 + 3 ∧ bb.val % 2 ≤ 2 * (g.val % 3))
    (e1 : Fin.ofNat 4 (bb.val / 2 + 3 - 2 * (g.val / 3)) = kh) (e2 : Fin.ofNat 4 (bb.val % 2 + 3 - 2 * (g.val % 3)) = kw) :
    (if h : o.val < 3 then f r ⟨o.val, h⟩ kh kw else 0) = w9 f g bb r o := by
  unfold w9
  by_cases ho : o.val < 3
  · rw [dif_pos ho, dif_pos ⟨ho, h1, h2⟩, e1, e2]
  · rw [dif_neg ho, dif_neg fun h => ho h.1]

/-- A block that holds no tap. -/
theorem w9_none (f : Filt 64 3) (g : Fin 9) (bb : Fin 4) (r : Fin 64) (o : Fin 8)
    (h : ¬((2 * (g.val / 3) ≤ bb.val / 2 + 3 ∧ bb.val / 2 ≤ 2 * (g.val / 3)) ∧ (2 * (g.val % 3) ≤ bb.val % 2 + 3 ∧ bb.val % 2 ≤ 2 * (g.val % 3)))) :
    0 = w9 f g bb r o := by
  unfold w9
  rw [dif_neg fun h' => h h'.2]

/-! Which buffer holds each block. -/

theorem block_0_0 (V : Valuation τ sig (Elt Ideal)) : blockOf V 0 0 = val S64x8 (V (Proc.devRef .tc main_v69)) := rfl
theorem block_0_1 (V : Valuation τ sig (Elt Ideal)) : blockOf V 0 1 = val S64x8 (V (Proc.devRef .tc main_v70)) := rfl
theorem block_0_2 (V : Valuation τ sig (Elt Ideal)) : blockOf V 0 2 = val S64x8 (V (Proc.devRef .tc main_v71)) := rfl
theorem block_0_3 (V : Valuation τ sig (Elt Ideal)) : blockOf V 0 3 = val S64x8 (V (Proc.devRef .tc main_v72)) := rfl
theorem block_1_0 (V : Valuation τ sig (Elt Ideal)) : blockOf V 1 0 = val S64x8 (V (Proc.devRef .tc main_v75)) := rfl
theorem block_1_1 (V : Valuation τ sig (Elt Ideal)) : blockOf V 1 1 = val S64x8 (V (Proc.devRef .tc main_v78)) := rfl
theorem block_1_2 (V : Valuation τ sig (Elt Ideal)) : blockOf V 1 2 = val S64x8 (V (Proc.devRef .tc main_v79)) := rfl
theorem block_1_3 (V : Valuation τ sig (Elt Ideal)) : blockOf V 1 3 = val S64x8 (V (Proc.devRef .tc main_v80)) := rfl
theorem block_2_0 (V : Valuation τ sig (Elt Ideal)) : blockOf V 2 0 = val S64x8 (V (Proc.devRef .tc main_v81)) := rfl
theorem block_2_1 (V : Valuation τ sig (Elt Ideal)) : blockOf V 2 1 = val S64x8 (V (Proc.devRef .tc main_v84)) := rfl
theorem block_2_2 (V : Valuation τ sig (Elt Ideal)) : blockOf V 2 2 = val S64x8 (V (Proc.devRef .tc main_v85)) := rfl
theorem block_2_3 (V : Valuation τ sig (Elt Ideal)) : blockOf V 2 3 = val S64x8 (V (Proc.devRef .tc main_v86)) := rfl
theorem block_3_0 (V : Valuation τ sig (Elt Ideal)) : blockOf V 3 0 = val S64x8 (V (Proc.devRef .tc main_v89)) := rfl
theorem block_3_1 (V : Valuation τ sig (Elt Ideal)) : blockOf V 3 1 = val S64x8 (V (Proc.devRef .tc main_v90)) := rfl
theorem block_3_2 (V : Valuation τ sig (Elt Ideal)) : blockOf V 3 2 = val S64x8 (V (Proc.devRef .tc main_v93)) := rfl
theorem block_3_3 (V : Valuation τ sig (Elt Ideal)) : blockOf V 3 3 = val S64x8 (V (Proc.devRef .tc main_v94)) := rfl
theorem block_4_0 (V : Valuation τ sig (Elt Ideal)) : blockOf V 4 0 = val S64x8 (V (Proc.devRef .tc main_v97)) := rfl
theorem block_4_1 (V : Valuation τ sig (Elt Ideal)) : blockOf V 4 1 = val S64x8 (V (Proc.devRef .tc main_v100)) := rfl
theorem block_4_2 (V : Valuation τ sig (Elt Ideal)) : blockOf V 4 2 = val S64x8 (V (Proc.devRef .tc main_v103)) := rfl
theorem block_4_3 (V : Valuation τ sig (Elt Ideal)) : blockOf V 4 3 = val S64x8 (V (Proc.devRef .tc main_v106)) := rfl
theorem block_5_0 (V : Valuation τ sig (Elt Ideal)) : blockOf V 5 0 = val S64x8 (V (Proc.devRef .tc main_v107)) := rfl
theorem block_5_1 (V : Valuation τ sig (Elt Ideal)) : blockOf V 5 1 = val S64x8 (V (Proc.devRef .tc main_v110)) := rfl
theorem block_5_2 (V : Valuation τ sig (Elt Ideal)) : blockOf V 5 2 = val S64x8 (V (Proc.devRef .tc main_v111)) := rfl
theorem block_5_3 (V : Valuation τ sig (Elt Ideal)) : blockOf V 5 3 = val S64x8 (V (Proc.devRef .tc main_v114)) := rfl
theorem block_6_0 (V : Valuation τ sig (Elt Ideal)) : blockOf V 6 0 = val S64x8 (V (Proc.devRef .tc main_v115)) := rfl
theorem block_6_1 (V : Valuation τ sig (Elt Ideal)) : blockOf V 6 1 = val S64x8 (V (Proc.devRef .tc main_v116)) := rfl
theorem block_6_2 (V : Valuation τ sig (Elt Ideal)) : blockOf V 6 2 = val S64x8 (V (Proc.devRef .tc main_v119)) := rfl
theorem block_6_3 (V : Valuation τ sig (Elt Ideal)) : blockOf V 6 3 = val S64x8 (V (Proc.devRef .tc main_v120)) := rfl
theorem block_7_0 (V : Valuation τ sig (Elt Ideal)) : blockOf V 7 0 = val S64x8 (V (Proc.devRef .tc main_v121)) := rfl
theorem block_7_1 (V : Valuation τ sig (Elt Ideal)) : blockOf V 7 1 = val S64x8 (V (Proc.devRef .tc main_v122)) := rfl
theorem block_7_2 (V : Valuation τ sig (Elt Ideal)) : blockOf V 7 2 = val S64x8 (V (Proc.devRef .tc main_v125)) := rfl
theorem block_7_3 (V : Valuation τ sig (Elt Ideal)) : blockOf V 7 3 = val S64x8 (V (Proc.devRef .tc main_v128)) := rfl
theorem block_8_0 (V : Valuation τ sig (Elt Ideal)) : blockOf V 8 0 = val S64x8 (V (Proc.devRef .tc main_v129)) := rfl
theorem block_8_1 (V : Valuation τ sig (Elt Ideal)) : blockOf V 8 1 = val S64x8 (V (Proc.devRef .tc main_v130)) := rfl
theorem block_8_2 (V : Valuation τ sig (Elt Ideal)) : blockOf V 8 2 = val S64x8 (V (Proc.devRef .tc main_v131)) := rfl
theorem block_8_3 (V : Valuation τ sig (Elt Ideal)) : blockOf V 8 3 = val S64x8 (V (Proc.devRef .tc main_v134)) := rfl

set_option maxHeartbeats 1000000 in
/-- The blocks of the last call's filters. -/
theorem blocks_at (V : Valuation τ sig (Elt Ideal)) (g : Fin 9) (bb : Fin 4) (r : Fin 64) (o : Fin 8) :
    blockOf (blocks V) g bb (ix2 r o) = w9 (im4 (val S64x3x4x4 (V (Proc.devRef .tc main_arg8)))) g bb r o := by
  obtain ⟨g, hg⟩ := g
  obtain ⟨bb, hbb⟩ := bb
  interval_cases g <;> interval_cases bb
  · exact (congrFun (block_0_0 (blocks V)) (ix2 r o)).trans ((blk_0_0 V r o).trans (w9_some (im4 (val S64x3x4x4 (V (Proc.devRef .tc main_arg8)))) 0 0 r o 3 3 (by decide) (by decide) rfl rfl))
  · exact (congrFun (block_0_1 (blocks V)) (ix2 r o)).trans ((blk_0_1 V r o).trans (w9_none (im4 (val S64x3x4x4 (V (Proc.devRef .tc main_arg8)))) 0 1 r o (by decide)))
  · exact (congrFun (block_0_2 (blocks V)) (ix2 r o)).trans ((blk_0_2 V r o).trans (w9_none (im4 (val S64x3x4x4 (V (Proc.devRef .tc main_arg8)))) 0 2 r o (by decide)))
  · exact (congrFun (block_0_3 (blocks V)) (ix2 r o)).trans ((blk_0_3 V r o).trans (w9_none (im4 (val S64x3x4x4 (V (Proc.devRef .tc main_arg8)))) 0 3 r o (by decide)))
  · exact (congrFun (block_1_0 (blocks V)) (ix2 r o)).trans ((blk_1_0 V r o).trans (w9_some (im4 (val S64x3x4x4 (V (Proc.devRef .tc main_arg8)))) 1 0 r o 3 1 (by decide) (by decide) rfl rfl))
  · exact (congrFun (block_1_1 (blocks V)) (ix2 r o)).trans ((blk_1_1 V r o).trans (w9_some (im4 (val S64x3x4x4 (V (Proc.devRef .tc main_arg8)))) 1 1 r o 3 2 (by decide) (by decide) rfl rfl))
  · exact (congrFun (block_1_2 (blocks V)) (ix2 r o)).trans ((blk_1_2 V r o).trans (w9_none (im4 (val S64x3x4x4 (V (Proc.devRef .tc main_arg8)))) 1 2 r o (by decide)))
  · exact (congrFun (block_1_3 (blocks V)) (ix2 r o)).trans ((blk_1_3 V r o).trans (w9_none (im4 (val S64x3x4x4 (V (Proc.devRef .tc main_arg8)))) 1 3 r o (by decide)))
  · exact (congrFun (block_2_0 (blocks V)) (ix2 r o)).trans ((blk_2_0 V r o).trans (w9_none (im4 (val S64x3x4x4 (V (Proc.devRef .tc main_arg8)))) 2 0 r o (by decide)))
  · exact (congrFun (block_2_1 (blocks V)) (ix2 r o)).trans ((blk_2_1 V r o).trans (w9_some (im4 (val S64x3x4x4 (V (Proc.devRef .tc main_arg8)))) 2 1 r o 3 0 (by decide) (by decide) rfl rfl))
  · exact (congrFun (block_2_2 (blocks V)) (ix2 r o)).trans ((blk_2_2 V r o).trans (w9_none (im4 (val S64x3x4x4 (V (Proc.devRef .tc main_arg8)))) 2 2 r o (by decide)))
  · exact (congrFun (block_2_3 (blocks V)) (ix2 r o)).trans ((blk_2_3 V r o).trans (w9_none (im4 (val S64x3x4x4 (V (Proc.devRef .tc main_arg8)))) 2 3 r o (by decide)))
  · exact (congrFun (block_3_0 (blocks V)) (ix2 r o)).trans ((blk_3_0 V r o).trans (w9_some (im4 (val S64x3x4x4 (V (Proc.devRef .tc main_arg8)))) 3 0 r o 1 3 (by decide) (by decide) rfl rfl))
  · exact (congrFun (block_3_1 (blocks V)) (ix2 r o)).trans ((blk_3_1 V r o).trans (w9_none (im4 (val S64x3x4x4 (V (Proc.devRef .tc main_arg8)))) 3 1 r o (by decide)))
  · exact (congrFun (block_3_2 (blocks V)) (ix2 r o)).trans ((blk_3_2 V r o).trans (w9_some (im4 (val S64x3x4x4 (V (Proc.devRef .tc main_arg8)))) 3 2 r o 2 3 (by decide) (by decide) rfl rfl))
  · exact (congrFun (block_3_3 (blocks V)) (ix2 r o)).trans ((blk_3_3 V r o).trans (w9_none (im4 (val S64x3x4x4 (V (Proc.devRef .tc main_arg8)))) 3 3 r o (by decide)))
  · exact (congrFun (block_4_0 (blocks V)) (ix2 r o)).trans ((blk_4_0 V r o).trans (w9_some (im4 (val S64x3x4x4 (V (Proc.devRef .tc main_arg8)))) 4 0 r o 1 1 (by decide) (by decide) rfl rfl))
  · exact (congrFun (block_4_1 (blocks V)) (ix2 r o)).trans ((blk_4_1 V r o).trans (w9_some (im4 (val S64x3x4x4 (V (Proc.devRef .tc main_arg8)))) 4 1 r o 1 2 (by decide) (by decide) rfl rfl))
  · exact (congrFun (block_4_2 (blocks V)) (ix2 r o)).trans ((blk_4_2 V r o).trans (w9_some (im4 (val S64x3x4x4 (V (Proc.devRef .tc main_arg8)))) 4 2 r o 2 1 (by decide) (by decide) rfl rfl))
  · exact (congrFun (block_4_3 (blocks V)) (ix2 r o)).trans ((blk_4_3 V r o).trans (w9_some (im4 (val S64x3x4x4 (V (Proc.devRef .tc main_arg8)))) 4 3 r o 2 2 (by decide) (by decide) rfl rfl))
  · exact (congrFun (block_5_0 (blocks V)) (ix2 r o)).trans ((blk_5_0 V r o).trans (w9_none (im4 (val S64x3x4x4 (V (Proc.devRef .tc main_arg8)))) 5 0 r o (by decide)))
  · exact (congrFun (block_5_1 (blocks V)) (ix2 r o)).trans ((blk_5_1 V r o).trans (w9_some (im4 (val S64x3x4x4 (V (Proc.devRef .tc main_arg8)))) 5 1 r o 1 0 (by decide) (by decide) rfl rfl))
  · exact (congrFun (block_5_2 (blocks V)) (ix2 r o)).trans ((blk_5_2 V r o).trans (w9_none (im4 (val S64x3x4x4 (V (Proc.devRef .tc main_arg8)))) 5 2 r o (by decide)))
  · exact (congrFun (block_5_3 (blocks V)) (ix2 r o)).trans ((blk_5_3 V r o).trans (w9_some (im4 (val S64x3x4x4 (V (Proc.devRef .tc main_arg8)))) 5 3 r o 2 0 (by decide) (by decide) rfl rfl))
  · exact (congrFun (block_6_0 (blocks V)) (ix2 r o)).trans ((blk_6_0 V r o).trans (w9_none (im4 (val S64x3x4x4 (V (Proc.devRef .tc main_arg8)))) 6 0 r o (by decide)))
  · exact (congrFun (block_6_1 (blocks V)) (ix2 r o)).trans ((blk_6_1 V r o).trans (w9_none (im4 (val S64x3x4x4 (V (Proc.devRef .tc main_arg8)))) 6 1 r o (by decide)))
  · exact (congrFun (block_6_2 (blocks V)) (ix2 r o)).trans ((blk_6_2 V r o).trans (w9_some (im4 (val S64x3x4x4 (V (Proc.devRef .tc main_arg8)))) 6 2 r o 0 3 (by decide) (by decide) rfl rfl))
  · exact (congrFun (block_6_3 (blocks V)) (ix2 r o)).trans ((blk_6_3 V r o).trans (w9_none (im4 (val S64x3x4x4 (V (Proc.devRef .tc main_arg8)))) 6 3 r o (by decide)))
  · exact (congrFun (block_7_0 (blocks V)) (ix2 r o)).trans ((blk_7_0 V r o).trans (w9_none (im4 (val S64x3x4x4 (V (Proc.devRef .tc main_arg8)))) 7 0 r o (by decide)))
  · exact (congrFun (block_7_1 (blocks V)) (ix2 r o)).trans ((blk_7_1 V r o).trans (w9_none (im4 (val S64x3x4x4 (V (Proc.devRef .tc main_arg8)))) 7 1 r o (by decide)))
  · exact (congrFun (block_7_2 (blocks V)) (ix2 r o)).trans ((blk_7_2 V r o).trans (w9_some (im4 (val S64x3x4x4 (V (Proc.devRef .tc main_arg8)))) 7 2 r o 0 1 (by decide) (by decide) rfl rfl))
  · exact (congrFun (block_7_3 (blocks V)) (ix2 r o)).trans ((blk_7_3 V r o).trans (w9_some (im4 (val S64x3x4x4 (V (Proc.devRef .tc main_arg8)))) 7 3 r o 0 2 (by decide) (by decide) rfl rfl))
  · exact (congrFun (block_8_0 (blocks V)) (ix2 r o)).trans ((blk_8_0 V r o).trans (w9_none (im4 (val S64x3x4x4 (V (Proc.devRef .tc main_arg8)))) 8 0 r o (by decide)))
  · exact (congrFun (block_8_1 (blocks V)) (ix2 r o)).trans ((blk_8_1 V r o).trans (w9_none (im4 (val S64x3x4x4 (V (Proc.devRef .tc main_arg8)))) 8 1 r o (by decide)))
  · exact (congrFun (block_8_2 (blocks V)) (ix2 r o)).trans ((blk_8_2 V r o).trans (w9_none (im4 (val S64x3x4x4 (V (Proc.devRef .tc main_arg8)))) 8 2 r o (by decide)))
  · exact (congrFun (block_8_3 (blocks V)) (ix2 r o)).trans ((blk_8_3 V r o).trans (w9_some (im4 (val S64x3x4x4 (V (Proc.devRef .tc main_arg8)))) 8 3 r o 0 0 (by decide) (by decide) rfl rfl))

/-- The last call's filters. -/
theorem filt4_at (g : Fin 9) (bb : Fin 4) (r : Fin 64) (o : Fin 8) :
    val S576x32 (W51 m ρ c (Proc.devRef .tc main_v145)) (ix2 ⟨g.val * 64 + r.val, by omega⟩ ⟨bb.val * 8 + o.val, by omega⟩) = w9 (f4K m c) g bb r o := by
  have h : W51 m ρ c (Proc.devRef .tc main_v145) = W49 m ρ c (Proc.devRef .tc main_v145) := (W51_of m ρ c main_v145 (by decide)).trans (W50_of m ρ c main_v145 (by decide))
  refine (congrFun h (ix2 ⟨g.val * 64 + r.val, by omega⟩ ⟨bb.val * 8 + o.val, by omega⟩)).trans ?_
  refine (cat_read (W48 m ρ c) g bb r o).trans ((blocks_at (W16 m ρ c) g bb r o).trans ?_)
  rw [W16_args m ρ c main_arg8 (by decide)]

/-- The last call's biases. -/
theorem bias4_at (bb : Fin 4) (o : Fin 3) : val S1x32 (W51 m ρ c (Proc.devRef .tc main_v150)) (ix2 0 ⟨bb.val * 8 + o.val, by omega⟩) = b4K m c o := by
  refine (bias4_read (W50 m ρ c) 0 ⟨bb.val * 8 + o.val, by omega⟩).trans ?_
  have e : (⟨(bb.val * 8 + o.val) % 8, by omega⟩ : Fin 8) = ⟨o.val, by omega⟩ := Fin.ext (by dsimp only; omega)
  refine (congrArg (fun k : Fin 8 => val S8 (W50 m ρ c (Proc.devRef .tc main_v146)) (ix1 k)) e).trans ?_
  refine (bias4_pad_read (W49 m ρ c) (zero49_read (W48 m ρ c)) ⟨o.val, by omega⟩).trans ?_
  rw [W49_args m ρ c main_arg9 (by decide)]
  exact dif_pos o.isLt

variable (hz : ∀ b o i j, IsReal (zK m c b o i j))
  (κ : Fin 2 → Fin 128 → Fin 128 → Fin 512) (hκ : ∀ b i j, FirstMin (Cert.Conv.dist (zK m c) (cK m c) b i j) (κ b i j))

include hz hκ in
/-- The third layer with its border, as the fourth call leaves it. -/
theorem layer3_at (b : Fin 2) (Y : Fin 320) (X : Fin 258) (o : Fin 64) :
    val S2x82560x64 (W51 m ρ c (Proc.devRef .tc main_v66)) (ix3 b ⟨Y.val * 258 + X.val, by omega⟩ o)
      = if h : (32 ≤ Y.val ∧ Y.val - 32 < 256) ∧ (1 ≤ X.val ∧ X.val - 1 < 256) then
          relu (up (m := 256) (qK m c κ) (f3K m c) (b3K m c)) b o ⟨Y.val - 32, h.1.2⟩ ⟨X.val - 1, h.2.2⟩ else 0 := by
  have hk : W51 m ρ c (Proc.devRef .tc main_v66) = W16 m ρ c (Proc.devRef .tc main_v66) := (W51_of m ρ c main_v66 (by decide)).trans <| (W50_of m ρ c main_v66 (by decide)).trans <| (W49_of m ρ c main_v66 (by decide)).trans <| (W48_of m ρ c main_v66 (by decide)).trans <| (W47_of m ρ c main_v66 (by decide)).trans <| (W46_of m ρ c main_v66 (by decide)).trans <| (W45_of m ρ c main_v66 (by decide)).trans <| (W44_of m ρ c main_v66 (by decide)).trans <| (W43_of m ρ c main_v66 (by decide)).trans <| (W42_of m ρ c main_v66 (by decide)).trans <| (W41_of m ρ c main_v66 (by decide)).trans <| (W40_of m ρ c main_v66 (by decide)).trans <| (W39_of m ρ c main_v66 (by decide)).trans <| (W38_of m ρ c main_v66 (by decide)).trans <| (W37_of m ρ c main_v66 (by decide)).trans <| (W36_of m ρ c main_v66 (by decide)).trans <| (W35_of m ρ c main_v66 (by decide)).trans <| (W34_of m ρ c main_v66 (by decide)).trans <| (W33_of m ρ c main_v66 (by decide)).trans <| (W32_of m ρ c main_v66 (by decide)).trans <| (W31_of m ρ c main_v66 (by decide)).trans <| (W30_of m ρ c main_v66 (by decide)).trans <| (W29_of m ρ c main_v66 (by decide)).trans <| (W28_of m ρ c main_v66 (by decide)).trans <| (W27_of m ρ c main_v66 (by decide)).trans <| (W26_of m ρ c main_v66 (by decide)).trans <| (W25_of m ρ c main_v66 (by decide)).trans <| (W24_of m ρ c main_v66 (by decide)).trans <| (W23_of m ρ c main_v66 (by decide)).trans <| (W22_of m ρ c main_v66 (by decide)).trans <| (W21_of m ρ c main_v66 (by decide)).trans <| (W20_of m ρ c main_v66 (by decide)).trans <| (W19_of m ρ c main_v66 (by decide)).trans <| (W18_of m ρ c main_v66 (by decide)).trans <| (W17_of m ρ c main_v66 (by decide))
  have h := hk.trans ((W16_arr m ρ c 3).trans (final3 (V15 m ρ) c))
  refine (congrFun h (ix3 b ⟨Y.val * 258 + X.val, by omega⟩ o)).trans ?_
  exact dec1_pixel (qK m c κ) _ _ (f3K m c) _ (b3K m c) (in3_at m ρ c hz κ hκ)
    (fun k n => (w3_read (W14 m ρ c) k n).trans (by rw [W14_args m ρ c main_arg6 (by decide)]))
    (fun o => (bias3_read (W14 m ρ c) 0 o).trans (by rw [W14_args m ρ c main_arg7 (by decide)])) b Y X o

include hz hκ in
/-- The first result: the decoded image. -/
theorem decoded_at (b : Fin 2) (o : Fin 3) (Y X : Fin 512) : val S2x3x512x512 (W52 m ρ c (Proc.devRef .tc main_v151)) (ix4 b o Y X)
    = Ideal.tanh (up (m := 512) (relu (up (m := 256) (qK m c κ) (f3K m c) (b3K m c))) (f4K m c) (b4K m c) b o Y X) := by
  have h := (W52_arr m ρ c 2).trans (final4 (V51 m ρ) c)
  refine (congrFun h (ix4 b o Y X)).trans ?_
  exact dec2_pixel _ _ _ (f4K m c) _ (b4K m c) (layer3_at m ρ c hz κ hκ) (filt4_at m ρ c) (bias4_at m ρ c) b o Y X

end Cert.KernelIdeal.Layer
end
-- ==== Proof.Agree.lean ====
/- The reference's results and the kernel's, from the same arguments. -/
module

public import proofs.«01_k».proof.Proof.RefValue
public import proofs.«01_k».proof.Proof.KerDec

@[expose] public section

set_option maxRecDepth 16384

noncomputable section

namespace Cert.ReferenceIdeal.Windows

open Cert.ReferenceIdeal Cert.ReferenceIdeal.Gen Idealize.ShloMosaic Idealize.ShloMosaic.StableHlo

/-- A buffer that no window writes is at the end what it was at launch. -/
theorem all_keep {F : FTy → Type} [FloatOps F] (V : Valuation τ sig (Elt F)) (r : Ref sig .tc)
    (h : r ∉ win0_W ∧ r ∉ win1_W ∧ r ∉ win2_W ∧ r ∉ win3_W ∧ r ∉ win4_W ∧ r ∉ win5_W ∧ r ∉ win6_W ∧ r ∉ win7_W ∧ r ∉ win8_W ∧ r ∉ win9_W ∧ r ∉ win10_W ∧ r ∉ win11_W ∧ r ∉ win12_W ∧ r ∉ win13_W ∧ r ∉ win14_W ∧ r ∉ win15_W ∧ r ∉ win16_W ∧ r ∉ win17_W ∧ r ∉ win18_W ∧ r ∉ win19_W) :
    buf20 V (Proc.devRef .tc r) = V (Proc.devRef .tc r) := by
  obtain ⟨h0, h1, h2, h3, h4, h5, h6, h7, h8, h9, h10, h11, h12, h13, h14, h15, h16, h17, h18, h19⟩ := h
  exact (win19_keep _ r h19).trans <| (win18_keep _ r h18).trans <| (win17_keep _ r h17).trans <| (win16_keep _ r h16).trans <| (win15_keep _ r h15).trans <| (win14_keep _ r h14).trans <| (win13_keep _ r h13).trans <| (win12_keep _ r h12).trans <| (win11_keep _ r h11).trans <| (win10_keep _ r h10).trans <| (win9_keep _ r h9).trans <| (win8_keep _ r h8).trans <| (win7_keep _ r h7).trans <| (win6_keep _ r h6).trans <| (win5_keep _ r h5).trans <| (win4_keep _ r h4).trans <| (win3_keep _ r h3).trans <| (win2_keep _ r h2).trans <| (win1_keep _ r h1).trans <| (win0_keep _ r h0)

end Cert.ReferenceIdeal.Windows

namespace Cert.KernelIdeal.Layer

open Cert.KernelIdeal Cert.KernelIdeal.Gen Cert.Conv Idealize.ShloMosaic Idealize.ShloMosaic.TcCoe Idealize.SL.Sem Idealize.ShloMosaic.StableHlo
open Cert.ReferenceIdeal.Windows (xR hR zR cR qR outR buf20 ref_value)

theorem one_f32 : Ideal.ofBits .f32 0x3F800000#32 = ((1 : ℝ) : EReal) := by
  simp [Ideal.ofBits, Ideal.ieee, -EReal.coe_mul]; norm_num

/-- The scaled input is real where the input is. -/
theorem norm_real (hr : (⟨4, ![2, 3, 512, 512]⟩ : Shape).ReducesTo [0, 1, 2, 3] ⟨0, ![]⟩) (h0 : 0 < (⟨0, ![]⟩ : Shape).numel)
    (hb : (⟨0, ![]⟩ : Shape).BroadcastsInDim ⟨4, ![2, 3, 512, 512]⟩ ![])
    (x : (⟨4, ![2, 3, 512, 512]⟩ : Shape).Idx → EReal) (hx : ∀ i, IsReal (x i)) (i : (⟨4, ![2, 3, 512, 512]⟩ : Shape).Idx) : IsReal (normArr hr h0 hb x i) := by
  have h2 : IsReal (x i * Ideal.ofBits .f32 0x40000000#32 - Ideal.ofBits .f32 0x3F800000#32) :=
    ((hx i).mul ⟨2, two_f32⟩).sub ⟨1, one_f32⟩
  unfold normArr select Scalar.select
  dsimp only
  split
  · exact h2
  · exact hx i

variable (m : (ℓ : Loc nD τ sig) → Buf (Elt Ideal) ℓ) (ρ : Dev nD → PrngReg) (c : Dev nD)

/-- The first layer is real where the arguments are. -/
theorem hK_real (r0 : ∀ i, IsReal (val S2x3x512x512 (m ((c : Thread nD τ).loc main_arg0)) i)) (r1 : ∀ i, IsReal (val S64x3x4x4 (m ((c : Thread nD τ).loc main_arg1)) i))
    (r2 : ∀ i, IsReal (val S64 (m ((c : Thread nD τ).loc main_arg2)) i)) (b : Fin 2) (o : Fin 64) (i j : Fin 256) : IsReal (hK m c b o i j) :=
  (down_real _ _ _ (fun b o i j => norm_real _ _ _ _ r0 _) (fun _ _ _ _ => r1 _) (fun _ => r2 _) b o i j).max IsReal.zero

/-- The encoded image is real where the arguments are. -/
theorem zK_real (r0 : ∀ i, IsReal (val S2x3x512x512 (m ((c : Thread nD τ).loc main_arg0)) i)) (r1 : ∀ i, IsReal (val S64x3x4x4 (m ((c : Thread nD τ).loc main_arg1)) i))
    (r2 : ∀ i, IsReal (val S64 (m ((c : Thread nD τ).loc main_arg2)) i)) (r3 : ∀ i, IsReal (val S64x64x4x4 (m ((c : Thread nD τ).loc main_arg3)) i))
    (r4 : ∀ i, IsReal (val S64 (m ((c : Thread nD τ).loc main_arg4)) i)) (b : Fin 2) (o : Fin 64) (i j : Fin 128) : IsReal (zK m c b o i j) :=
  down_real _ _ _ (hK_real m c r0 r1 r2) (fun _ _ _ _ => r3 _) (fun _ => r4 _) b o i j

variable (V : Valuation Cert.ReferenceIdeal.τ Cert.ReferenceIdeal.sig (Elt Ideal))
  (e0 : val S2x3x512x512 (V (Proc.devRef .tc Cert.ReferenceIdeal.main_arg0)) = val S2x3x512x512 (m ((c : Thread nD τ).loc main_arg0)))
  (e1 : val S64x3x4x4 (V (Proc.devRef .tc Cert.ReferenceIdeal.main_arg1)) = val S64x3x4x4 (m ((c : Thread nD τ).loc main_arg1)))
  (e2 : val S64 (V (Proc.devRef .tc Cert.ReferenceIdeal.main_arg2)) = val S64 (m ((c : Thread nD τ).loc main_arg2)))
  (e3 : val S64x64x4x4 (V (Proc.devRef .tc Cert.ReferenceIdeal.main_arg3)) = val S64x64x4x4 (m ((c : Thread nD τ).loc main_arg3)))
  (e4 : val S64 (V (Proc.devRef .tc Cert.ReferenceIdeal.main_arg4)) = val S64 (m ((c : Thread nD τ).loc main_arg4)))
  (e5 : val S512x64 (V (Proc.devRef .tc Cert.ReferenceIdeal.main_arg5)) = val S512x64 (m ((c : Thread nD τ).loc main_arg5)))
  (e6 : val S64x64x4x4 (V (Proc.devRef .tc Cert.ReferenceIdeal.main_arg6)) = val S64x64x4x4 (m ((c : Thread nD τ).loc main_arg6)))
  (e7 : val S64 (V (Proc.devRef .tc Cert.ReferenceIdeal.main_arg7)) = val S64 (m ((c : Thread nD τ).loc main_arg7)))
  (e8 : val S64x3x4x4 (V (Proc.devRef .tc Cert.ReferenceIdeal.main_arg8)) = val S64x3x4x4 (m ((c : Thread nD τ).loc main_arg8)))
  (e9 : val S3 (V (Proc.devRef .tc Cert.ReferenceIdeal.main_arg9)) = val S3 (m ((c : Thread nD τ).loc main_arg9)))

include e0 in
theorem x_eq : xR V = xK m c :=
  congrArg (fun a : S2x3x512x512.Idx → EReal => im4 (normArr reducesTo_S2x3x512x512_S_d0_1_2_3 h_S_ bcast_S_S2x3x512x512 a)) e0

include e0 e1 e2 in
theorem h_eq : hR V = hK m c := by
  unfold hR hK
  rw [x_eq m c V e0]
  exact congrArg₂ (fun (a : S64x3x4x4.Idx → EReal) (b : S64.Idx → EReal) => relu (down (xK m c) (im4 a) (im1 b))) e1 e2

include e0 e1 e2 e3 e4 in
theorem z_eq : zR V = zK m c := by
  unfold zR zK
  rw [h_eq m c V e0 e1 e2]
  exact congrArg₂ (fun (a : S64x64x4x4.Idx → EReal) (b : S64.Idx → EReal) => down (hK m c) (im4 a) (im1 b)) e3 e4

include e5 in
theorem c_eq : cR V = cK m c := congrArg (fun a : S512x64.Idx → EReal => im2 a) e5

include e6 e7 e8 e9 in
theorem out_eq (q : Img 64 128) (b : Fin 2) (o : Fin 3) (i j : Fin 512) : outR V q b o i j
    = Ideal.tanh (up (m := 512) (relu (up (m := 256) q (f3K m c) (b3K m c))) (f4K m c) (b4K m c) b o i j) := by
  have h := congrArg₂ (fun (a : S64x64x4x4.Idx → EReal) (b : S64.Idx → EReal) => relu (up (m := 256) q (im4 a) (im1 b))) e6 e7
  have h' := congrArg₂ (fun (a : S64x3x4x4.Idx → EReal) (a' : S3.Idx → EReal) => Ideal.tanh (up (m := 512) (relu (up (m := 256) q (f3K m c) (b3K m c))) (im4 a) (im1 a') b o i j)) e8 e9
  refine Eq.trans ?_ h'
  exact congrArg (fun r : Img 64 256 => Ideal.tanh (up (m := 512) r (im4 (val S64x3x4x4 (V (Proc.devRef .tc Cert.ReferenceIdeal.main_arg8)))) (im1 (val S3 (V (Proc.devRef .tc Cert.ReferenceIdeal.main_arg9)))) b o i j)) h

include e0 e1 e2 e3 e4 e5 e6 e7 e8 e9 in
/-- From equal arguments, the first five of them real, the three results of the reference are those of the kernel. -/
theorem agree (r0 : ∀ i, IsReal (val S2x3x512x512 (m ((c : Thread nD τ).loc main_arg0)) i)) (r1 : ∀ i, IsReal (val S64x3x4x4 (m ((c : Thread nD τ).loc main_arg1)) i))
    (r2 : ∀ i, IsReal (val S64 (m ((c : Thread nD τ).loc main_arg2)) i)) (r3 : ∀ i, IsReal (val S64x64x4x4 (m ((c : Thread nD τ).loc main_arg3)) i))
    (r4 : ∀ i, IsReal (val S64 (m ((c : Thread nD τ).loc main_arg4)) i)) :
    val S2x3x512x512 (buf20 V (Proc.devRef .tc Cert.ReferenceIdeal.main_v144)) = val S2x3x512x512 (W52 m ρ c (Proc.devRef .tc main_v151))
    ∧ wval S2x128x128 (buf20 V (Proc.devRef .tc Cert.ReferenceIdeal.main_v76)) = wval S2x128x128 (W52 m ρ c (Proc.devRef .tc main_v53))
    ∧ val S_ (buf20 V (Proc.devRef .tc Cert.ReferenceIdeal.main_v86)) = val S_ (W52 m ρ c (Proc.devRef .tc main_v58)) := by
  have hz := zK_real m c r0 r1 r2 r3 r4
  obtain ⟨κ, hκ, hp, hl, ho⟩ := ref_value V
  have hq : qR V κ = qK m c κ := by
    unfold qR qK
    rw [c_eq m c V e5]
  rw [z_eq m c V e0 e1 e2 e3 e4, c_eq m c V e5] at hκ
  rw [hq, z_eq m c V e0 e1 e2 e3 e4] at hl
  refine ⟨?_, ?_, ?_⟩
  · funext y
    obtain ⟨b, o, i, j, rfl⟩ : ∃ (b : Fin 2) (o : Fin 3) (i j : Fin 512), y = ix4 b o i j := ⟨y 0, y 1, y 2, y 3, eq_ix4 y⟩
    refine (ho b o i j).trans (Eq.trans ?_ (decoded_at m ρ c hz κ hκ b o i j).symm)
    have hs : (fun b o i j => zR V b o i j + (qR V κ b o i j - zR V b o i j)) = qK m c κ := by
      funext b o i j
      rw [hq, z_eq m c V e0 e1 e2 e3 e4]
      exact straight (hz b o i j)
    rw [hs]
    exact out_eq m c V e6 e7 e8 e9 (qK m c κ) b o i j
  · funext y
    obtain ⟨b, i, j, rfl⟩ : ∃ (b : Fin 2) (i j : Fin 128), y = ix3 b i j := ⟨y 0, y 1, y 2, eq_ix3 y⟩
    refine (hp b i j).trans (Eq.trans ?_ (congrFun (puzzles_keep m ρ c) (ix3 b i j)).symm)
    exact (puzzles_at m ρ c hz κ hκ b i j).symm
  · funext y
    obtain rfl : y = ix0 := funext fun k => k.elim0
    refine hl.trans (Eq.trans ?_ (congrFun (loss_keep m ρ c) ix0).symm)
    exact (loss_at m ρ c hz κ hκ).symm

end Cert.KernelIdeal.Layer
end
-- ==== Proof.lean ====
/- The claims about the VQ-VAE kernel, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Pre
public import proofs.«01_k».proof.Proof.RefRun
public import proofs.«01_k».proof.Proof.KerRun
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.StableHlo Cert.Conv

/-- The reference leaves its arguments as they were. -/
theorem ref_args (m : (ℓ : Loc Cert.ReferenceIdeal.nD Cert.ReferenceIdeal.τ Cert.ReferenceIdeal.sig) → Buf (Elt Ideal) ℓ) (c : Dev Cert.ReferenceIdeal.nD)
    (r : Ref Cert.ReferenceIdeal.sig .tc)
    (h : r ∉ Cert.ReferenceIdeal.Windows.win0_W ∧ r ∉ Cert.ReferenceIdeal.Windows.win1_W ∧ r ∉ Cert.ReferenceIdeal.Windows.win2_W ∧ r ∉ Cert.ReferenceIdeal.Windows.win3_W ∧ r ∉ Cert.ReferenceIdeal.Windows.win4_W ∧ r ∉ Cert.ReferenceIdeal.Windows.win5_W ∧ r ∉ Cert.ReferenceIdeal.Windows.win6_W ∧ r ∉ Cert.ReferenceIdeal.Windows.win7_W ∧ r ∉ Cert.ReferenceIdeal.Windows.win8_W ∧ r ∉ Cert.ReferenceIdeal.Windows.win9_W ∧ r ∉ Cert.ReferenceIdeal.Windows.win10_W ∧ r ∉ Cert.ReferenceIdeal.Windows.win11_W ∧ r ∉ Cert.ReferenceIdeal.Windows.win12_W ∧ r ∉ Cert.ReferenceIdeal.Windows.win13_W ∧ r ∉ Cert.ReferenceIdeal.Windows.win14_W ∧ r ∉ Cert.ReferenceIdeal.Windows.win15_W ∧ r ∉ Cert.ReferenceIdeal.Windows.win16_W ∧ r ∉ Cert.ReferenceIdeal.Windows.win17_W ∧ r ∉ Cert.ReferenceIdeal.Windows.win18_W ∧ r ∉ Cert.ReferenceIdeal.Windows.win19_W) :
    Cert.ReferenceIdeal.Windows.buf20 (launchContents m c) (Proc.devRef .tc r) = m ((c.tc : Thread Cert.ReferenceIdeal.nD Cert.ReferenceIdeal.τ).loc r) :=
  Cert.ReferenceIdeal.Windows.all_keep _ r h

/-- The reference's frame. -/
theorem ref_frame : Cert.quiescent_ReferenceIdeal := fun m ρ _ =>
  (θ_run Cert.ReferenceIdeal.defs _ _).mono
    (fun r h => ⟨fun c => ⟨(h c Cert.ReferenceIdeal.main_arg0).trans (ref_args m c Cert.ReferenceIdeal.main_arg0 (by decide)),
      (h c Cert.ReferenceIdeal.main_arg1).trans (ref_args m c Cert.ReferenceIdeal.main_arg1 (by decide)),
      (h c Cert.ReferenceIdeal.main_arg2).trans (ref_args m c Cert.ReferenceIdeal.main_arg2 (by decide)),
      (h c Cert.ReferenceIdeal.main_arg3).trans (ref_args m c Cert.ReferenceIdeal.main_arg3 (by decide)),
      (h c Cert.ReferenceIdeal.main_arg4).trans (ref_args m c Cert.ReferenceIdeal.main_arg4 (by decide)),
      (h c Cert.ReferenceIdeal.main_arg5).trans (ref_args m c Cert.ReferenceIdeal.main_arg5 (by decide)),
      (h c Cert.ReferenceIdeal.main_arg6).trans (ref_args m c Cert.ReferenceIdeal.main_arg6 (by decide)),
      (h c Cert.ReferenceIdeal.main_arg7).trans (ref_args m c Cert.ReferenceIdeal.main_arg7 (by decide)),
      (h c Cert.ReferenceIdeal.main_arg8).trans (ref_args m c Cert.ReferenceIdeal.main_arg8 (by decide)),
      (h c Cert.ReferenceIdeal.main_arg9).trans (ref_args m c Cert.ReferenceIdeal.main_arg9 (by decide))⟩, sem_eq_zero_of_no_sems (by decide) r.2⟩)
    (Cert.ReferenceIdeal.Windows.run m ρ)

/-- Kernel and reference, from the same real arguments, end with equal results. -/
theorem equal : Cert.algebraic_KernelIdeal_ReferenceIdeal_pre_finite (hPre_finite := Cert.Pre_finite.sides) := by
  intro m g m' g' hpre heq
  refine ⟨fun c => Cert.KernelIdeal.Gen.W52 m g c (Proc.devRef .tc Cert.KernelIdeal.main_v151), fun c => Cert.KernelIdeal.Gen.W52 m g c (Proc.devRef .tc Cert.KernelIdeal.main_v53),
    fun c => Cert.KernelIdeal.Gen.W52 m g c (Proc.devRef .tc Cert.KernelIdeal.main_v58), ?_, ?_⟩
  · refine (θ_run Cert.KernelIdeal.defs _ _).mono (fun r h c => ?_) (Cert.KernelIdeal.Gen.run_all m g)
    exact ⟨h c _ (Cert.KernelIdeal.Gen.mem_uc Cert.KernelIdeal.main_v151 (by decide)), h c _ (Cert.KernelIdeal.Gen.mem_uc Cert.KernelIdeal.main_v53 (by decide)),
      h c _ (Cert.KernelIdeal.Gen.mem_uc Cert.KernelIdeal.main_v58 (by decide)),
      (h c _ (Cert.KernelIdeal.Gen.mem_uc Cert.KernelIdeal.main_arg0 (by decide))).trans (Cert.KernelIdeal.Gen.W52_main_arg0 m g c),
      (h c _ (Cert.KernelIdeal.Gen.mem_uc Cert.KernelIdeal.main_arg1 (by decide))).trans (Cert.KernelIdeal.Gen.W52_main_arg1 m g c),
      (h c _ (Cert.KernelIdeal.Gen.mem_uc Cert.KernelIdeal.main_arg2 (by decide))).trans (Cert.KernelIdeal.Gen.W52_main_arg2 m g c),
      (h c _ (Cert.KernelIdeal.Gen.mem_uc Cert.KernelIdeal.main_arg3 (by decide))).trans (Cert.KernelIdeal.Gen.W52_main_arg3 m g c),
      (h c _ (Cert.KernelIdeal.Gen.mem_uc Cert.KernelIdeal.main_arg4 (by decide))).trans (Cert.KernelIdeal.Gen.W52_main_arg4 m g c),
      (h c _ (Cert.KernelIdeal.Gen.mem_uc Cert.KernelIdeal.main_arg5 (by decide))).trans (Cert.KernelIdeal.Gen.W52_main_arg5 m g c),
      (h c _ (Cert.KernelIdeal.Gen.mem_uc Cert.KernelIdeal.main_arg6 (by decide))).trans (Cert.KernelIdeal.Gen.W52_main_arg6 m g c),
      (h c _ (Cert.KernelIdeal.Gen.mem_uc Cert.KernelIdeal.main_arg7 (by decide))).trans (Cert.KernelIdeal.Gen.W52_main_arg7 m g c),
      (h c _ (Cert.KernelIdeal.Gen.mem_uc Cert.KernelIdeal.main_arg8 (by decide))).trans (Cert.KernelIdeal.Gen.W52_main_arg8 m g c),
      (h c _ (Cert.KernelIdeal.Gen.mem_uc Cert.KernelIdeal.main_arg9 (by decide))).trans (Cert.KernelIdeal.Gen.W52_main_arg9 m g c)⟩
  · refine (θ_run Cert.ReferenceIdeal.defs _ _).mono (fun r h c => ?_) (Cert.ReferenceIdeal.Windows.run m' g')
    obtain ⟨e0, e1, e2, e3, e4, e5, e6, e7, e8, e9⟩ := heq c
    obtain ⟨r0, r1, r2, r3, r4⟩ := @Cert.Pre_finite.real_args Cert.Pre_finite.sides _ _ _ _ _ _ _ _ _ _ (hpre c)
    obtain ⟨a0, a1, a2⟩ := Cert.KernelIdeal.Layer.agree m g c (launchContents m' c) e0 e1 e2 e3 e4 e5 e6 e7 e8 e9 r0 r1 r2 r3 r4
    exact ⟨(h c Cert.ReferenceIdeal.main_v144).trans a0, (h c Cert.ReferenceIdeal.main_v76).trans a1, (h c Cert.ReferenceIdeal.main_v86).trans a2,
      (h c Cert.ReferenceIdeal.main_arg0).trans (ref_args m' c Cert.ReferenceIdeal.main_arg0 (by decide)),
      (h c Cert.ReferenceIdeal.main_arg1).trans (ref_args m' c Cert.ReferenceIdeal.main_arg1 (by decide)),
      (h c Cert.ReferenceIdeal.main_arg2).trans (ref_args m' c Cert.ReferenceIdeal.main_arg2 (by decide)),
      (h c Cert.ReferenceIdeal.main_arg3).trans (ref_args m' c Cert.ReferenceIdeal.main_arg3 (by decide)),
      (h c Cert.ReferenceIdeal.main_arg4).trans (ref_args m' c Cert.ReferenceIdeal.main_arg4 (by decide)),
      (h c Cert.ReferenceIdeal.main_arg5).trans (ref_args m' c Cert.ReferenceIdeal.main_arg5 (by decide)),
      (h c Cert.ReferenceIdeal.main_arg6).trans (ref_args m' c Cert.ReferenceIdeal.main_arg6 (by decide)),
      (h c Cert.ReferenceIdeal.main_arg7).trans (ref_args m' c Cert.ReferenceIdeal.main_arg7 (by decide)),
      (h c Cert.ReferenceIdeal.main_arg8).trans (ref_args m' c Cert.ReferenceIdeal.main_arg8 (by decide)),
      (h c Cert.ReferenceIdeal.main_arg9).trans (ref_args m' c Cert.ReferenceIdeal.main_arg9 (by decide))⟩

theorem claim : Cert.Claim := ⟨Cert.Kernel.Gen.facts, Cert.KernelIdeal.Gen.facts, Cert.ReferenceIdeal.Gen.facts, Cert.Pre_finite.sides,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial, trivial, equal⟩

end Cert.Proof

end
